-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_2)) (v3 : (c : Dev Cert.Kernel3Ideal.nD) → Buf (Elt Ideal) ((c.tc : Thread Cert.Kernel3Ideal.nD Cert.Kernel3Ideal.τ).loc Cert.Kernel3Ideal.main_v38_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_v38_2) = v2 c
          ∧ r.2.mem ((c.tc : Thread Cert.Kernel3Ideal.nD Cert.Kernel3Ideal.τ).loc Cert.Kernel3Ideal.main_v38_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v115) = v0 c
          ∧ r.2.mem ((c.tc : Thread Cert.Reference3Ideal.nD Cert.Reference3Ideal.τ).loc Cert.Reference3Ideal.main_v118) = v1 c
          ∧ r.2.mem ((c.tc : Thread Cert.Reference3Ideal.nD Cert.Reference3Ideal.τ).loc Cert.Reference3Ideal.main_v119) = v2 c
          ∧ r.2.mem ((c.tc : Thread Cert.Reference3Ideal.nD Cert.Reference3Ideal.τ).loc Cert.Reference3Ideal.main_v120) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qk.lean ====
abbrev S4x4096x512 : Shape := ⟨3, ![4, 4096, 512]⟩
abbrev S4x128x4096 : Shape := ⟨3, ![4, 128, 4096]⟩
abbrev S4x4096x128 : Shape := ⟨3, ![4, 4096, 128]⟩
abbrev S1x512 : Shape := ⟨2, ![1, 512]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  bcast_S_S4x128x4096 : S_.BroadcastsInDim S4x128x4096 (![] : Fin 0 → Fin S4x128x4096.rank)

variable [Facts]

def fn {F : FTy → Type} [FloatOps F] (main_arg0 : FVec F S4x4096x512 .bf16) (main_arg1 : FVec F S4x128x4096 .bf16) (main_arg2 : FVec F S4x4096x128 .bf16) (main_arg3 : FVec F S1x512 .f32) : IVec S4x4096x512 1 × IVec S4x128x4096 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_v4 : FVec F S4x128x4096 .f32 := (extf .f32 · bitsLt_bf16_f32) main_arg1
  let main_v5 : FVec F S4x128x4096 .f32 := Host.absf main_v4
  let main_cst_0 : FVec F S_ .f32 := constant S_ .f32 0x7F800000#32
  let main_v6 : FVec F S4x128x4096 .f32 := broadcastInDim S4x128x4096 ![] bcast_S_S4x128x4096 main_cst_0
  let main_v7 : IVec S4x128x4096 1 := cmpf .olt main_v5 main_v6
  (main_v3, main_v7)
-- ==== Kernel.lean ====
abbrev S4x4096x512 : Shape := ⟨3, ![4, 4096, 512]⟩
abbrev S4x128x4096 : Shape := ⟨3, ![4, 128, 4096]⟩
abbrev S4x4096x128 : Shape := ⟨3, ![4, 4096, 128]⟩
abbrev S1x512 : Shape := ⟨2, ![1, 512]⟩
abbrev S1x256x512 : Shape := ⟨3, ![1, 256, 512]⟩
abbrev S1x128x4096 : Shape := ⟨3, ![1, 128, 4096]⟩
abbrev S1x4096x128 : Shape := ⟨3, ![1, 4096, 128]⟩
abbrev S2x4096x128 : Shape := ⟨3, ![2, 4096, 128]⟩
abbrev S256x512 : Shape := ⟨2, ![256, 512]⟩
abbrev S1x128 : Shape := ⟨2, ![1, 128]⟩
abbrev S4096x128 : Shape := ⟨2, ![4096, 128]⟩
abbrev S1x256x128 : Shape := ⟨3, ![1, 256, 128]⟩
abbrev S256x128 : Shape := ⟨2, ![256, 128]⟩
abbrev S256x64 : Shape := ⟨2, ![256, 64]⟩
abbrev S256x1 : Shape := ⟨2, ![256, 1]⟩
abbrev S1x64x512 : Shape := ⟨3, ![1, 64, 512]⟩
abbrev S64x512 : Shape := ⟨2, ![64, 512]⟩
abbrev S256 : Shape := ⟨1, ![256]⟩
abbrev S1x512x128 : Shape := ⟨3, ![1, 512, 128]⟩
abbrev S512x128 : Shape := ⟨2, ![512, 128]⟩

abbrev nBuf : Space → Nat
  | .hbm => 5
  | .vmem => 12
  | .smem => 0
  | _ => 0

abbrev bufTy : (tb : Table) → Fin (tcTables nBuf tb) → BufTy
  | .hbm, ⟨0, _⟩ => ⟨S4x4096x512, .bf16⟩
  | .hbm, ⟨1, _⟩ => ⟨S4x128x4096, .bf16⟩
  | .hbm, ⟨2, _⟩ => ⟨S4x4096x128, .bf16⟩
  | .hbm, ⟨3, _⟩ => ⟨S1x512, .f32⟩
  | .hbm, ⟨4, _⟩ => ⟨S4x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512, .f32⟩
  | .local _ .vmem, ⟨7, _⟩ => ⟨S1x256x512, .bf16⟩
  | .local _ .vmem, ⟨8, _⟩ => ⟨S1x256x512, .bf16⟩
  | .local _ .vmem, ⟨9, _⟩ => ⟨S2x4096x128, .bf16⟩
  | .local _ .vmem, ⟨10, _⟩ => ⟨S2x4096x128, .bf16⟩
  | .local _ .vmem, ⟨11, _⟩ => ⟨S256x512, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_5 : BitVec 32 := 0#32
  let c8_i32 : BitVec 32 := 8#32
  let v13 : BitVec 32 := Scalar.addi c0_i32_5 c8_i32
  let c1_i32 : BitVec 32 := 1#32
  ⟨c0_i32_5, v13, c1_i32⟩
def k0_mult1 (k0_t1 : Fin k0_t1_loop.trips) : BitVec 32 :=
  let c0_i32_5 : BitVec 32 := 0#32
  let c1_i32 : BitVec 32 := 1#32
  let arg10 : BitVec 32 := Scf.iv c0_i32_5 c1_i32 k0_t1
  let c512_i32 : BitVec 32 := 512#32
  let v104 : BitVec 32 := Scalar.muli arg10 c512_i32
  v104
def k0_off1 (k0_t1 : Fin k0_t1_loop.trips) : Fin 3 → Nat :=
  let c0_52 : Index := 0#32
  let c0_53 : Index := 0#32
  let c0_i32_5 : BitVec 32 := 0#32
  let c1_i32 : BitVec 32 := 1#32
  let arg10 : BitVec 32 := Scf.iv c0_i32_5 c1_i32 k0_t1
  let c512_i32 : BitVec 32 := 512#32
  let v104 : BitVec 32 := Scalar.muli arg10 c512_i32
  let v105 : BitVec 32 := v104
  let v106 : Index := Scalar.indexCast v105
  ![0, 0, v106.toNat]
def k0_off2 (k0_t1 : Fin k0_t1_loop.trips) : Fin 3 → Nat :=
  let c0_60 : Index := 0#32
  let c0_i32_5 : BitVec 32 := 0#32
  let c1_i32 : BitVec 32 := 1#32
  let arg10 : BitVec 32 := Scf.iv c0_i32_5 c1_i32 k0_t1
  let c512_i32 : BitVec 32 := 512#32
  let v104 : BitVec 32 := Scalar.muli arg10 c512_i32
  let v105 : BitVec 32 := v104
  let v137 : Index := Scalar.indexCast v105
  let c0_61 : Index := 0#32
  ![0, v137.toNat, 0]
@[reducible] def k0_t2_loop : Scf.Loop 32 :=
  let c0_i32_14 : BitVec 32 := 0#32
  let c8_i32_15 : BitVec 32 := 8#32
  let v33 : BitVec 32 := Scalar.addi c0_i32_14 c8_i32_15
  let c1_i32_16 : BitVec 32 := 1#32
  ⟨c0_i32_14, v33, c1_i32_16⟩
def k0_mult2 (k0_t2 : Fin k0_t2_loop.trips) : BitVec 32 :=
  let c0_i32_14 : BitVec 32 := 0#32
  let c1_i32_16 : BitVec 32 := 1#32
  let arg10 : BitVec 32 := Scf.iv c0_i32_14 c1_i32_16 k0_t2
  let c512_i32 : BitVec 32 := 512#32
  let v104 : BitVec 32 := Scalar.muli arg10 c512_i32
  v104
def k0_off3 (k0_t2 : Fin k0_t2_loop.trips) : Fin 3 → Nat :=
  let c0_52 : Index := 0#32
  let c0_53 : Index := 0#32
  let c0_i32_14 : BitVec 32 := 0#32
  let c1_i32_16 : BitVec 32 := 1#32
  let arg10 : BitVec 32 := Scf.iv c0_i32_14 c1_i32_16 k0_t2
  let c512_i32 : BitVec 32 := 512#32
  let v104 : BitVec 32 := Scalar.muli arg10 c512_i32
  let v105 : BitVec 32 := v104
  let v106 : Index := Scalar.indexCast v105
  ![0, 0, v106.toNat]
def k0_off4 (k0_t2 : Fin k0_t2_loop.trips) : Fin 3 → Nat :=
  let c0_60 : Index := 0#32
  let c0_i32_14 : BitVec 32 := 0#32
  let c1_i32_16 : BitVec 32 := 1#32
  let arg10 : BitVec 32 := Scf.iv c0_i32_14 c1_i32_16 k0_t2
  let c512_i32 : BitVec 32 := 512#32
  let v104 : BitVec 32 := Scalar.muli arg10 c512_i32
  let v105 : BitVec 32 := v104
  let v137 : Index := Scalar.indexCast v105
  let c0_61 : Index := 0#32
  ![0, v137.toNat, 0]
@[reducible] def k0_t3_loop : Scf.Loop 32 :=
  let c0_i32_25 : BitVec 32 := 0#32
  let c8_i32_26 : BitVec 32 := 8#32
  let v53 : BitVec 32 := Scalar.addi c0_i32_25 c8_i32_26
  let c1_i32_27 : BitVec 32 := 1#32
  ⟨c0_i32_25, v53, c1_i32_27⟩
def k0_mult3 (k0_t3 : Fin k0_t3_loop.trips) : BitVec 32 :=
  let c0_i32_25 : BitVec 32 := 0#32
  let c1_i32_27 : BitVec 32 := 1#32
  let arg10 : BitVec 32 := Scf.iv c0_i32_25 c1_i32_27 k0_t3
  let c512_i32 : BitVec 32 := 512#32
  let v104 : BitVec 32 := Scalar.muli arg10 c512_i32
  v104
def k0_off5 (k0_t3 : Fin k0_t3_loop.trips) : Fin 3 → Nat :=
  let c0_52 : Index := 0#32
  let c64 : Index := 64#32
  let c0_i32_25 : BitVec 32 := 0#32
  let c1_i32_27 : BitVec 32 := 1#32
  let arg10 : BitVec 32 := Scf.iv c0_i32_25 c1_i32_27 k0_t3
  let c512_i32 : BitVec 32 := 512#32
  let v104 : BitVec 32 := Scalar.muli arg10 c512_i32
  let v105 : BitVec 32 := v104
  let v106 : Index := Scalar.indexCast v105
  ![0, 64, v106.toNat]
def k0_off6 (k0_t3 : Fin k0_t3_loop.trips) : Fin 3 → Nat :=
  let c1 : Index := 1#32
  let c0_i32_25 : BitVec 32 := 0#32
  let c1_i32_27 : BitVec 32 := 1#32
  let arg10 : BitVec 32 := Scf.iv c0_i32_25 c1_i32_27 k0_t3
  let c512_i32 : BitVec 32 := 512#32
  let v104 : BitVec 32 := Scalar.muli arg10 c512_i32
  let v105 : BitVec 32 := v104
  let v137 : Index := Scalar.indexCast v105
  let c0_59 : Index := 0#32
  ![1, v137.toNat, 0]
@[reducible] def k0_t4_loop : Scf.Loop 32 :=
  let c0_i32_36 : BitVec 32 := 0#32
  let c8_i32_37 : BitVec 32 := 8#32
  let v73 : BitVec 32 := Scalar.addi c0_i32_36 c8_i32_37
  let c1_i32_38 : BitVec 32 := 1#32
  ⟨c0_i32_36, v73, c1_i32_38⟩
def k0_mult4 (k0_t4 : Fin k0_t4_loop.trips) : BitVec 32 :=
  let c0_i32_36 : BitVec 32 := 0#32
  let c1_i32_38 : BitVec 32 := 1#32
  let arg10 : BitVec 32 := Scf.iv c0_i32_36 c1_i32_38 k0_t4
  let c512_i32 : BitVec 32 := 512#32
  let v104 : BitVec 32 := Scalar.muli arg10 c512_i32
  v104
def k0_off7 (k0_t4 : Fin k0_t4_loop.trips) : Fin 3 → Nat :=
  let c0_52 : Index := 0#32
  let c64 : Index := 64#32
  let c0_i32_36 : BitVec 32 := 0#32
  let c1_i32_38 : BitVec 32 := 1#32
  let arg10 : BitVec 32 := Scf.iv c0_i32_36 c1_i32_38 k0_t4
  let c512_i32 : BitVec 32 := 512#32
  let v104 : BitVec 32 := Scalar.muli arg10 c512_i32
  let v105 : BitVec 32 := v104
  let v106 : Index := Scalar.indexCast v105
  ![0, 64, v106.toNat]
def k0_off8 (k0_t4 : Fin k0_t4_loop.trips) : Fin 3 → Nat :=
  let c1 : Index := 1#32
  let c0_i32_36 : BitVec 32 := 0#32
  let c1_i32_38 : BitVec 32 := 1#32
  let arg10 : BitVec 32 := Scf.iv c0_i32_36 c1_i32_38 k0_t4
  let c512_i32 : BitVec 32 := 512#32
  let v104 : BitVec 32 := Scalar.muli arg10 c512_i32
  let v105 : BitVec 32 := v104
  let v137 : Index := Scalar.indexCast v105
  let c0_59 : Index := 0#32
  ![1, v137.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4096x512 : Shape := ⟨3, ![4, 4096, 512]⟩
abbrev S4x128x4096 : Shape := ⟨3, ![4, 128, 4096]⟩
abbrev S4x4096x128 : Shape := ⟨3, ![4, 4096, 128]⟩
abbrev S1x512 : Shape := ⟨2, ![1, 512]⟩
abbrev S4x4096x2x4x64 : Shape := ⟨5, ![4, 4096, 2, 4, 64]⟩
abbrev S4x2x64x4096 : Shape := ⟨4, ![4, 2, 64, 4096]⟩
abbrev S4x4096x2x64 : Shape := ⟨4, ![4, 4096, 2, 64]⟩
abbrev S4x2x4096x4096x4 : Shape := ⟨5, ![4, 2, 4096, 4096, 4]⟩
abbrev S4x2x4x4096x4096 : Shape := ⟨5, ![4, 2, 4, 4096, 4096]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S4x4096 : Shape := ⟨2, ![4, 4096]⟩
abbrev S4x4096x1 : Shape := ⟨3, ![4, 4096, 1]⟩
abbrev S1x1x512 : Shape := ⟨3, ![1, 1, 512]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x128x4096, .bf16⟩
  | .hbm, ⟨2, _⟩ => ⟨S4x4096x128, .bf16⟩
  | .hbm, ⟨3, _⟩ => ⟨S1x512, .f32⟩
  | .hbm, ⟨4, _⟩ => ⟨S4x4096x512, .f32⟩
  | .hbm, ⟨5, _⟩ => ⟨S4x4096x2x4x64, .f32⟩
  | .hbm, ⟨6, _⟩ => ⟨S4x128x4096, .f32⟩
  | .hbm, ⟨7, _⟩ => ⟨S4x2x64x4096, .f32⟩
  | .hbm, ⟨8, _⟩ => ⟨S4x4096x128, .f32⟩
  | .hbm, ⟨9, _⟩ => ⟨S4x4096x2x64, .f32⟩
  | .hbm, ⟨10, _⟩ => ⟨S4x2x4096x4096x4, .f32⟩
  | .hbm, ⟨11, _⟩ => ⟨S4x2x4x4096x4096, .f32⟩
  | .hbm, ⟨12, _⟩ => ⟨S_, .f32⟩
  | .hbm, ⟨13, _⟩ => ⟨S4x2x4x4096, .f32⟩
  | .hbm, ⟨14, _⟩ => ⟨S_, .f32⟩
  | .hbm, ⟨15, _⟩ => ⟨S4x2x4x4096, .f32⟩
  | .hbm, ⟨16, _⟩ => ⟨S4x2x4x4096, .f32⟩
  | .hbm, ⟨17, _⟩ => ⟨S4x2x4x4096x1, .f32⟩
  | .hbm, ⟨18, _⟩ => ⟨S4x2x4x4096x4096, .f32⟩
  | .hbm, ⟨19, _⟩ => ⟨S4x2x4x4096x4096, .f32⟩
  | .hbm, ⟨20, _⟩ => ⟨S4x2x4x4096x4096, .f32⟩
  | .hbm, ⟨21, _⟩ => ⟨S_, .f32⟩
  | .hbm, ⟨22, _⟩ => ⟨S4x2x4x4096, .f32⟩
  | .hbm, ⟨23, _⟩ => ⟨S4x2x4x4096x1, .f32⟩
  | .hbm, ⟨24, _⟩ => ⟨S4x2x4x4096x4096, .f32⟩
  | .hbm, ⟨25, _⟩ => ⟨S4x2x4x4096x4096, .f32⟩
  | .hbm, ⟨26, _⟩ => ⟨S4x2x64x4x4096, .f32⟩
  | .hbm, ⟨27, _⟩ => ⟨S4x4096x2x4x64, .f32⟩
  | .hbm, ⟨28, _⟩ => ⟨S4x4096x512, .f32⟩
  | .hbm, ⟨29, _⟩ => ⟨S4x4096x512, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x512, .f32⟩
  | .hbm, ⟨41, _⟩ => ⟨S4x4096x512, .f32⟩
  | .hbm, ⟨42, _⟩ => ⟨S1x1x512, .f32⟩
  | .hbm, ⟨43, _⟩ => ⟨S4x4096x512, .f32⟩
  | .hbm, ⟨44, _⟩ => ⟨S4x4096x512, .f32⟩
  | .hbm, ⟨45, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S256x1024 : Shape := ⟨2, ![256, 1024]⟩
abbrev S1x1024 : Shape := ⟨2, ![1, 1024]⟩
abbrev S1024x2x11x256 : Shape := ⟨4, ![1024, 2, 11, 256]⟩
abbrev S2x11x1024x256 : Shape := ⟨4, ![2, 11, 1024, 256]⟩
abbrev S3x2x11x256 : Shape := ⟨4, ![3, 2, 11, 256]⟩
abbrev S2x11x3x256 : Shape := ⟨4, ![2, 11, 3, 256]⟩
abbrev S11x256x1024 : Shape := ⟨3, ![11, 256, 1024]⟩
abbrev S1x512x1024 : Shape := ⟨3, ![1, 512, 1024]⟩
abbrev S1x8x1024 : Shape := ⟨3, ![1, 8, 1024]⟩
abbrev S1x512x512 : Shape := ⟨3, ![1, 512, 512]⟩
abbrev S1x16x512 : Shape := ⟨3, ![1, 16, 512]⟩
abbrev S1x512x256 : Shape := ⟨3, ![1, 512, 256]⟩
abbrev S512x1024 : Shape := ⟨2, ![512, 1024]⟩
abbrev S528x1024 : Shape := ⟨2, ![528, 1024]⟩
abbrev S528x256 : Shape := ⟨2, ![528, 256]⟩
abbrev S16x512 : Shape := ⟨2, ![16, 512]⟩
abbrev S8x512 : Shape := ⟨2, ![8, 512]⟩
abbrev S512x512 : Shape := ⟨2, ![512, 512]⟩
abbrev S528x512 : Shape := ⟨2, ![528, 512]⟩
abbrev S8x1024 : Shape := ⟨2, ![8, 1024]⟩
abbrev S528x1 : Shape := ⟨2, ![528, 1]⟩
abbrev S528 : Shape := ⟨1, ![528]⟩
abbrev S1x1x1024x256 : Shape := ⟨4, ![1, 1, 1024, 256]⟩
abbrev S1024x256 : Shape := ⟨2, ![1024, 256]⟩
abbrev S1x1x3x256 : Shape := ⟨4, ![1, 1, 3, 256]⟩
abbrev S3x256 : Shape := ⟨2, ![3, 256]⟩
abbrev S512x256 : Shape := ⟨2, ![512, 256]⟩
abbrev S1x256 : Shape := ⟨2, ![1, 256]⟩
abbrev S1x256x1024 : Shape := ⟨3, ![1, 256, 1024]⟩

abbrev nBuf : Space → Nat
  | .hbm => 23
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S1024x1024, .f32⟩
  | .hbm, ⟨10, _⟩ => ⟨S256x1024, .f32⟩
  | .hbm, ⟨11, _⟩ => ⟨S1024x1024, .bf16⟩
  | .hbm, ⟨12, _⟩ => ⟨S1x1024, .f32⟩
  | .hbm, ⟨13, _⟩ => ⟨S1024x2x11x256, .f32⟩
  | .hbm, ⟨14, _⟩ => ⟨S2x11x1024x256, .f32⟩
  | .hbm, ⟨15, _⟩ => ⟨S2x11x1024x256, .bf16⟩
  | .hbm, ⟨16, _⟩ => ⟨S3x2x11x256, .f32⟩
  | .hbm, ⟨17, _⟩ => ⟨S2x11x3x256, .f32⟩
  | .hbm, ⟨18, _⟩ => ⟨S2816x1024, .bf16⟩
  | .hbm, ⟨19, _⟩ => ⟨S11x256x1024, .bf16⟩
  | .hbm, ⟨20, _⟩ => ⟨S1024x1024, .bf16⟩
  | .hbm, ⟨21, _⟩ => ⟨S256x1024, .bf16⟩
  | .hbm, ⟨22, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x16x512, .bf16⟩
  | .local _ .vmem, ⟨15, _⟩ => ⟨S1x16x512, .bf16⟩
  | .local _ .vmem, ⟨16, _⟩ => ⟨S1x16x512, .bf16⟩
  | .local _ .vmem, ⟨17, _⟩ => ⟨S1x16x512, .bf16⟩
  | .local _ .vmem, ⟨18, _⟩ => ⟨S1x512x256, .f32⟩
  | .local _ .vmem, ⟨19, _⟩ => ⟨S1x512x256, .f32⟩
  | .local _ .vmem, ⟨20, _⟩ => ⟨S1024x1024, .bf16⟩
  | .local _ .vmem, ⟨21, _⟩ => ⟨S1x1024, .f32⟩
  | .local _ .vmem, ⟨22, _⟩ => ⟨S2x11x1024x256, .bf16⟩
  | .local _ .vmem, ⟨23, _⟩ => ⟨S2x11x3x256, .f32⟩
  | .local _ .vmem, ⟨24, _⟩ => ⟨S11x256x1024, .bf16⟩
  | .local _ .vmem, ⟨25, _⟩ => ⟨S1024x1024, .bf16⟩
  | .local _ .vmem, ⟨26, _⟩ => ⟨S256x1024, .bf16⟩
  | .local _ .vmem, ⟨27, _⟩ => ⟨S1x512x1024, .f32⟩
  | .local _ .vmem, ⟨28, _⟩ => ⟨S1x512x1024, .f32⟩
  | .local _ .vmem, ⟨29, _⟩ => ⟨S512x1024, .f32⟩
  | .local _ .vmem, ⟨30, _⟩ => ⟨S528x1024, .bf16⟩
  | .local _ .vmem, ⟨31, _⟩ => ⟨S528x256, .f32⟩
  | .local _ .vmem, ⟨32, _⟩ => ⟨S528x256, .f32⟩
  | .local _ .vmem, ⟨33, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_44 : BitVec 32 := 0#32
  let c11_i32 : BitVec 32 := 11#32
  let v84 : BitVec 32 := Scalar.addi c0_i32_44 c11_i32
  let c1_i32 : BitVec 32 := 1#32
  ⟨c0_i32_44, v84, c1_i32⟩
def k0_off1 (k0_t1 : Fin k0_t1_loop.trips) : Fin 4 → Nat :=
  let c0_64 : Index := 0#32
  let c0_i32_44 : BitVec 32 := 0#32
  let c1_i32 : BitVec 32 := 1#32
  let arg25 : BitVec 32 := Scf.iv c0_i32_44 c1_i32 k0_t1
  let v105 : Index := Scalar.indexCast arg25
  let c0_65 : Index := 0#32
  let c0_66 : Index := 0#32
  ![0, v105.toNat, 0, 0]
def k0_off2 (k0_t1 : Fin k0_t1_loop.trips) : Fin 4 → Nat :=
  let c1 : Index := 1#32
  let c0_i32_44 : BitVec 32 := 0#32
  let c1_i32 : BitVec 32 := 1#32
  let arg25 : BitVec 32 := Scf.iv c0_i32_44 c1_i32 k0_t1
  let v112 : Index := Scalar.indexCast arg25
  let c0_70 : Index := 0#32
  let c0_71 : Index := 0#32
  ![1, v112.toNat, 0, 0]
def k0_off3 (k0_t1 : Fin k0_t1_loop.trips) : Fin 4 → Nat :=
  let c0_75 : Index := 0#32
  let c0_i32_44 : BitVec 32 := 0#32
  let c1_i32 : BitVec 32 := 1#32
  let arg25 : BitVec 32 := Scf.iv c0_i32_44 c1_i32 k0_t1
  let v119 : Index := Scalar.indexCast arg25
  let c0_76 : Index := 0#32
  let c0_77 : Index := 0#32
  ![0, v119.toNat, 0, 0]
def k0_off4 (k0_t1 : Fin k0_t1_loop.trips) : Fin 4 → Nat :=
  let c1_81 : Index := 1#32
  let c0_i32_44 : BitVec 32 := 0#32
  let c1_i32 : BitVec 32 := 1#32
  let arg25 : BitVec 32 := Scf.iv c0_i32_44 c1_i32 k0_t1
  let v136 : Index := Scalar.indexCast arg25
  let c0_82 : Index := 0#32
  let c0_83 : Index := 0#32
  ![1, v136.toNat, 0, 0]
def k0_off5 (k0_t1 : Fin k0_t1_loop.trips) : Fin 3 → Nat :=
  let c0_i32_44 : BitVec 32 := 0#32
  let c1_i32 : BitVec 32 := 1#32
  let arg25 : BitVec 32 := Scf.iv c0_i32_44 c1_i32 k0_t1
  let v158 : Index := Scalar.indexCast arg25
  let c0_92 : Index := 0#32
  let c0_93 : Index := 0#32
  ![v158.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x11x1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x11x3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S11x256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S256x1024 : Shape := ⟨2, ![256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S1024x1024, .f32⟩
  | .hbm, ⟨10, _⟩ => ⟨S256x1024, .f32⟩
  | .hbm, ⟨11, _⟩ => ⟨S4x4096x512, .f32⟩
  | .hbm, ⟨12, _⟩ => ⟨S4x4096x512, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S4x4096x5632, .f32⟩
  | .hbm, ⟨33, _⟩ => ⟨S_, .i32⟩
  | .hbm, ⟨34, _⟩ => ⟨S_, .f32⟩
  | .hbm, ⟨35, _⟩ => ⟨S4x4098x5632, .f32⟩
  | .hbm, ⟨36, _⟩ => ⟨S4x4096x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S4x4096x5632, .f32⟩
  | .hbm, ⟨54, _⟩ => ⟨S4x4096x5632, .f32⟩
  | .hbm, ⟨55, _⟩ => ⟨S4x4096x5632, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S_, .f32⟩
  | .hbm, ⟨64, _⟩ => ⟨S4x4096x2816, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | .hbm, ⟨81, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_2 : Ref sig .tc := ⟨.hbm, 73, rfl⟩
abbrev main_v49 : Ref sig .tc := ⟨.hbm, 74, rfl⟩
abbrev main_v50 : Ref sig .tc := ⟨.hbm, 75, rfl⟩
abbrev main_cst_3 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x2304 : Shape := ⟨2, ![1024, 2304]⟩
abbrev S64 : Shape := ⟨1, ![64]⟩
abbrev S3x512 : Shape := ⟨2, ![3, 512]⟩
abbrev S512 : Shape := ⟨1, ![512]⟩
abbrev S4096x64 : Shape := ⟨2, ![4096, 64]⟩
abbrev S_ : Shape := ⟨0, ![]⟩
abbrev S1x1024 : Shape := ⟨2, ![1, 1024]⟩
abbrev S1x64 : Shape := ⟨2, ![1, 64]⟩
abbrev S8x64 : Shape := ⟨2, ![8, 64]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S512x1 : Shape := ⟨2, ![512, 1]⟩
abbrev S512x512 : Shape := ⟨2, ![512, 512]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4x4096x512 : Shape := ⟨3, ![4, 4096, 512]⟩
abbrev S4x128x4096 : Shape := ⟨3, ![4, 128, 4096]⟩
abbrev S4x4096x128 : Shape := ⟨3, ![4, 4096, 128]⟩
abbrev S1x512x1024 : Shape := ⟨3, ![1, 512, 1024]⟩
abbrev S1x8x1024 : Shape := ⟨3, ![1, 8, 1024]⟩
abbrev S512x128 : Shape := ⟨2, ![512, 128]⟩
abbrev S1x512x512 : Shape := ⟨3, ![1, 512, 512]⟩
abbrev S1x128x512 : Shape := ⟨3, ![1, 128, 512]⟩
abbrev S1x512x128 : Shape := ⟨3, ![1, 512, 128]⟩
abbrev S528x512 : Shape := ⟨2, ![528, 512]⟩
abbrev S8x1024 : Shape := ⟨2, ![8, 1024]⟩
abbrev S512x1024 : Shape := ⟨2, ![512, 1024]⟩
abbrev S528x1024 : Shape := ⟨2, ![528, 1024]⟩
abbrev S528 : Shape := ⟨1, ![528]⟩
abbrev S528x1 : Shape := ⟨2, ![528, 1]⟩
abbrev S1024x512 : Shape := ⟨2, ![1024, 512]⟩
abbrev S1024x256 : Shape := ⟨2, ![1024, 256]⟩
abbrev S528x256 : Shape := ⟨2, ![528, 256]⟩
abbrev S512x256 : Shape := ⟨2, ![512, 256]⟩
abbrev S128x128 : Shape := ⟨2, ![128, 128]⟩
abbrev S128x512 : Shape := ⟨2, ![128, 512]⟩

abbrev nBuf : Space → Nat
  | .hbm => 103
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2304, .f32⟩
  | .hbm, ⟨3, _⟩ => ⟨S64, .f32⟩
  | .hbm, ⟨4, _⟩ => ⟨S64, .f32⟩
  | .hbm, ⟨5, _⟩ => ⟨S3x512, .f32⟩
  | .hbm, ⟨6, _⟩ => ⟨S512, .f32⟩
  | .hbm, ⟨7, _⟩ => ⟨S4096x64, .f32⟩
  | .hbm, ⟨8, _⟩ => ⟨S4096x64, .f32⟩
  | .hbm, ⟨9, _⟩ => ⟨S512, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S1x1024, .f32⟩
  | .hbm, ⟨29, _⟩ => ⟨S1024x2304, .bf16⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S8x64, .f32⟩
  | .hbm, ⟨35, _⟩ => ⟨S512, .f32⟩
  | .hbm, ⟨36, _⟩ => ⟨S1x512, .f32⟩
  | .hbm, ⟨37, _⟩ => ⟨S1x64, .f32⟩
  | .hbm, ⟨38, _⟩ => ⟨S2x64, .f32⟩
  | .hbm, ⟨39, _⟩ => ⟨S128, .f32⟩
  | .hbm, ⟨40, _⟩ => ⟨S1x128, .f32⟩
  | .hbm, ⟨41, _⟩ => ⟨S512x1, .i32⟩
  | .hbm, ⟨42, _⟩ => ⟨S1x512, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S_, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .bf16⟩
  | .hbm, ⟨52, _⟩ => ⟨S1x512, .f32⟩
  | .hbm, ⟨53, _⟩ => ⟨S64, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S64, .i32⟩
  | .hbm, ⟨61, _⟩ => ⟨S64, .i32⟩
  | .hbm, ⟨62, _⟩ => ⟨S_, .i32⟩
  | .hbm, ⟨63, _⟩ => ⟨S64, .i32⟩
  | .hbm, ⟨64, _⟩ => ⟨S64, .i1⟩
  | .hbm, ⟨65, _⟩ => ⟨S_, .i32⟩
  | .hbm, ⟨66, _⟩ => ⟨S64, .i32⟩
  | .hbm, ⟨67, _⟩ => ⟨S64, .i1⟩
  | .hbm, ⟨68, _⟩ => ⟨S_, .i32⟩
  | .hbm, ⟨69, _⟩ => ⟨S_, .i1⟩
  | .hbm, ⟨70, _⟩ => ⟨S64, .i1⟩
  | .hbm, ⟨71, _⟩ => ⟨S64, .i1⟩
  | .hbm, ⟨72, _⟩ => ⟨S64, .i1⟩
  | .hbm, ⟨73, _⟩ => ⟨S64, .i32⟩
  | .hbm, ⟨74, _⟩ => ⟨S64, .i32⟩
  | .hbm, ⟨75, _⟩ => ⟨S64, .i32⟩
  | .hbm, ⟨76, _⟩ => ⟨S_, .i32⟩
  | .hbm, ⟨77, _⟩ => ⟨S64, .i32⟩
  | .hbm, ⟨78, _⟩ => ⟨S64, .i1⟩
  | .hbm, ⟨79, _⟩ => ⟨S4096x64, .f32⟩
  | .hbm, ⟨80, _⟩ => ⟨S_, .f32⟩
  | .hbm, ⟨81, _⟩ => ⟨S_, .f32⟩
  | .hbm, ⟨82, _⟩ => ⟨S4096x64, .i1⟩
  | .hbm, ⟨83, _⟩ => ⟨S4096x64, .f32⟩
  | .hbm, ⟨84, _⟩ => ⟨S4096x64, .f32⟩
  | .hbm, ⟨85, _⟩ => ⟨S_, .f32⟩
  | .hbm, ⟨86, _⟩ => ⟨S_, .f32⟩
  | .hbm, ⟨87, _⟩ => ⟨S4096x64, .i1⟩
  | .hbm, ⟨88, _⟩ => ⟨S4096x64, .f32⟩
  | .hbm, ⟨89, _⟩ => ⟨S4096x64, .f32⟩
  | .hbm, ⟨90, _⟩ => ⟨S1x4096x1x64, .f32⟩
  | .hbm, ⟨91, _⟩ => ⟨S1x4096x2x64, .f32⟩
  | .hbm, ⟨92, _⟩ => ⟨S4096x128, .f32⟩
  | .hbm, ⟨93, _⟩ => ⟨S1x4096x1x64, .f32⟩
  | .hbm, ⟨94, _⟩ => ⟨S1x4096x2x64, .f32⟩
  | .hbm, ⟨95, _⟩ => ⟨S4096x128, .f32⟩
  | .hbm, ⟨96, _⟩ => ⟨S1x4096x1x64, .f32⟩
  | .hbm, ⟨97, _⟩ => ⟨S1x4096x2x64, .f32⟩
  | .hbm, ⟨98, _⟩ => ⟨S4096x128, .f32⟩
  | .hbm, ⟨99, _⟩ => ⟨S4x4096x512, .bf16⟩
  | .hbm, ⟨100, _⟩ => ⟨S4x128x4096, .bf16⟩
  | .hbm, ⟨101, _⟩ => ⟨S4x4096x128, .bf16⟩
  | .hbm, ⟨102, _⟩ => ⟨S4x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x2304, .bf16⟩
  | .local _ .vmem, ⟨8, _⟩ => ⟨S1x512, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S3x512, .f32⟩
  | .local _ .vmem, ⟨18, _⟩ => ⟨S1x512, .f32⟩
  | .local _ .vmem, ⟨19, _⟩ => ⟨S1x512x512, .bf16⟩
  | .local _ .vmem, ⟨20, _⟩ => ⟨S1x512x512, .bf16⟩
  | .local _ .vmem, ⟨21, _⟩ => ⟨S1x128x512, .bf16⟩
  | .local _ .vmem, ⟨22, _⟩ => ⟨S1x128x512, .bf16⟩
  | .local _ .vmem, ⟨23, _⟩ => ⟨S1x512x128, .bf16⟩
  | .local _ .vmem, ⟨24, _⟩ => ⟨S1x512x128, .bf16⟩
  | .local _ .vmem, ⟨25, _⟩ => ⟨S1x512x512, .bf16⟩
  | .local _ .vmem, ⟨26, _⟩ => ⟨S1x512x512, .bf16⟩
  | .local _ .vmem, ⟨27, _⟩ => ⟨S528x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_0 : Ref sig .tc := ⟨.hbm, 46, rfl⟩
abbrev main_cst_1 : Ref sig .tc := ⟨.hbm, 47, rfl⟩
abbrev main_call1_v0 : Ref sig .tc := ⟨.hbm, 48, rfl⟩
abbrev main_call1_v1 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_2 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v23 : Ref sig .tc := ⟨.hbm, 75, rfl⟩
abbrev main_c_3 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_cst_4 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v27 : Ref sig .tc := ⟨.hbm, 84, rfl⟩
abbrev main_cst_5 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38_0 : Ref sig .tc := ⟨.hbm, 99, rfl⟩
abbrev main_v38_1 : Ref sig .tc := ⟨.hbm, 100, rfl⟩
abbrev main_v38_2 : Ref sig .tc := ⟨.hbm, 101, rfl⟩
abbrev main_v38_3 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S4x4096x1024 : Shape := ⟨3, ![4, 4096, 1024]⟩
abbrev S1024 : Shape := ⟨1, ![1024]⟩
abbrev S1024x2304 : Shape := ⟨2, ![1024, 2304]⟩
abbrev S64 : Shape := ⟨1, ![64]⟩
abbrev S3x512 : Shape := ⟨2, ![3, 512]⟩
abbrev S512 : Shape := ⟨1, ![512]⟩
abbrev S4096x64 : Shape := ⟨2, ![4096, 64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2304 : Shape := ⟨3, ![4, 4096, 2304]⟩
abbrev S4x4096x512 : Shape := ⟨3, ![4, 4096, 512]⟩
abbrev S4x4096x128 : Shape := ⟨3, ![4, 4096, 128]⟩
abbrev S4x4096x8x64 : Shape := ⟨4, ![4, 4096, 8, 64]⟩
abbrev S4x4096x2x64 : Shape := ⟨4, ![4, 4096, 2, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x8x16 : Shape := ⟨4, ![4, 4096, 8, 16]⟩
abbrev S1x4096x1x64 : Shape := ⟨4, ![1, 4096, 1, 64]⟩
abbrev S4x4096x2 : Shape := ⟨3, ![4, 4096, 2]⟩
abbrev S4x4096x2x1 : Shape := ⟨4, ![4, 4096, 2, 1]⟩
abbrev S4x4096x2x16 : Shape := ⟨4, ![4, 4096, 2, 16]⟩
abbrev S4x4098x512 : Shape := ⟨3, ![4, 4098, 512]⟩
abbrev S1x512 : Shape := ⟨2, ![1, 512]⟩
abbrev S1x1x512 : Shape := ⟨3, ![1, 1, 512]⟩
abbrev S4x128x4096 : Shape := ⟨3, ![4, 128, 4096]⟩

abbrev nBuf : Space → Nat
  | .hbm => 145
  | .vmem => 0
  | .smem => 0
  | _ => 0

abbrev hbmTy0_0 (i : Nat) : BufTy := match i % 128 with
  | 0 => ⟨S4x4096x1024, .f32⟩
  | 1 => ⟨S1024, .f32⟩
  | 2 => ⟨S1024x2304, .f32⟩
  | 3 => ⟨S64, .f32⟩
  | 4 => ⟨S64, .f32⟩
  | 5 => ⟨S3x512, .f32⟩
  | 6 => ⟨S512, .f32⟩
  | 7 => ⟨S4096x64, .f32⟩
  | 8 => ⟨S4096x64, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S4x4096x2304, .f32⟩
  | 26 => ⟨S4x4096x512, .f32⟩
  | 27 => ⟨S4x4096x128, .f32⟩
  | 28 => ⟨S4x4096x128, .f32⟩
  | 29 => ⟨S4x4096x512, .f32⟩
  | 30 => ⟨S4x4096x512, .f32⟩
  | 31 => ⟨S4x4096x512, .f32⟩
  | 32 => ⟨S4x4096x8x64, .f32⟩
  | 33 => ⟨S4x4096x2x64, .f32⟩
  | 34 => ⟨S4x4096x8x64, .f32⟩
  | 35 => ⟨S_, .f32⟩
  | 36 => ⟨S4x4096x8, .f32⟩
  | 37 => ⟨S4x4096x8x1, .f32⟩
  | 38 => ⟨S_, .f32⟩
  | 39 => ⟨S4x4096x8x1, .f32⟩
  | 40 => ⟨S4x4096x8x1, .f32⟩
  | 41 => ⟨S_, .f32⟩
  | 42 => ⟨S4x4096x8x1, .f32⟩
  | 43 => ⟨S4x4096x8x1, .f32⟩
  | 44 => ⟨S4x4096x8x1, .f32⟩
  | 45 => ⟨S4x4096x8x64, .f32⟩
  | 46 => ⟨S4x4096x8x64, .f32⟩
  | 47 => ⟨S1x1x1x64, .f32⟩
  | 48 => ⟨S4x4096x8x64, .f32⟩
  | 49 => ⟨S4x4096x8x64, .f32⟩
  | 50 => ⟨S4x4096x8x16, .f32⟩
  | 51 => ⟨S4x4096x8x16, .f32⟩
  | 52 => ⟨S4x4096x8x16, .f32⟩
  | 53 => ⟨S4x4096x8x16, .f32⟩
  | 54 => ⟨S4x4096x8x16, .f32⟩
  | 55 => ⟨S4x4096x8x16, .f32⟩
  | 56 => ⟨S4x4096x8x64, .f32⟩
  | 57 => ⟨S1x4096x1x64, .f32⟩
  | 58 => ⟨S4x4096x8x64, .f32⟩
  | 59 => ⟨S4x4096x8x64, .f32⟩
  | 60 => ⟨S1x4096x1x64, .f32⟩
  | 61 => ⟨S4x4096x8x64, .f32⟩
  | 62 => ⟨S4x4096x8x64, .f32⟩
  | 63 => ⟨S4x4096x8x64, .f32⟩
  | 64 => ⟨S_, .f32⟩
  | 65 => ⟨S4x4096x8x64, .f32⟩
  | 66 => ⟨S4x4096x8x64, .f32⟩
  | 67 => ⟨S4x4096x2x64, .f32⟩
  | 68 => ⟨S_, .f32⟩
  | 69 => ⟨S4x4096x2, .f32⟩
  | 70 => ⟨S4x4096x2x1, .f32⟩
  | 71 => ⟨S_, .f32⟩
  | 72 => ⟨S4x4096x2x1, .f32⟩
  | 73 => ⟨S4x4096x2x1, .f32⟩
  | 74 => ⟨S_, .f32⟩
  | 75 => ⟨S4x4096x2x1, .f32⟩
  | 76 => ⟨S4x4096x2x1, .f32⟩
  | 77 => ⟨S4x4096x2x1, .f32⟩
  | 78 => ⟨S4x4096x2x64, .f32⟩
  | 79 => ⟨S4x4096x2x64, .f32⟩
  | 80 => ⟨S1x1x1x64, .f32⟩
  | 81 => ⟨S4x4096x2x64, .f32⟩
  | 82 => ⟨S4x4096x2x64, .f32⟩
  | 83 => ⟨S4x4096x2x16, .f32⟩
  | 84 => ⟨S4x4096x2x16, .f32⟩
  | 85 => ⟨S4x4096x2x16, .f32⟩
  | 86 => ⟨S4x4096x2x16, .f32⟩
  | 87 => ⟨S4x4096x2x16, .f32⟩
  | 88 => ⟨S4x4096x2x16, .f32⟩
  | 89 => ⟨S4x4096x2x64, .f32⟩
  | 90 => ⟨S1x4096x1x64, .f32⟩
  | 91 => ⟨S4x4096x2x64, .f32⟩
  | 92 => ⟨S4x4096x2x64, .f32⟩
  | 93 => ⟨S1x4096x1x64, .f32⟩
  | 94 => ⟨S4x4096x2x64, .f32⟩
  | 95 => ⟨S4x4096x2x64, .f32⟩
  | 96 => ⟨S4x4096x2x64, .f32⟩
  | 97 => ⟨S4x4096x512, .f32⟩
  | 98 => ⟨S_, .i32⟩
  | 99 => ⟨S_, .f32⟩
  | 100 => ⟨S4x4098x512, .f32⟩
  | 101 => ⟨S4x4096x512, .f32⟩
  | 102 => ⟨S1x512, .f32⟩
  | 103 => ⟨S512, .f32⟩
  | 104 => ⟨S1x1x512, .f32⟩
  | 105 => ⟨S4x4096x512, .f32⟩
  | 106 => ⟨S4x4096x512, .f32⟩
  | 107 => ⟨S4x4096x512, .f32⟩
  | 108 => ⟨S1x512, .f32⟩
  | 109 => ⟨S512, .f32⟩
  | 110 => ⟨S1x1x512, .f32⟩
  | 111 => ⟨S4x4096x512, .f32⟩
  | 112 => ⟨S4x4096x512, .f32⟩
  | 113 => ⟨S4x4096x512, .f32⟩
  | 114 => ⟨S4x4096x512, .f32⟩
  | 115 => ⟨S1x512, .f32⟩
  | 116 => ⟨S512, .f32⟩
  | 117 => ⟨S1x1x512, .f32⟩
  | 118 => ⟨S4x4096x512, .f32⟩
  | 119 => ⟨S4x4096x512, .f32⟩
  | 120 => ⟨S4x4096x512, .f32⟩
  | 121 => ⟨S4x4096x512, .f32⟩
  | 122 => ⟨S4x4096x512, .f32⟩
  | 123 => ⟨S_, .f32⟩
  | 124 => ⟨S4x4096, .f32⟩
  | 125 => ⟨S4x4096x1, .f32⟩
  | 126 => ⟨S_, .f32⟩
  | 127 => ⟨S4x4096x1, .f32⟩
  | _ => ⟨S4x4096x1024, .f32⟩

abbrev hbmTy0_1 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S4x4096x1, .f32⟩
  | 5 => ⟨S4x4096x512, .f32⟩
  | 6 => ⟨S4x4096x512, .f32⟩
  | 7 => ⟨S1x1x512, .f32⟩
  | 8 => ⟨S4x4096x512, .f32⟩
  | 9 => ⟨S4x4096x512, .f32⟩
  | 10 => ⟨S4x4096x512, .f32⟩
  | 11 => ⟨S4x4096x512, .bf16⟩
  | 12 => ⟨S4x4096x128, .f32⟩
  | 13 => ⟨S4x128x4096, .f32⟩
  | 14 => ⟨S4x128x4096, .bf16⟩
  | 15 => ⟨S4x4096x128, .bf16⟩
  | 16 => ⟨S4x4096x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c : Ref sig .tc := ⟨.hbm, 98, rfl⟩
abbrev main_call0_v0 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_9 : Ref sig .tc := ⟨.hbm, 123, rfl⟩
abbrev main_v102 : Ref sig .tc := ⟨.hbm, 124, rfl⟩
abbrev main_v103 : Ref sig .tc := ⟨.hbm, 125, rfl⟩
abbrev main_cst_10 : Ref sig .tc := ⟨.hbm, 126, rfl⟩
abbrev main_v104 : Ref sig .tc := ⟨.hbm, 127, rfl⟩
abbrev main_v105 : Ref sig .tc := ⟨.hbm, 128, rfl⟩
abbrev main_cst_11 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩

abbrev nD : Nat := 1
abbrev τ : Topo := Topo.v7x

variable {F : FTy → Type} [FloatOps F]
-- ==== Proof.Ref.lean ====
module

public import proofs.«01_k».proof.Proof.Gen.ReferenceIdeal.Run
public import proofs.«01_k».proof.Proof.Gen.ReferenceIdeal.Read

@[expose] public section

end
-- ==== Proof.Fold.lean ====
module

public import proofs.«01_k».proof.Proof.Gen.KernelIdeal.Value
public import Idealize.ShloMosaic.Lib.ValueIdx

/-! The kernel's four head-pair loops as one recursion over the chunks of the key row: each generated loop state is `fold`
    at the pair's queries, the block's keys and the two copies of the block's values. -/

@[expose] public section

noncomputable section

namespace Cert.KernelIdeal.Attn

open Cert.KernelIdeal Cert.KernelIdeal.Gen Idealize.ShloMosaic Idealize.ShloMosaic.TcCoe Idealize.SL.Sem Idealize.ShloMosaic.Tactic Idealize.ShloMosaic.ValueIdx

/-- What a loop carries: maximum and denominator of the even head, of the odd head, and the numerators. -/
abbrev St (F : FTy → Type) := FVec F S256x1 .f32 × FVec F S256x1 .f32 × FVec F S256x1 .f32 × FVec F S256x1 .f32 × FVec F S256x128 .f32

variable {F : FTy → Type} [FloatOps F]

/-- One trip of a head pair's loop over a chunk of keys `kt` and the two copies `vl`, `vh` of its values. -/
def step (qe qo : FVec F S256x64 .bf16) (kt : Vec F S1x64x512 .bf16) (vl vh : Vec F S1x512x128 .bf16) (a : St F) : St F :=
  (k0_pay8 qe a.1 kt, k0_pay11 qe a.1 a.2.1 kt, k0_pay13 qo a.2.2.1 kt, k0_pay16 qo a.2.2.1 a.2.2.2.1 kt,
    k0_pay3 a.2.2.2.2 (k0_pay9 qe a.1 kt) (k0_pay14 qo a.2.2.1 kt) (k0_pay17 qe qo a.1 a.2.2.1 kt vl vh) (k0_pay18 k0_pay58))

/-- Where a loop begins: no key seen. -/
def init : St F := (k0_pay69, k0_pay70, k0_pay69, k0_pay70, k0_pay71)

/-- Chunk `k` of the keys of head group `g` (64 rows of the key block). -/
def ktc (g : Fin 2) (K : Vec F S1x128x4096 .bf16) (k : Fin 8) : Vec F S1x64x512 .bf16 :=
  fun x => K (ix3 (0 : Fin 1) (⟨g.val * 64 + (x 1).val, by have := (x 1).isLt; have := g.isLt; change (x 1).val < 64 at *; omega⟩ : Fin 128)
    (⟨k.val * 512 + (x 2).val, by have := (x 2).isLt; have := k.isLt; change (x 2).val < 512 at *; omega⟩ : Fin 4096))

/-- Chunk `k` of the values' copy of head group `g`. -/
def vc (g : Fin 2) (V : Vec F S2x4096x128 .bf16) (k : Fin 8) : Vec F S1x512x128 .bf16 :=
  fun x => V (ix3 (g : Fin 2) (⟨k.val * 512 + (x 1).val, by have := (x 1).isLt; have := k.isLt; change (x 1).val < 512 at *; omega⟩ : Fin 4096) (x 2))

/-- The loop after its first `n` chunks. -/
def fold (g : Fin 2) (qe qo : FVec F S256x64 .bf16) (K : Vec F S1x128x4096 .bf16) (VL VH : Vec F S2x4096x128 .bf16) : ℕ → St F
  | 0 => init
  | n + 1 => if h : n < 8 then step qe qo (ktc g K ⟨n, h⟩) (vc g VL ⟨n, h⟩) (vc g VH ⟨n, h⟩) (fold g qe qo K VL VH n) else fold g qe qo K VL VH n

theorem fold_succ (g : Fin 2) (qe qo : FVec F S256x64 .bf16) (K : Vec F S1x128x4096 .bf16) (VL VH : Vec F S2x4096x128 .bf16) (n : ℕ) (h : n < 8) :
    fold g qe qo K VL VH (n + 1) = step qe qo (ktc g K ⟨n, h⟩) (vc g VL ⟨n, h⟩) (vc g VH ⟨n, h⟩) (fold g qe qo K VL VH n) := by
  rw [fold, dif_pos h]

theorem ld_ktc (g : Fin 2) (K : Vec F S1x128x4096 .bf16) (k : Fin 8) (off : Fin 3 → ℕ) (hoff : off = ![0, g.val * 64, k.val * 512]) (inb) :
    View.ld K (Rect.unit (s := S1x128x4096) off S1x64x512.size inb) = ktc g K k := by
  subst hoff
  funext x
  refine congrArg K (funext fun a => Fin.ext ?_)
  have h0 := (x 0).isLt
  change (x 0).val < 1 at h0
  fin_cases a
  · show 0 + 1 * (x 0).val = 0; omega
  · show g.val * 64 + 1 * (x 1).val = g.val * 64 + (x 1).val; omega
  · show k.val * 512 + 1 * (x 2).val = k.val * 512 + (x 2).val; omega

theorem ld_vc (g : Fin 2) (V : Vec F S2x4096x128 .bf16) (k : Fin 8) (off : Fin 3 → ℕ) (hoff : off = ![g.val, k.val * 512, 0]) (inb) :
    View.ld V (Rect.unit (s := S2x4096x128) off S1x512x128.size inb) = vc g V k := by
  subst hoff
  funext x
  refine congrArg V (funext fun a => Fin.ext ?_)
  have h0 := (x 0).isLt
  change (x 0).val < 1 at h0
  fin_cases a
  · show g.val + 1 * (x 0).val = g.val; omega
  · show k.val * 512 + 1 * (x 1).val = k.val * 512 + (x 1).val; omega
  · show 0 + 1 * (x 2).val = (x 2).val; omega

theorem trips_1 : k0_t1_loop.trips = 8 := by decide +kernel
theorem k0_off1_at (k : Fin k0_t1_loop.trips) : k0_off1 k = ![0, ((0 : Fin 2).val) * 64, k.val * 512] := by
  revert k; decide +kernel
theorem k0_off2_at (k : Fin k0_t1_loop.trips) : k0_off2 k = ![(0 : Fin 2).val, k.val * 512, 0] := by
  revert k; decide +kernel

theorem trips_2 : k0_t2_loop.trips = 8 := by decide +kernel
theorem k0_off3_at (k : Fin k0_t2_loop.trips) : k0_off3 k = ![0, ((0 : Fin 2).val) * 64, k.val * 512] := by
  revert k; decide +kernel
theorem k0_off4_at (k : Fin k0_t2_loop.trips) : k0_off4 k = ![(0 : Fin 2).val, k.val * 512, 0] := by
  revert k; decide +kernel

theorem trips_3 : k0_t3_loop.trips = 8 := by decide +kernel
theorem k0_off5_at (k : Fin k0_t3_loop.trips) : k0_off5 k = ![0, ((1 : Fin 2).val) * 64, k.val * 512] := by
  revert k; decide +kernel
theorem k0_off6_at (k : Fin k0_t3_loop.trips) : k0_off6 k = ![(1 : Fin 2).val, k.val * 512, 0] := by
  revert k; decide +kernel

theorem trips_4 : k0_t4_loop.trips = 8 := by decide +kernel
theorem k0_off7_at (k : Fin k0_t4_loop.trips) : k0_off7 k = ![0, ((1 : Fin 2).val) * 64, k.val * 512] := by
  revert k; decide +kernel
theorem k0_off8_at (k : Fin k0_t4_loop.trips) : k0_off8 k = ![(1 : Fin 2).val, k.val * 512, 0] := by
  revert k; decide +kernel

/-- Trip `k` of loop 1 is one `step`. -/
theorem trip_1 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v6 : Vec F S1x256x128 .bf16)  (X_arg3 : BufTy.Contents (Elt F) arg3.view.ty) (X_arg7 : BufTy.Contents (Elt F) arg7.view.ty) (X_arg8 : BufTy.Contents (Elt F) arg8.view.ty) (k : Fin k0_t1_loop.trips) (hk : k.val < 8) (a : St F) :
    tripR_k0_t1 𝒱 c bd i arg2 harg2 arg3 harg3 arg4 harg4 arg5 harg5 arg6 harg6 arg7 harg7 arg8 harg8 arg9 harg9 v6 X_arg3 X_arg7 X_arg8 k a
      = step (k0_pay67 v6) (k0_pay68 v6) (ktc 0 (arg3.view.read (Elt F) X_arg3) ⟨k.val, hk⟩) (vc 0 (arg7.view.read (Elt F) X_arg7) ⟨k.val, hk⟩) (vc 0 (arg8.view.read (Elt F) X_arg8) ⟨k.val, hk⟩) a := by
  rw [← ld_ktc 0 _ ⟨k.val, hk⟩ (k0_off1 k) (k0_off1_at k) (k0_off1_inb k), ← ld_vc 0 _ ⟨k.val, hk⟩ (k0_off2 k) (k0_off2_at k) (k0_off2_inb k), ← ld_vc 0 _ ⟨k.val, hk⟩ (k0_off2 k) (k0_off2_at k) (k0_off2_inb k)]
  unfold tripR_k0_t1 trip_k0_t1
  dsimp only
  sl_unfold_words
  rfl

/-- Loop 1 after `n` trips. -/
theorem st_1 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v6 : Vec F S1x256x128 .bf16)  (X_arg3 : BufTy.Contents (Elt F) arg3.view.ty) (X_arg7 : BufTy.Contents (Elt F) arg7.view.ty) (X_arg8 : BufTy.Contents (Elt F) arg8.view.ty) (n : ℕ) (hn : n ≤ 8) :
    st_k0_t1 𝒱 c bd i arg2 harg2 arg3 harg3 arg4 harg4 arg5 harg5 arg6 harg6 arg7 harg7 arg8 harg8 arg9 harg9 v6 X_arg3 X_arg7 X_arg8 init n
      = fold 0 (k0_pay67 v6) (k0_pay68 v6) (arg3.view.read (Elt F) X_arg3) (arg7.view.read (Elt F) X_arg7) (arg8.view.read (Elt F) X_arg8) n := by
  induction n with
  | zero => rfl
  | succ n ih =>
    have h8 : n < 8 := hn
    have ht : n < k0_t1_loop.trips := by rw [trips_1]; exact h8
    rw [st_k0_t1_succ 𝒱 c bd i arg2 harg2 arg3 harg3 arg4 harg4 arg5 harg5 arg6 harg6 arg7 harg7 arg8 harg8 arg9 harg9 v6 X_arg3 X_arg7 X_arg8 init ⟨n, ht⟩, trip_1 𝒱 c bd i arg2 harg2 arg3 harg3 arg4 harg4 arg5 harg5 arg6 harg6 arg7 harg7 arg8 harg8 arg9 harg9 v6 X_arg3 X_arg7 X_arg8 ⟨n, ht⟩ h8, ih (by omega)]
    exact (fold_succ 0 _ _ _ _ _ n h8).symm

/-- Trip `k` of loop 2 is one `step`. -/
theorem trip_2 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v2 : IVec S1x128 1) (v28 v29 : FVec F S256x64 .bf16) (v30 v31 : FVec F S256x1 .f32) (v32 : FVec F S256x128 .f32) (c0_i32_14 c8_i32_15 : BitVec 32) (hc : c0_i32_14 = 0#32) (hv2 : v2 = k0_pay58) (X_arg3 : BufTy.Contents (Elt F) arg3.view.ty) (X_arg7 : BufTy.Contents (Elt F) arg7.view.ty) (X_arg8 : BufTy.Contents (Elt F) arg8.view.ty) (k : Fin k0_t2_loop.trips) (hk : k.val < 8) (a : St F) :
    tripR_k0_t2 𝒱 c bd i arg2 harg2 arg3 harg3 arg4 harg4 arg5 harg5 arg6 harg6 arg7 harg7 arg8 harg8 arg9 harg9 v2 v28 v29 v30 v31 v32 c0_i32_14 c8_i32_15 X_arg3 X_arg7 X_arg8 k a
      = step v28 v29 (ktc 0 (arg3.view.read (Elt F) X_arg3) ⟨k.val, hk⟩) (vc 0 (arg7.view.read (Elt F) X_arg7) ⟨k.val, hk⟩) (vc 0 (arg8.view.read (Elt F) X_arg8) ⟨k.val, hk⟩) a := by
  subst hv2; subst hc; rw [← ld_ktc 0 _ ⟨k.val, hk⟩ (k0_off3 k) (k0_off3_at k) (k0_off3_inb k), ← ld_vc 0 _ ⟨k.val, hk⟩ (k0_off4 k) (k0_off4_at k) (k0_off4_inb k), ← ld_vc 0 _ ⟨k.val, hk⟩ (k0_off4 k) (k0_off4_at k) (k0_off4_inb k)]
  unfold tripR_k0_t2 trip_k0_t2
  dsimp only
  sl_unfold_words
  rfl

/-- Loop 2 after `n` trips. -/
theorem st_2 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v2 : IVec S1x128 1) (v28 v29 : FVec F S256x64 .bf16) (v30 v31 : FVec F S256x1 .f32) (v32 : FVec F S256x128 .f32) (c0_i32_14 c8_i32_15 : BitVec 32) (hc : c0_i32_14 = 0#32) (hv2 : v2 = k0_pay58) (X_arg3 : BufTy.Contents (Elt F) arg3.view.ty) (X_arg7 : BufTy.Contents (Elt F) arg7.view.ty) (X_arg8 : BufTy.Contents (Elt F) arg8.view.ty) (n : ℕ) (hn : n ≤ 8) :
    st_k0_t2 𝒱 c bd i arg2 harg2 arg3 harg3 arg4 harg4 arg5 harg5 arg6 harg6 arg7 harg7 arg8 harg8 arg9 harg9 v2 v28 v29 v30 v31 v32 c0_i32_14 c8_i32_15 X_arg3 X_arg7 X_arg8 init n
      = fold 0 v28 v29 (arg3.view.read (Elt F) X_arg3) (arg7.view.read (Elt F) X_arg7) (arg8.view.read (Elt F) X_arg8) n := by
  induction n with
  | zero => rfl
  | succ n ih =>
    have h8 : n < 8 := hn
    have ht : n < k0_t2_loop.trips := by rw [trips_2]; exact h8
    rw [st_k0_t2_succ 𝒱 c bd i arg2 harg2 arg3 harg3 arg4 harg4 arg5 harg5 arg6 harg6 arg7 harg7 arg8 harg8 arg9 harg9 v2 v28 v29 v30 v31 v32 c0_i32_14 c8_i32_15 X_arg3 X_arg7 X_arg8 init ⟨n, ht⟩, trip_2 𝒱 c bd i arg2 harg2 arg3 harg3 arg4 harg4 arg5 harg5 arg6 harg6 arg7 harg7 arg8 harg8 arg9 harg9 v2 v28 v29 v30 v31 v32 c0_i32_14 c8_i32_15 hc hv2 X_arg3 X_arg7 X_arg8 ⟨n, ht⟩ h8, ih (by omega)]
    exact (fold_succ 0 _ _ _ _ _ n h8).symm

/-- Trip `k` of loop 3 is one `step`. -/
theorem trip_3 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v2 : IVec S1x128 1) (v28 v29 : FVec F S256x64 .bf16) (v30 v31 : FVec F S256x1 .f32) (v32 : FVec F S256x128 .f32) (c0_i32_14 c8_i32_15 : BitVec 32) (v46 : Vec F S1x256x128 .bf16) (hv2 : v2 = k0_pay58) (X_arg3 : BufTy.Contents (Elt F) arg3.view.ty) (X_arg7 : BufTy.Contents (Elt F) arg7.view.ty) (X_arg8 : BufTy.Contents (Elt F) arg8.view.ty) (k : Fin k0_t3_loop.trips) (hk : k.val < 8) (a : St F) :
    tripR_k0_t3 𝒱 c bd i arg2 harg2 arg3 harg3 arg4 harg4 arg5 harg5 arg6 harg6 arg7 harg7 arg8 harg8 arg9 harg9 v2 v28 v29 v30 v31 v32 c0_i32_14 c8_i32_15 v46 X_arg3 X_arg7 X_arg8 k a
      = step (k0_pay83 v46) (k0_pay84 v46) (ktc 1 (arg3.view.read (Elt F) X_arg3) ⟨k.val, hk⟩) (vc 1 (arg7.view.read (Elt F) X_arg7) ⟨k.val, hk⟩) (vc 1 (arg8.view.read (Elt F) X_arg8) ⟨k.val, hk⟩) a := by
  subst hv2; rw [← ld_ktc 1 _ ⟨k.val, hk⟩ (k0_off5 k) (k0_off5_at k) (k0_off5_inb k), ← ld_vc 1 _ ⟨k.val, hk⟩ (k0_off6 k) (k0_off6_at k) (k0_off6_inb k), ← ld_vc 1 _ ⟨k.val, hk⟩ (k0_off6 k) (k0_off6_at k) (k0_off6_inb k)]
  unfold tripR_k0_t3 trip_k0_t3
  dsimp only
  sl_unfold_words
  rfl

/-- Loop 3 after `n` trips. -/
theorem st_3 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v2 : IVec S1x128 1) (v28 v29 : FVec F S256x64 .bf16) (v30 v31 : FVec F S256x1 .f32) (v32 : FVec F S256x128 .f32) (c0_i32_14 c8_i32_15 : BitVec 32) (v46 : Vec F S1x256x128 .bf16) (hv2 : v2 = k0_pay58) (X_arg3 : BufTy.Contents (Elt F) arg3.view.ty) (X_arg7 : BufTy.Contents (Elt F) arg7.view.ty) (X_arg8 : BufTy.Contents (Elt F) arg8.view.ty) (n : ℕ) (hn : n ≤ 8) :
    st_k0_t3 𝒱 c bd i arg2 harg2 arg3 harg3 arg4 harg4 arg5 harg5 arg6 harg6 arg7 harg7 arg8 harg8 arg9 harg9 v2 v28 v29 v30 v31 v32 c0_i32_14 c8_i32_15 v46 X_arg3 X_arg7 X_arg8 init n
      = fold 1 (k0_pay83 v46) (k0_pay84 v46) (arg3.view.read (Elt F) X_arg3) (arg7.view.read (Elt F) X_arg7) (arg8.view.read (Elt F) X_arg8) n := by
  induction n with
  | zero => rfl
  | succ n ih =>
    have h8 : n < 8 := hn
    have ht : n < k0_t3_loop.trips := by rw [trips_3]; exact h8
    rw [st_k0_t3_succ 𝒱 c bd i arg2 harg2 arg3 harg3 arg4 harg4 arg5 harg5 arg6 harg6 arg7 harg7 arg8 harg8 arg9 harg9 v2 v28 v29 v30 v31 v32 c0_i32_14 c8_i32_15 v46 X_arg3 X_arg7 X_arg8 init ⟨n, ht⟩, trip_3 𝒱 c bd i arg2 harg2 arg3 harg3 arg4 harg4 arg5 harg5 arg6 harg6 arg7 harg7 arg8 harg8 arg9 harg9 v2 v28 v29 v30 v31 v32 c0_i32_14 c8_i32_15 v46 hv2 X_arg3 X_arg7 X_arg8 ⟨n, ht⟩ h8, ih (by omega)]
    exact (fold_succ 1 _ _ _ _ _ n h8).symm

/-- Trip `k` of loop 4 is one `step`. -/
theorem trip_4 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v2 : IVec S1x128 1) (v68 v69 : FVec F S256x64 .bf16) (hv2 : v2 = k0_pay58) (X_arg3 : BufTy.Contents (Elt F) arg3.view.ty) (X_arg7 : BufTy.Contents (Elt F) arg7.view.ty) (X_arg8 : BufTy.Contents (Elt F) arg8.view.ty) (k : Fin k0_t4_loop.trips) (hk : k.val < 8) (a : St F) :
    tripR_k0_t4 𝒱 c bd i arg2 harg2 arg3 harg3 arg4 harg4 arg5 harg5 arg6 harg6 arg7 harg7 arg8 harg8 arg9 harg9 v2 v68 v69 X_arg3 X_arg7 X_arg8 k a
      = step v68 v69 (ktc 1 (arg3.view.read (Elt F) X_arg3) ⟨k.val, hk⟩) (vc 1 (arg7.view.read (Elt F) X_arg7) ⟨k.val, hk⟩) (vc 1 (arg8.view.read (Elt F) X_arg8) ⟨k.val, hk⟩) a := by
  subst hv2; rw [← ld_ktc 1 _ ⟨k.val, hk⟩ (k0_off7 k) (k0_off7_at k) (k0_off7_inb k), ← ld_vc 1 _ ⟨k.val, hk⟩ (k0_off8 k) (k0_off8_at k) (k0_off8_inb k), ← ld_vc 1 _ ⟨k.val, hk⟩ (k0_off8 k) (k0_off8_at k) (k0_off8_inb k)]
  unfold tripR_k0_t4 trip_k0_t4
  dsimp only
  sl_unfold_words
  rfl

/-- Loop 4 after `n` trips. -/
theorem st_4 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v2 : IVec S1x128 1) (v68 v69 : FVec F S256x64 .bf16) (hv2 : v2 = k0_pay58) (X_arg3 : BufTy.Contents (Elt F) arg3.view.ty) (X_arg7 : BufTy.Contents (Elt F) arg7.view.ty) (X_arg8 : BufTy.Contents (Elt F) arg8.view.ty) (n : ℕ) (hn : n ≤ 8) :
    st_k0_t4 𝒱 c bd i arg2 harg2 arg3 harg3 arg4 harg4 arg5 harg5 arg6 harg6 arg7 harg7 arg8 harg8 arg9 harg9 v2 v68 v69 X_arg3 X_arg7 X_arg8 init n
      = fold 1 v68 v69 (arg3.view.read (Elt F) X_arg3) (arg7.view.read (Elt F) X_arg7) (arg8.view.read (Elt F) X_arg8) n := by
  induction n with
  | zero => rfl
  | succ n ih =>
    have h8 : n < 8 := hn
    have ht : n < k0_t4_loop.trips := by rw [trips_4]; exact h8
    rw [st_k0_t4_succ 𝒱 c bd i arg2 harg2 arg3 harg3 arg4 harg4 arg5 harg5 arg6 harg6 arg7 harg7 arg8 harg8 arg9 harg9 v2 v68 v69 X_arg3 X_arg7 X_arg8 init ⟨n, ht⟩, trip_4 𝒱 c bd i arg2 harg2 arg3 harg3 arg4 harg4 arg5 harg5 arg6 harg6 arg7 harg7 arg8 harg8 arg9 harg9 v2 v68 v69 hv2 X_arg3 X_arg7 X_arg8 ⟨n, ht⟩ h8, ih (by omega)]
    exact (fold_succ 1 _ _ _ _ _ n h8).symm

end Cert.KernelIdeal.Attn

end
-- ==== Proof.Block.lean ====
module

public import proofs.«01_k».proof.Proof.Fold
public import Idealize.ShloMosaic.Lib.Pipeline.ValueKit
public import Idealize.ShloMosaic.Lib.Pipeline.ReadBack

/-! What a grid point leaves in the output block and in the two copies of the values. -/

@[expose] public section

noncomputable section

namespace Cert.KernelIdeal.Attn

open Cert.KernelIdeal Cert.KernelIdeal.Gen Idealize.ShloMosaic Idealize.ShloMosaic.TcCoe Idealize.SL.Sem Idealize.ShloMosaic.Tactic Idealize.ShloMosaic.ValueIdx

variable {F : FTy → Type} [FloatOps F]

/-- The queries of head pair `p`: 128 columns of the query block. -/
def qpair (x0 : Vec F S1x256x512 .bf16) (p : Fin 4) : Vec F S1x256x128 .bf16 :=
  fun x => x0 (ValueIdx.ix3 (0 : Fin 1) (x 1) (⟨p.val * 128 + (x 2).val, by have := (x 2).isLt; have := p.isLt; change (x 2).val < 128 at *; omega⟩ : Fin 512))

/-- A head pair's attention, before the norm: numerators over denominators after all eight chunks. -/
def pair (g : Fin 2) (xq : Vec F S1x256x128 .bf16) (K : Vec F S1x128x4096 .bf16) (VL VH : Vec F S2x4096x128 .bf16) : FVec F S256x128 .f32 :=
  k0_pay4 k0_pay58 (fold g (k0_pay67 xq) (k0_pay68 xq) K VL VH 8).2.1 (fold g (k0_pay67 xq) (k0_pay68 xq) K VL VH 8).2.2.2.1
    (fold g (k0_pay67 xq) (k0_pay68 xq) K VL VH 8).2.2.2.2

/-- The four pairs side by side, as the scratch is read. -/
def nums (x0 : Vec F S1x256x512 .bf16) (K : Vec F S1x128x4096 .bf16) (VL VH : Vec F S2x4096x128 .bf16) : Vec F S256x512 .f32 :=
  View.canon [
    (⟨Rect.unit (s := S256x512) ![0, 384] ![256, 128] inb_S256x512_S256x128_0_384, pair 1 (qpair x0 3) K VL VH⟩ : View.Piece (Elt F) S256x512 .f32),
    ⟨Rect.unit (s := S256x512) ![0, 256] ![256, 128] inb_S256x512_S256x128_0_256, pair 1 (qpair x0 2) K VL VH⟩,
    ⟨Rect.unit (s := S256x512) ![0, 128] ![256, 128] inb_S256x512_S256x128_0_128, pair 0 (qpair x0 1) K VL VH⟩,
    ⟨Rect.unit (s := S256x512) ![0, 0] ![256, 128] inb_S256x512_S256x128_0_0, pair 0 (qpair x0 0) K VL VH⟩]

theorem ld_qpair (x0 : Vec F S1x256x512 .bf16) (p : Fin 4) (off : Fin 3 → ℕ) (hoff : off = ![0, 0, p.val * 128]) (inb) :
    View.ld x0 (Rect.unit (s := S1x256x512) off ![1, 256, 128] inb) = qpair x0 p := by
  subst hoff
  funext x
  refine congrArg x0 (funext fun a => Fin.ext ?_)
  have h0 := (x 0).isLt
  change (x 0).val < 1 at h0
  fin_cases a
  · show 0 + 1 * (x 0).val = 0; omega
  · show 0 + 1 * (x 1).val = (x 1).val; omega
  · show p.val * 128 + 1 * (x 2).val = p.val * 128 + (x 2).val; omega

theorem readCov_all {κ : Kind} {sp : Space} (v : View sig κ sp S256x512 .f32) (L : List (View.Piece (Elt F) S256x512 .f32)) (inb) :
    v.readCov L (Rect.unit (s := S256x512) ![0, 0] ![256, 512] inb).toLoadRect = View.canon L := by
  rw [View.readCov_eq_canon']
  funext j
  refine congrArg (View.canon L) (funext fun a => Fin.ext ?_)
  fin_cases a
  · show 0 + 1 * (j 0).val = (j 0).val; omega
  · show 0 + 1 * (j 1).val = (j 1).val; omega

theorem trips_lit : Scf.trips (0#32) (Scalar.addi 0#32 8#32) 1#32 = 8 := by decide +kernel

theorem run_1 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v6 : Vec F S1x256x128 .bf16) (X_arg3 : BufTy.Contents (Elt F) arg3.view.ty) (X_arg7 : BufTy.Contents (Elt F) arg7.view.ty) (X_arg8 : BufTy.Contents (Elt F) arg8.view.ty) :
    st_k0_t1 𝒱 c bd i arg2 harg2 arg3 harg3 arg4 harg4 arg5 harg5 arg6 harg6 arg7 harg7 arg8 harg8 arg9 harg9 v6 X_arg3 X_arg7 X_arg8 (k0_pay69, k0_pay70, k0_pay69, k0_pay70, k0_pay71) (Scf.trips (0#32) (Scalar.addi 0#32 8#32) 1#32)
      = fold 0 (k0_pay67 v6) (k0_pay68 v6) (arg3.view.read (Elt F) X_arg3) (arg7.view.read (Elt F) X_arg7) (arg8.view.read (Elt F) X_arg8) 8 := by
  rw [trips_lit]
  exact st_1 𝒱 c bd i arg2 harg2 arg3 harg3 arg4 harg4 arg5 harg5 arg6 harg6 arg7 harg7 arg8 harg8 arg9 harg9 v6  X_arg3 X_arg7 X_arg8 8 (le_refl _)

theorem run_2 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (xq : Vec F S1x256x128 .bf16) (v30 v31 : FVec F S256x1 .f32) (v32 : FVec F S256x128 .f32) (X_arg3 : BufTy.Contents (Elt F) arg3.view.ty) (X_arg7 : BufTy.Contents (Elt F) arg7.view.ty) (X_arg8 : BufTy.Contents (Elt F) arg8.view.ty) :
    st_k0_t2 𝒱 c bd i arg2 harg2 arg3 harg3 arg4 harg4 arg5 harg5 arg6 harg6 arg7 harg7 arg8 harg8 arg9 harg9 k0_pay58 (k0_pay75 xq) (k0_pay76 xq) v30 v31 v32 (0#32) (8#32) X_arg3 X_arg7 X_arg8 (k0_pay77, k0_pay78, k0_pay77, k0_pay78, k0_pay79) (Scf.trips (0#32) (Scalar.addi 0#32 8#32) 1#32)
      = fold 0 (k0_pay67 xq) (k0_pay68 xq) (arg3.view.read (Elt F) X_arg3) (arg7.view.read (Elt F) X_arg7) (arg8.view.read (Elt F) X_arg8) 8 := by
  rw [trips_lit]
  exact st_2 𝒱 c bd i arg2 harg2 arg3 harg3 arg4 harg4 arg5 harg5 arg6 harg6 arg7 harg7 arg8 harg8 arg9 harg9 k0_pay58 (k0_pay75 xq) (k0_pay76 xq) v30 v31 v32 (0#32) (8#32) rfl rfl X_arg3 X_arg7 X_arg8 8 (le_refl _)

theorem run_3 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (v28 v29 : FVec F S256x64 .bf16) (v30 v31 : FVec F S256x1 .f32) (v32 : FVec F S256x128 .f32)  (v46 : Vec F S1x256x128 .bf16) (X_arg3 : BufTy.Contents (Elt F) arg3.view.ty) (X_arg7 : BufTy.Contents (Elt F) arg7.view.ty) (X_arg8 : BufTy.Contents (Elt F) arg8.view.ty) :
    st_k0_t3 𝒱 c bd i arg2 harg2 arg3 harg3 arg4 harg4 arg5 harg5 arg6 harg6 arg7 harg7 arg8 harg8 arg9 harg9 k0_pay58 v28 v29 v30 v31 v32 (0#32) (8#32) v46 X_arg3 X_arg7 X_arg8 (k0_pay85, k0_pay86, k0_pay85, k0_pay86, k0_pay87) (Scf.trips (0#32) (Scalar.addi 0#32 8#32) 1#32)
      = fold 1 (k0_pay67 v46) (k0_pay68 v46) (arg3.view.read (Elt F) X_arg3) (arg7.view.read (Elt F) X_arg7) (arg8.view.read (Elt F) X_arg8) 8 := by
  rw [trips_lit]
  exact st_3 𝒱 c bd i arg2 harg2 arg3 harg3 arg4 harg4 arg5 harg5 arg6 harg6 arg7 harg7 arg8 harg8 arg9 harg9 k0_pay58 v28 v29 v30 v31 v32 (0#32) (8#32) v46 rfl X_arg3 X_arg7 X_arg8 8 (le_refl _)

theorem run_4 (𝒱 : Variants) (c : Dev nD) (bd : Option 𝒱.V) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (xq : Vec F S1x256x128 .bf16) (X_arg3 : BufTy.Contents (Elt F) arg3.view.ty) (X_arg7 : BufTy.Contents (Elt F) arg7.view.ty) (X_arg8 : BufTy.Contents (Elt F) arg8.view.ty) :
    st_k0_t4 𝒱 c bd i arg2 harg2 arg3 harg3 arg4 harg4 arg5 harg5 arg6 harg6 arg7 harg7 arg8 harg8 arg9 harg9 k0_pay58 (k0_pay91 xq) (k0_pay92 xq) X_arg3 X_arg7 X_arg8 (k0_pay93, k0_pay1, k0_pay93, k0_pay1, k0_pay2) (Scf.trips (0#32) (Scalar.addi 0#32 8#32) 1#32)
      = fold 1 (k0_pay67 xq) (k0_pay68 xq) (arg3.view.read (Elt F) X_arg3) (arg7.view.read (Elt F) X_arg7) (arg8.view.read (Elt F) X_arg8) 8 := by
  rw [trips_lit]
  exact st_4 𝒱 c bd i arg2 harg2 arg3 harg3 arg4 harg4 arg5 harg5 arg6 harg6 arg7 harg7 arg8 harg8 arg9 harg9 k0_pay58 (k0_pay91 xq) (k0_pay92 xq) rfl X_arg3 X_arg7 X_arg8 8 (le_refl _)

/-- A point that does not refill the values' copies. -/
theorem out_B (c : Dev nD) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (hc0 : ¬cond0_0 i) (x0 : Vec F S1x256x512 .bf16) (x1 : Vec F S1x128x4096 .bf16) (x2 : Vec F S1x4096x128 .bf16) (x3 : Vec F S1x512 .f32) (xs0 xs1 : Vec F S2x4096x128 .bf16) :
    out0_B_4 c i arg2 harg2 arg3 harg3 arg4 harg4 arg5 harg5 arg6 harg6 arg7 harg7 arg8 harg8 arg9 harg9 hc0 x0 x1 x2 x3 xs0 xs1 = k0_pay5 (nums x0 x1 xs0 xs1) x3 := by
  frame_open
  simp (disch := decide) only [↓ View.readCov_skip, ↓ View.readCov_cons_toLoadRect, ↓ View.readCov_fill]
  frame_out
  simp (disch := decide) only [run_1, run_2, run_3, run_4, Memref.IsWhole.read_unread, readCov_all, View.read_writes_junk_eq_canon, View.readCov_unit_lit', ld_qpair _ 3 ![0, 0, 384] rfl, ld_qpair _ 2 ![0, 0, 256] rfl, ld_qpair _ 1 ![0, 0, 128] rfl, ld_qpair _ 0 ![0, 0, 0] rfl]
  rfl

/-- The copy of the values in the first scratch: head group 0 in lanes 0–63 of slab 0, head group 1 in lanes 0–63 of slab 1. -/
def vlo (x2 : Vec F S1x4096x128 .bf16) : Vec F S2x4096x128 .bf16 :=
  View.canon [
    (⟨Rect.unit (s := S2x4096x128) ![1, 0, 0] ![1, 4096, 128] inb_S2x4096x128_S1x4096x128_1_0_0, k0_pay64 x2⟩ : View.Piece (Elt F) S2x4096x128 .bf16),
    ⟨Rect.unit (s := S2x4096x128) ![0, 0, 0] ![1, 4096, 128] inb_S2x4096x128_S1x4096x128_0_0_0, k0_pay62 x2⟩]

/-- The copy in the second scratch: the same halves in lanes 64–127. -/
def vhi (x2 : Vec F S1x4096x128 .bf16) : Vec F S2x4096x128 .bf16 :=
  View.canon [
    (⟨Rect.unit (s := S2x4096x128) ![1, 0, 0] ![1, 4096, 128] inb_S2x4096x128_S1x4096x128_1_0_0, k0_pay65 x2⟩ : View.Piece (Elt F) S2x4096x128 .bf16),
    ⟨Rect.unit (s := S2x4096x128) ![0, 0, 0] ![1, 4096, 128] inb_S2x4096x128_S1x4096x128_0_0_0, k0_pay63 x2⟩]

theorem sout_A0 (c : Dev nD) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (hc0 : cond0_0 i) (x0 : Vec F S1x256x512 .bf16) (x1 : Vec F S1x128x4096 .bf16) (x2 : Vec F S1x4096x128 .bf16) (x3 : Vec F S1x512 .f32) :
    sout0_A_0 c i arg2 harg2 arg3 harg3 arg4 harg4 arg5 harg5 arg6 harg6 arg7 harg7 arg8 harg8 arg9 harg9 hc0 x0 x1 x2 x3 = vlo x2 := by
  frame_out

theorem sout_A1 (c : Dev nD) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (hc0 : cond0_0 i) (x0 : Vec F S1x256x512 .bf16) (x1 : Vec F S1x128x4096 .bf16) (x2 : Vec F S1x4096x128 .bf16) (x3 : Vec F S1x512 .f32) :
    sout0_A_1 c i arg2 harg2 arg3 harg3 arg4 harg4 arg5 harg5 arg6 harg6 arg7 harg7 arg8 harg8 arg9 harg9 hc0 x0 x1 x2 x3 = vhi x2 := by
  frame_out

/-- A point that refills the values' copies first. -/
theorem out_A (c : Dev nD) (i : grid0.Coords) (arg2 : Memref sig .tc .vmem S1x256x512 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x512 .f32) (harg5 : arg5.IsWhole) (arg6 : Memref sig .tc .vmem S1x256x512 .bf16) (harg6 : arg6.IsWhole) (arg7 : Memref sig .tc .vmem S2x4096x128 .bf16) (harg7 : arg7.IsWhole) (arg8 : Memref sig .tc .vmem S2x4096x128 .bf16) (harg8 : arg8.IsWhole) (arg9 : Memref sig .tc .vmem S256x512 .f32) (harg9 : arg9.IsWhole) (hc0 : cond0_0 i) (x0 : Vec F S1x256x512 .bf16) (x1 : Vec F S1x128x4096 .bf16) (x2 : Vec F S1x4096x128 .bf16) (x3 : Vec F S1x512 .f32) :
    out0_A_4 c i arg2 harg2 arg3 harg3 arg4 harg4 arg5 harg5 arg6 harg6 arg7 harg7 arg8 harg8 arg9 harg9 hc0 x0 x1 x2 x3 = k0_pay5 (nums x0 x1 (vlo x2) (vhi x2)) x3 := by
  frame_open
  simp (disch := decide) only [↓ View.readCov_skip, ↓ View.readCov_cons_toLoadRect, ↓ View.readCov_fill]
  frame_out
  simp (disch := decide) only [run_1, run_2, run_3, run_4, Memref.IsWhole.read_unread, readCov_all, View.read_writes_junk_eq_canon, View.readCov_unit_lit', ld_qpair _ 3 ![0, 0, 384] rfl, ld_qpair _ 2 ![0, 0, 256] rfl, ld_qpair _ 1 ![0, 0, 128] rfl, ld_qpair _ 0 ![0, 0, 0] rfl]
  rfl

end Cert.KernelIdeal.Attn

end
-- ==== Proof.Mat.lean ====
module

public import Idealize.ShloMosaic.PureOps.Ideal
public import Idealize.ShloMosaic.Lib.ValueIdx
public import Idealize.ShloMosaic.Lib.Pipeline.ValueKit

/-! A plain matrix product into zeros, read at an index. -/

@[expose] public section

noncomputable section

namespace Mat

open Idealize.ShloMosaic

theorem matmul_at {M K N : ℕ} {φ₁ φ₂ : FTy} (D : DotDims ⟨2, ![M, K]⟩ ⟨2, ![K, N]⟩ ⟨2, ![M, N]⟩) (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (a : FVec Ideal ⟨2, ![M, K]⟩ φ₁) (b : FVec Ideal ⟨2, ![K, N]⟩ φ₂) (r : Fin M) (j : Fin N) :
    matmul D prec a b (constant ⟨2, ![M, N]⟩ .f32 0x00000000#32) (ValueIdx.ix2 r j) = ∑ k : Fin K, a (ValueIdx.ix2 r k) * b (ValueIdx.ix2 k j) := by
  simp only [matmul]
  rw [Ideal.matmul_constant_zero_apply, ← Equiv.sum_comp (ValueIdx.contrEquiv1 D K hr hs).symm]
  refine Finset.sum_congr rfl fun k _ => ?_
  have hk := ValueIdx.contrEquiv1_symm_val D K hr hs k
  have el : D.lhsIdx (ValueIdx.ix2 r j) ((ValueIdx.contrEquiv1 D K hr hs).symm k) = ValueIdx.ix2 r k := funext fun a => Fin.ext (by
    match a with
    | ⟨0, _⟩ => exact hl0 _ _
    | ⟨1, _⟩ => exact (hl1 _ _).trans hk)
  have er : D.rhsIdx (ValueIdx.ix2 r j) ((ValueIdx.contrEquiv1 D K hr hs).symm k) = ValueIdx.ix2 k j := funext fun a => Fin.ext (by
    match a with
    | ⟨0, _⟩ => exact (hr0 _ _).trans hk
    | ⟨1, _⟩ => exact hr1 _ _)
  rw [el, er]

theorem ofBits_negInf : Ideal.ofBits .f32 0xFF800000#32 = ⊥ := by
  simp [Ideal.ofBits, Ideal.ieee]

theorem lift_row {M N : ℕ} (h : Shape.Reduces ⟨2, ![M, N]⟩ [1] ⟨1, ![M]⟩) (r : Fin M) (j : Fin N) : h.lift (ValueIdx.ix1 r) j = ValueIdx.ix2 r j :=
  funext fun a => Fin.ext (by
    match a with
    | ⟨0, _⟩ => exact (h.lift_val (ValueIdx.ix1 r) j _).trans rfl
    | ⟨1, _⟩ => exact (h.lift_val (ValueIdx.ix1 r) j _).trans rfl)

/-- A row's maximum as a kernel takes it. -/
theorem rowmax_at {M N : ℕ} (x : FVec Ideal ⟨2, ![M, N]⟩ .f32) (h : Shape.Reduces ⟨2, ![M, N]⟩ [1] ⟨1, ![M]⟩) (hφ : FKind.Formats .f32)
    (hacc : (0xFF800000#32 : BitVec 32) = FKind.maximumf.neutral .f32 hφ) (r : Fin M) :
    multiReduction (F := Ideal) .maximumf [1] ⟨1, ![M]⟩ x 0xFF800000#32 h hφ hacc (ValueIdx.ix1 r)
      = (Finset.univ : Finset (Fin N)).fold max ⊥ (fun j => x (ValueIdx.ix2 r j)) := by
  refine (Ideal.multiReduction_maximumf_single (a := (1 : Fin 2)) x _ h hφ hacc _).trans ?_
  refine (congrArg (fun b => (Finset.univ : Finset (Fin N)).fold max b _) ofBits_negInf).trans ?_
  exact congrArg (fun f => (Finset.univ : Finset (Fin N)).fold max ⊥ f) (funext fun j => congrArg x (lift_row h r j))

/-- A row's sum as a kernel takes it. -/
theorem rowsum_at {M N : ℕ} (x : FVec Ideal ⟨2, ![M, N]⟩ .f32) (h : Shape.Reduces ⟨2, ![M, N]⟩ [1] ⟨1, ![M]⟩) (hφ : FKind.Formats .f32)
    (hacc : (0x00000000#32 : BitVec 32) = FKind.add.neutral .f32 hφ) (r : Fin M) :
    multiReduction (F := Ideal) .add [1] ⟨1, ![M]⟩ x 0x00000000#32 h hφ hacc (ValueIdx.ix1 r) = ∑ j : Fin N, x (ValueIdx.ix2 r j) := by
  refine (Ideal.multiReduction_add_single (a := (1 : Fin 2)) x _ h hφ hacc _).trans ?_
  exact Finset.sum_congr rfl fun j _ => congrArg x (lift_row h r j)

/-- A vector made a one-column array. -/
theorem col_at {α : Type} {M : ℕ} (x : (⟨1, ![M]⟩ : Shape).Idx → α) (h : Shape.ShapeCasts ⟨1, ![M]⟩ ⟨2, ![M, 1]⟩) (r : Fin M) :
    shapeCast ⟨2, ![M, 1]⟩ x h (ValueIdx.ix2 r 0) = x (ValueIdx.ix1 r) :=
  shapeCast_apply _ _ _ (ValueIdx.ix1 r) (by simp [Shape.rowMajor_val_one, Shape.rowMajor_val_two]; rfl)

/-- A column spread over the columns of an array. -/
theorem colbc_at {α : Type} {M N : ℕ} (hM : M ≠ 1) (x : (⟨2, ![M, 1]⟩ : Shape).Idx → α) (h : Shape.Broadcasts ⟨2, ![M, 1]⟩ ⟨2, ![M, N]⟩) (r : Fin M) (j : Fin N) :
    broadcastTo ⟨2, ![M, N]⟩ x h (ValueIdx.ix2 r j) = x (ValueIdx.ix2 r 0) :=
  broadcastTo_apply _ _ _ (ValueIdx.ix2 r 0) (by
    intro a
    match a with
    | ⟨0, _⟩ => exact (if_neg hM).symm
    | ⟨1, _⟩ => exact (if_pos rfl).symm)

/-- A row spread over the rows of an array. -/
theorem rowbc_at {α : Type} {M N : ℕ} (hN : N ≠ 1) (x : (⟨2, ![1, N]⟩ : Shape).Idx → α) (h : Shape.Broadcasts ⟨2, ![1, N]⟩ ⟨2, ![M, N]⟩) (r : Fin M) (j : Fin N) :
    broadcastTo ⟨2, ![M, N]⟩ x h (ValueIdx.ix2 r j) = x (ValueIdx.ix2 0 j) :=
  broadcastTo_apply _ _ _ (ValueIdx.ix2 0 j) (by
    intro a
    match a with
    | ⟨0, _⟩ => exact (if_pos rfl).symm
    | ⟨1, _⟩ => exact (if_neg hN).symm)

/-- A cast to the same shape. -/
theorem cast_self {α : Type} {s : Shape} (x : s.Idx → α) (h : s.ShapeCasts s) : shapeCast s x h = x :=
  funext fun i => shapeCast_apply _ _ _ i rfl

end Mat

end
-- ==== Proof.Online.lean ====
module

public import Idealize.ShloMosaic.PureOps.Ideal

/-! Softmax in one pass over chunks: whatever shift each chunk uses, as long as it is a real number, the rescaled sums are
    the sums at the last shift; and the quotient of two such sums does not depend on the shift. -/

@[expose] public section

noncomputable section

namespace Online

open Idealize.ShloMosaic Finset

/-- A nonnegative real factor passes into a finite sum of extended reals. -/
theorem coe_mul_sum {ι : Type} (S : Finset ι) (r : ℝ) (hr : 0 ≤ r) (f : ι → EReal) :
    (r : EReal) * ∑ i ∈ S, f i = ∑ i ∈ S, (r : EReal) * f i := by
  classical
  induction S using Finset.induction_on with
  | empty => simp
  | insert a S ha ih =>
    rw [sum_insert ha, sum_insert ha, ← ih]
    exact EReal.left_distrib_of_nonneg_of_ne_top (EReal.coe_nonneg.mpr hr) (EReal.coe_ne_top r) _ _

theorem sum_mul_coe {ι : Type} (S : Finset ι) (r : ℝ) (hr : 0 ≤ r) (f : ι → EReal) :
    (∑ i ∈ S, f i) * (r : EReal) = ∑ i ∈ S, f i * (r : EReal) := by
  rw [mul_comm, coe_mul_sum S r hr]
  exact sum_congr rfl fun i _ => mul_comm _ _

theorem exp_shift (s m m' : ℝ) : Real.exp (m - m') * Real.exp (s - m) = Real.exp (s - m') := by
  rw [← Real.exp_add]; congr 1; ring

/-- The sums of the weights and of the weighted values over the chunks before `n`, at shift `μ`. -/
def den {N : ℕ} (s : ℕ → Fin N → ℝ) (μ : ℝ) (n : ℕ) : EReal := ∑ c ∈ range n, ∑ j, ((Real.exp (s c j - μ) : ℝ) : EReal)
def num {N : ℕ} (s : ℕ → Fin N → ℝ) (v : ℕ → Fin N → EReal) (μ : ℝ) (n : ℕ) : EReal :=
  ∑ c ∈ range n, ∑ j, ((Real.exp (s c j - μ) : ℝ) : EReal) * v c j

theorem den_shift {N : ℕ} (s : ℕ → Fin N → ℝ) (μ μ' : ℝ) (n : ℕ) :
    ((Real.exp (μ - μ') : ℝ) : EReal) * den s μ n = den s μ' n := by
  unfold den
  rw [coe_mul_sum _ _ (Real.exp_pos _).le]
  refine sum_congr rfl fun c _ => ?_
  rw [coe_mul_sum _ _ (Real.exp_pos _).le]
  refine sum_congr rfl fun j _ => ?_
  rw [← EReal.coe_mul, exp_shift]

theorem num_shift {N : ℕ} (s : ℕ → Fin N → ℝ) (v : ℕ → Fin N → EReal) (μ μ' : ℝ) (n : ℕ) :
    ((Real.exp (μ - μ') : ℝ) : EReal) * num s v μ n = num s v μ' n := by
  unfold num
  rw [coe_mul_sum _ _ (Real.exp_pos _).le]
  refine sum_congr rfl fun c _ => ?_
  rw [coe_mul_sum _ _ (Real.exp_pos _).le]
  refine sum_congr rfl fun j _ => ?_
  rw [← mul_assoc, ← EReal.coe_mul, exp_shift]

/-- One pass: after `n ≥ 1` chunks the running shift is a real `μ` and the running sums are those at `μ`. -/
theorem one_pass {N : ℕ} (s : ℕ → Fin N → ℝ) (v : ℕ → Fin N → EReal) (M L A : ℕ → EReal) (K : ℕ)
    (M0 : M 0 = ⊥) (L0 : L 0 = 0) (A0 : A 0 = 0)
    (hM : ∀ k < K, ∃ r : ℝ, M (k + 1) = r)
    (hL : ∀ k < K, L (k + 1) = Ideal.exp (M k - M (k + 1)) * L k + ∑ j, Ideal.exp ((s k j : EReal) - M (k + 1)))
    (hA : ∀ k < K, A (k + 1) = A k * Ideal.exp (M k - M (k + 1)) + ∑ j, Ideal.exp ((s k j : EReal) - M (k + 1)) * v k j)
    (n : ℕ) (hn : n < K) : ∃ μ : ℝ, M (n + 1) = μ ∧ L (n + 1) = den s μ (n + 1) ∧ A (n + 1) = num s v μ (n + 1) := by
  induction n with
  | zero =>
    obtain ⟨μ, hμ⟩ := hM 0 hn
    refine ⟨μ, hμ, ?_, ?_⟩
    · rw [hL 0 hn, L0, mul_zero, zero_add, hμ, den, sum_range_one]
      refine sum_congr rfl fun j _ => ?_
      rw [← EReal.coe_sub, Ideal.exp_coe]
    · rw [hA 0 hn, A0, zero_mul, zero_add, hμ, num, sum_range_one]
      refine sum_congr rfl fun j _ => ?_
      rw [← EReal.coe_sub, Ideal.exp_coe]
  | succ n ih =>
    obtain ⟨μ, h1, h2, h3⟩ := ih (by omega)
    obtain ⟨μ', hμ'⟩ := hM (n + 1) hn
    refine ⟨μ', hμ', ?_, ?_⟩
    · rw [hL (n + 1) hn, h1, h2, hμ', ← EReal.coe_sub, Ideal.exp_coe, den_shift, den, den, sum_range_succ _ (n + 1)]
      refine congrArg₂ (· + ·) rfl (sum_congr rfl fun j _ => ?_)
      rw [← EReal.coe_sub, Ideal.exp_coe]
    · rw [hA (n + 1) hn, h1, h3, hμ', ← EReal.coe_sub, Ideal.exp_coe, mul_comm, num_shift, num, num, sum_range_succ _ (n + 1)]
      refine congrArg₂ (· + ·) rfl (sum_congr rfl fun j _ => ?_)
      rw [← EReal.coe_sub, Ideal.exp_coe]

/-- The quotient of the two sums is the sum of the values at the normalized weights, at any shift. -/
theorem quotient {ι : Type} (S : Finset ι) (hS : S.Nonempty) (s : ι → ℝ) (v : ι → EReal) (μ μ' : ℝ) :
    Ideal.div (∑ i ∈ S, ((Real.exp (s i - μ) : ℝ) : EReal) * v i) (∑ i ∈ S, ((Real.exp (s i - μ) : ℝ) : EReal))
      = ∑ i ∈ S, Ideal.div ((Real.exp (s i - μ') : ℝ) : EReal) (∑ i ∈ S, ((Real.exp (s i - μ') : ℝ) : EReal)) * v i := by
  have coe_sum : ∀ m : ℝ, (∑ i ∈ S, ((Real.exp (s i - m) : ℝ) : EReal)) = ((∑ i ∈ S, Real.exp (s i - m) : ℝ) : EReal) := by
    intro m
    classical
    induction S using Finset.induction_on with
    | empty => simp
    | insert a S ha ih =>
      by_cases h : S.Nonempty
      · rw [sum_insert ha, sum_insert ha, ih h, EReal.coe_add]
      · rw [not_nonempty_iff_eq_empty.mp h]; simp
  have pos : ∀ m : ℝ, 0 < ∑ i ∈ S, Real.exp (s i - m) := fun m => sum_pos (fun i _ => Real.exp_pos _) hS
  rw [coe_sum, coe_sum, Ideal.div_coe (pos μ).ne', sum_mul_coe _ _ (by have := pos μ; positivity)]
  refine sum_congr rfl fun i _ => ?_
  rw [Ideal.div_coe (pos μ').ne', mul_right_comm, ← EReal.coe_mul, ← EReal.coe_mul]
  congr 2
  have h : ∑ i ∈ S, Real.exp (s i - μ') = Real.exp (μ - μ') * ∑ i ∈ S, Real.exp (s i - μ) := by
    rw [mul_sum]; exact sum_congr rfl fun i _ => (exp_shift _ _ _).symm
  rw [h, ← exp_shift (s i) μ μ']
  have h1 := (pos μ).ne'
  have h2 := (Real.exp_pos (μ - μ')).ne'
  field_simp

/-- Eight chunks of 512 are 4096. -/
theorem sum_chunks (f : ℕ → EReal) : ∑ c ∈ range 8, ∑ j : Fin 512, f (c * 512 + j.val) = ∑ k : Fin 4096, f k.val := by
  rw [← Fin.sum_univ_eq_sum_range (fun c => ∑ j : Fin 512, f (c * 512 + j.val)) 8, ← Fintype.sum_prod_type' (fun (c : Fin 8) (j : Fin 512) => f (c.val * 512 + j.val))]
  refine Fintype.sum_equiv (finProdFinEquiv (m := 8) (n := 512)) _ _ fun x => ?_
  congr 1
  simp [finProdFinEquiv]; ring

/-- A maximum over a nonempty finite set of reals, begun at `⊥`, is real. -/
theorem fold_max_real {ι : Type} (S : Finset ι) (hS : S.Nonempty) (f : ι → EReal) (s : ι → ℝ) (h : ∀ i ∈ S, f i = s i) :
    ∃ r : ℝ, S.fold max ⊥ f = r := by
  classical
  induction S using Finset.induction_on with
  | empty => exact absurd hS (by simp)
  | insert a S ha ih =>
    rw [fold_insert ha, h a (mem_insert_self _ _)]
    by_cases hne : S.Nonempty
    · obtain ⟨r, hr⟩ := ih hne fun i hi => h i (mem_insert_of_mem hi)
      rw [hr]; exact ⟨max (s a) r, (EReal.coe_strictMono.monotone.map_max).symm⟩
    · rw [not_nonempty_iff_eq_empty.mp hne, fold_empty, max_eq_left bot_le]; exact ⟨_, rfl⟩

end Online

end
-- ==== Proof.StepAt.lean ====
module

public import proofs.«01_k».proof.Proof.Block
public import proofs.«01_k».proof.Proof.Mat
public import proofs.«01_k».proof.Proof.Online

/-! One trip of a loop, read at an index over the extended reals. -/

@[expose] public section

noncomputable section

namespace Cert.KernelIdeal.Attn

open Cert.KernelIdeal Cert.KernelIdeal.Gen Idealize.ShloMosaic.TcCoe
open Idealize.ShloMosaic hiding ix1 ix2 ix3
open ValueIdx (ix1 ix2 ix3)

theorem qk_at (a : FVec Ideal S256x64 .bf16) (b : FVec Ideal S64x512 .bf16) (r : Fin 256) (j : Fin 512) :
    matmul dot_S256x64_S64x512_S256x512_1_0_0_1_n_n none a b (constant S256x512 .f32 0x00000000#32) (ix2 r j) = ∑ k : Fin 64, a (ix2 r k) * b (ix2 k j) := by
  refine Mat.matmul_at dot_S256x64_S64x512_S256x512_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

theorem pv_at (a : FVec Ideal S256x512 .bf16) (b : FVec Ideal S512x128 .bf16) (r : Fin 256) (j : Fin 128) :
    matmul dot_S256x512_S512x128_S256x128_1_0_0_1_n_n none a b (constant S256x128 .f32 0x00000000#32) (ix2 r j) = ∑ k : Fin 512, a (ix2 r k) * b (ix2 k j) := by
  refine Mat.matmul_at dot_S256x512_S512x128_S256x128_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

/-- The score of a query row against key `j` of a chunk. -/
def sc (q : FVec Ideal S256x64 .bf16) (kt : Vec Ideal S1x64x512 .bf16) (r : Fin 256) (j : Fin 512) : EReal :=
  ∑ d : Fin 64, q (ix2 r d) * kt (ix3 (0 : Fin 1) d j)

theorem pay7_at (q : FVec Ideal S256x64 .bf16) (kt : Vec Ideal S1x64x512 .bf16) (r : Fin 256) (j : Fin 512) :
    k0_pay7 q kt (ix2 r j) = sc q kt r j := by
  unfold k0_pay7 k0_pay6
  dsimp only
  rw [qk_at]
  refine Finset.sum_congr rfl fun d _ => ?_
  rw [shapeCast_apply _ _ _ (ix3 (0 : Fin 1) d j) (by simp [Shape.rowMajor_val_three, Shape.rowMajor_val_two])]

/-- The chunk's maximum as the kernel folds it. -/
def cmax (q : FVec Ideal S256x64 .bf16) (kt : Vec Ideal S1x64x512 .bf16) (r : Fin 256) : EReal :=
  (Finset.univ : Finset (Fin 512)).fold max ⊥ (fun j => sc q kt r j)

theorem pay8_at (q : FVec Ideal S256x64 .bf16) (m : FVec Ideal S256x1 .f32) (kt : Vec Ideal S1x64x512 .bf16) (r : Fin 256) :
    k0_pay8 q m kt (ix2 r 0) = max (m (ix2 r 0)) (cmax q kt r) := by
  unfold k0_pay8
  refine congrArg (max (m (ix2 r 0))) ?_
  refine (Mat.col_at _ _ r).trans ((Mat.rowmax_at _ _ _ _ r).trans ?_)
  exact congrArg (fun f => (Finset.univ : Finset (Fin 512)).fold max ⊥ f) (funext fun j => pay7_at q kt r j)

theorem pay9_at (q : FVec Ideal S256x64 .bf16) (m : FVec Ideal S256x1 .f32) (kt : Vec Ideal S1x64x512 .bf16) (r : Fin 256) :
    k0_pay9 q m kt (ix2 r 0) = Ideal.exp (m (ix2 r 0) - k0_pay8 q m kt (ix2 r 0)) := rfl

theorem pay10_at (q : FVec Ideal S256x64 .bf16) (m : FVec Ideal S256x1 .f32) (kt : Vec Ideal S1x64x512 .bf16) (r : Fin 256) (j : Fin 512) :
    k0_pay10 q m kt (ix2 r j) = Ideal.exp (sc q kt r j - k0_pay8 q m kt (ix2 r 0)) := by
  unfold k0_pay10
  refine congrArg Ideal.exp (congrArg₂ (· - ·) (pay7_at q kt r j) ?_)
  exact Mat.colbc_at (by decide) _ _ r j

theorem pay11_at (q : FVec Ideal S256x64 .bf16) (m l : FVec Ideal S256x1 .f32) (kt : Vec Ideal S1x64x512 .bf16) (r : Fin 256) :
    k0_pay11 q m l kt (ix2 r 0) = Ideal.exp (m (ix2 r 0) - k0_pay8 q m kt (ix2 r 0)) * l (ix2 r 0)
      + ∑ j : Fin 512, Ideal.exp (sc q kt r j - k0_pay8 q m kt (ix2 r 0)) := by
  unfold k0_pay11
  refine congrArg₂ (· + ·) rfl ?_
  refine (Mat.col_at _ _ r).trans ((Mat.rowsum_at _ _ _ _ r).trans ?_)
  exact Finset.sum_congr rfl fun j _ => pay10_at q m kt r j

theorem pay13_eq : k0_pay13 (F := Ideal) = k0_pay8 := rfl
theorem pay14_eq : k0_pay14 (F := Ideal) = k0_pay9 := rfl
theorem pay15_eq : k0_pay15 (F := Ideal) = k0_pay10 := rfl
theorem pay16_eq : k0_pay16 (F := Ideal) = k0_pay11 := rfl

theorem pay17_at (qe qo : FVec Ideal S256x64 .bf16) (me mo : FVec Ideal S256x1 .f32) (kt : Vec Ideal S1x64x512 .bf16)
    (vl vh : Vec Ideal S1x512x128 .bf16) (r : Fin 256) (d : Fin 128) :
    k0_pay17 qe qo me mo kt vl vh (ix2 r d)
      = (∑ j : Fin 512, Ideal.exp (sc qe kt r j - k0_pay8 qe me kt (ix2 r 0)) * vl (ix3 (0 : Fin 1) j d))
        + ∑ j : Fin 512, Ideal.exp (sc qo kt r j - k0_pay8 qo mo kt (ix2 r 0)) * vh (ix3 (0 : Fin 1) j d) := by
  unfold k0_pay17
  refine congrArg₂ (· + ·) ?_ ?_
  · refine (pv_at _ _ r d).trans (Finset.sum_congr rfl fun j _ => congrArg₂ (· * ·) (pay10_at qe me kt r j) ?_)
    exact shapeCast_apply _ _ _ (ix3 (0 : Fin 1) j d) (by simp [Shape.rowMajor_val_three, Shape.rowMajor_val_two])
  · refine (pv_at _ _ r d).trans (Finset.sum_congr rfl fun j _ => congrArg₂ (· * ·) (pay10_at qo mo kt r j) ?_)
    exact shapeCast_apply _ _ _ (ix3 (0 : Fin 1) j d) (by simp [Shape.rowMajor_val_three, Shape.rowMajor_val_two])

/-- Lanes below 64 belong to the even head. -/
theorem lane_bit : ∀ d : Fin 128, k0_pay58 (ix2 (0 : Fin 1) d) = if d.val < 64 then 1#1 else 0#1 := by decide +kernel

theorem mask_at (r : Fin 256) (d : Fin 128) : k0_pay18 k0_pay58 (ix2 r d) = if d.val < 64 then 1#1 else 0#1 := by
  unfold k0_pay18
  refine (Mat.rowbc_at (by decide) _ _ r d).trans ?_
  refine (congrFun (Mat.cast_self _ _) _).trans (lane_bit d)

theorem sel_at (a b : FVec Ideal S256x1 .f32) (r : Fin 256) (d : Fin 128) (h h' h₁ h₂) :
    select (k0_pay18 k0_pay58) (broadcastTo S256x128 (shapeCast S256x1 a h) h₁) (broadcastTo S256x128 (shapeCast S256x1 b h') h₂) (ix2 r d)
      = if d.val < 64 then a (ix2 r 0) else b (ix2 r 0) := by
  refine (ValueIdx.select_apply _ _ _ _).trans ?_
  rw [mask_at, Mat.cast_self, Mat.cast_self]
  split
  · rw [ValueIdx.select_one]; exact Mat.colbc_at (by decide) _ _ r d
  · rw [ValueIdx.select_zero]; exact Mat.colbc_at (by decide) _ _ r d

theorem pay3_at (acc : FVec Ideal S256x128 .f32) (ae ao : FVec Ideal S256x1 .f32) (pv : FVec Ideal S256x128 .f32) (r : Fin 256) (d : Fin 128) :
    k0_pay3 acc ae ao pv (k0_pay18 k0_pay58) (ix2 r d)
      = acc (ix2 r d) * (if d.val < 64 then ae (ix2 r 0) else ao (ix2 r 0)) + pv (ix2 r d) := by
  unfold k0_pay3
  exact congrArg₂ (· + ·) (congrArg (acc (ix2 r d) * ·) (sel_at ae ao r d _ _ _ _)) rfl

theorem pay4_at (le lo : FVec Ideal S256x1 .f32) (acc : FVec Ideal S256x128 .f32) (r : Fin 256) (d : Fin 128) :
    k0_pay4 k0_pay58 le lo acc (ix2 r d) = Ideal.div (acc (ix2 r d)) (if d.val < 64 then le (ix2 r 0) else lo (ix2 r 0)) := by
  unfold k0_pay4
  refine (congrFun (Mat.cast_self _ _) _).trans ?_
  exact congrArg (Ideal.div (acc (ix2 r d))) (sel_at le lo r d _ _ _ _)

end Cert.KernelIdeal.Attn

end
-- ==== Proof.PairAt.lean ====
module

public import proofs.«01_k».proof.Proof.StepAt

/-! A head pair's attention at an index: the softmax of the row's scores applied to the values. -/

@[expose] public section

noncomputable section

namespace Cert.KernelIdeal.Attn

open Cert.KernelIdeal Cert.KernelIdeal.Gen Idealize.ShloMosaic.TcCoe
open Idealize.ShloMosaic hiding ix1 ix2 ix3
open ValueIdx (ix1 ix2 ix3)

section Columns

variable (g : Fin 2) (qe qo : FVec Ideal S256x64 .bf16) (K : Vec Ideal S1x128x4096 .bf16) (VL VH : Vec Ideal S2x4096x128 .bf16)
  (r : Fin 256) (d : Fin 128) (s : ℕ → ℝ) (v : ℕ → EReal)

/-- A running maximum of real chunk maxima is real from the first chunk on. -/
theorem running_real (M : ℕ → EReal) (C : ℕ → ℝ) (h0 : M 0 = ⊥) (h : ∀ k < 8, M (k + 1) = max (M k) (C k : EReal)) (k : ℕ) (hk : k < 8) :
    ∃ x : ℝ, M (k + 1) = x := by
  induction k with
  | zero => exact ⟨C 0, by rw [h 0 hk, h0, max_eq_right bot_le]⟩
  | succ k ih =>
    obtain ⟨x, hx⟩ := ih (by omega)
    exact ⟨max x (C (k + 1)), by rw [h (k + 1) hk, hx]; exact (EReal.coe_strictMono.monotone.map_max).symm⟩

theorem cmax_real (q : FVec Ideal S256x64 .bf16) (hs : ∀ c (hc : c < 8) (j : Fin 512), sc q (ktc g K ⟨c, hc⟩) r j = (s (c * 512 + j.val) : EReal)) :
    ∃ C : ℕ → ℝ, ∀ c (hc : c < 8), cmax q (ktc g K ⟨c, hc⟩) r = (C c : EReal) := by
  have h : ∀ c, ∃ x : ℝ, ∀ hc : c < 8, cmax q (ktc g K ⟨c, hc⟩) r = (x : EReal) := by
    intro c
    by_cases hc : c < 8
    · obtain ⟨x, hx⟩ := Online.fold_max_real Finset.univ ⟨(0 : Fin 512), Finset.mem_univ _⟩ (fun j => sc q (ktc g K ⟨c, hc⟩) r j) (fun j => s (c * 512 + j.val)) (fun j _ => hs c hc j)
      exact ⟨x, fun _ => hx⟩
    · exact ⟨0, fun h => absurd h hc⟩
  choose C hC using h
  exact ⟨C, hC⟩

theorem even_col (hd : d.val < 64)
    (hs : ∀ c (hc : c < 8) (j : Fin 512), sc qe (ktc g K ⟨c, hc⟩) r j = (s (c * 512 + j.val) : EReal))
    (hv : ∀ c (hc : c < 8) (j : Fin 512), vc g VL ⟨c, hc⟩ (ix3 (0 : Fin 1) j d) = v (c * 512 + j.val))
    (hz : ∀ c (hc : c < 8) (j : Fin 512), vc g VH ⟨c, hc⟩ (ix3 (0 : Fin 1) j d) = 0) :
    ∃ μ : ℝ, (fold g qe qo K VL VH 8).2.1 (ix2 r 0) = Online.den (fun c (j : Fin 512) => s (c * 512 + j.val)) μ 8
      ∧ (fold g qe qo K VL VH 8).2.2.2.2 (ix2 r d) = Online.num (fun c (j : Fin 512) => s (c * 512 + j.val)) (fun c j => v (c * 512 + j.val)) μ 8 := by
  obtain ⟨C, hC⟩ := cmax_real g K r s qe hs
  have hM : ∀ k < 8, (fold g qe qo K VL VH (k + 1)).1 (ix2 r 0) = max ((fold g qe qo K VL VH k).1 (ix2 r 0)) (C k : EReal) := by
    intro k hk
    rw [fold_succ g qe qo K VL VH k hk, ← hC k hk]
    exact pay8_at _ _ _ r
  obtain ⟨μ, -, h2, h3⟩ := Online.one_pass (fun c (j : Fin 512) => s (c * 512 + j.val)) (fun c j => v (c * 512 + j.val))
    (fun n => (fold g qe qo K VL VH n).1 (ix2 r 0)) (fun n => (fold g qe qo K VL VH n).2.1 (ix2 r 0)) (fun n => (fold g qe qo K VL VH n).2.2.2.2 (ix2 r d)) 8
    Mat.ofBits_negInf Ideal.ofBits_zero_f32 Ideal.ofBits_zero_f32
    (running_real (fun n => (fold g qe qo K VL VH n).1 (ix2 r 0)) C Mat.ofBits_negInf hM)
    (by
      intro k hk
      rw [fold_succ g qe qo K VL VH k hk]
      refine (pay11_at _ _ _ _ r).trans (congrArg₂ (· + ·) rfl (Finset.sum_congr rfl fun j _ => ?_))
      rw [hs k hk j]; rfl)
    (by
      intro k hk
      rw [fold_succ g qe qo K VL VH k hk]
      refine (pay3_at _ _ _ _ r d).trans (congrArg₂ (· + ·) ?_ ?_)
      · rw [if_pos hd]; rfl
      · refine (pay17_at _ _ _ _ _ _ _ r d).trans ?_
        rw [Finset.sum_eq_zero (f := fun j : Fin 512 => Ideal.exp (sc qo _ r j - _) * vc g VH ⟨k, hk⟩ (ix3 (0 : Fin 1) j d)) (fun j _ => by rw [hz k hk j, mul_zero]), add_zero]
        refine Finset.sum_congr rfl fun j _ => ?_
        rw [hs k hk j, hv k hk j]; rfl)
    7 (by omega)
  exact ⟨μ, h2, h3⟩

theorem odd_col (hd : ¬d.val < 64)
    (hs : ∀ c (hc : c < 8) (j : Fin 512), sc qo (ktc g K ⟨c, hc⟩) r j = (s (c * 512 + j.val) : EReal))
    (hv : ∀ c (hc : c < 8) (j : Fin 512), vc g VH ⟨c, hc⟩ (ix3 (0 : Fin 1) j d) = v (c * 512 + j.val))
    (hz : ∀ c (hc : c < 8) (j : Fin 512), vc g VL ⟨c, hc⟩ (ix3 (0 : Fin 1) j d) = 0) :
    ∃ μ : ℝ, (fold g qe qo K VL VH 8).2.2.2.1 (ix2 r 0) = Online.den (fun c (j : Fin 512) => s (c * 512 + j.val)) μ 8
      ∧ (fold g qe qo K VL VH 8).2.2.2.2 (ix2 r d) = Online.num (fun c (j : Fin 512) => s (c * 512 + j.val)) (fun c j => v (c * 512 + j.val)) μ 8 := by
  obtain ⟨C, hC⟩ := cmax_real g K r s qo hs
  have hM : ∀ k < 8, (fold g qe qo K VL VH (k + 1)).2.2.1 (ix2 r 0) = max ((fold g qe qo K VL VH k).2.2.1 (ix2 r 0)) (C k : EReal) := by
    intro k hk
    rw [fold_succ g qe qo K VL VH k hk, ← hC k hk]
    exact pay8_at _ _ _ r
  obtain ⟨μ, -, h2, h3⟩ := Online.one_pass (fun c (j : Fin 512) => s (c * 512 + j.val)) (fun c j => v (c * 512 + j.val))
    (fun n => (fold g qe qo K VL VH n).2.2.1 (ix2 r 0)) (fun n => (fold g qe qo K VL VH n).2.2.2.1 (ix2 r 0)) (fun n => (fold g qe qo K VL VH n).2.2.2.2 (ix2 r d)) 8
    Mat.ofBits_negInf Ideal.ofBits_zero_f32 Ideal.ofBits_zero_f32
    (running_real (fun n => (fold g qe qo K VL VH n).2.2.1 (ix2 r 0)) C Mat.ofBits_negInf hM)
    (by
      intro k hk
      rw [fold_succ g qe qo K VL VH k hk]
      refine (pay11_at _ _ _ _ r).trans (congrArg₂ (· + ·) rfl (Finset.sum_congr rfl fun j _ => ?_))
      rw [hs k hk j]; rfl)
    (by
      intro k hk
      rw [fold_succ g qe qo K VL VH k hk]
      refine (pay3_at _ _ _ _ r d).trans (congrArg₂ (· + ·) ?_ ?_)
      · rw [if_neg hd]; rfl
      · refine (pay17_at _ _ _ _ _ _ _ r d).trans ?_
        rw [Finset.sum_eq_zero (f := fun j : Fin 512 => Ideal.exp (sc qe _ r j - _) * vc g VL ⟨k, hk⟩ (ix3 (0 : Fin 1) j d)) (fun j _ => by rw [hz k hk j, mul_zero]), zero_add]
        refine Finset.sum_congr rfl fun j _ => ?_
        rw [hs k hk j, hv k hk j]; rfl)
    7 (by omega)
  exact ⟨μ, h2, h3⟩

end Columns

/-- Softmax of the scores `s` at shift `μ` applied to the values `v`, over 4096 keys. -/
def soft (s : ℕ → ℝ) (v : ℕ → EReal) (μ : ℝ) : EReal :=
  ∑ k : Fin 4096, Ideal.div ((Real.exp (s k.val - μ) : ℝ) : EReal) (∑ k : Fin 4096, ((Real.exp (s k.val - μ) : ℝ) : EReal)) * v k.val

theorem div_soft (s : ℕ → ℝ) (v : ℕ → EReal) (μ μ' : ℝ) :
    Ideal.div (Online.num (fun c (j : Fin 512) => s (c * 512 + j.val)) (fun c j => v (c * 512 + j.val)) μ 8)
      (Online.den (fun c (j : Fin 512) => s (c * 512 + j.val)) μ 8) = soft s v μ' := by
  unfold Online.num Online.den soft
  rw [Online.sum_chunks (fun k => ((Real.exp (s k - μ) : ℝ) : EReal) * v k), Online.sum_chunks (fun k => ((Real.exp (s k - μ) : ℝ) : EReal))]
  exact Online.quotient Finset.univ ⟨(0 : Fin 4096), Finset.mem_univ _⟩ (fun k : Fin 4096 => s k.val) (fun k => v k.val) μ μ'

end Cert.KernelIdeal.Attn

end
-- ==== Proof.BlockAt.lean ====
module

public import proofs.«01_k».proof.Proof.PairAt
public import Idealize.ShloMosaic.Lib.KernelVsHost

/-! A grid point's block and the two copies of the values, read at an index over the extended reals. -/

@[expose] public section

noncomputable section

namespace Cert.KernelIdeal.Attn

open Cert.KernelIdeal Cert.KernelIdeal.Gen Idealize.ShloMosaic.TcCoe
open Idealize.ShloMosaic hiding ix1 ix2 ix3
open ValueIdx (ix1 ix2 ix3)

theorem pay67_at (x : Vec Ideal S1x256x128 .bf16) (r : Fin 256) (d : Fin 64) :
    k0_pay67 x (ix2 r d) = x (ix3 (0 : Fin 1) r (⟨d.val, by omega⟩ : Fin 128)) := by
  unfold k0_pay67 k0_pay66
  refine (extractStridedSlice_apply _ _ _ (ix2 r d) (ix2 r (⟨d.val, by omega⟩ : Fin 128)) ?_).trans ?_
  · intro a
    match a with
    | ⟨0, _⟩ => exact (Nat.zero_add _).symm
    | ⟨1, _⟩ => exact (Nat.zero_add _).symm
  · refine shapeCast_apply _ _ _ _ ?_
    rw [Shape.rowMajor_val_two, Shape.rowMajor_val_three]
    show (0 * 256 + r.val) * 128 + d.val = r.val * 128 + d.val
    omega

theorem pay68_at (x : Vec Ideal S1x256x128 .bf16) (r : Fin 256) (d : Fin 64) :
    k0_pay68 x (ix2 r d) = x (ix3 (0 : Fin 1) r (⟨64 + d.val, by omega⟩ : Fin 128)) := by
  unfold k0_pay68 k0_pay66
  refine (extractStridedSlice_apply _ _ _ (ix2 r d) (ix2 r (⟨64 + d.val, by omega⟩ : Fin 128)) ?_).trans ?_
  · intro a
    match a with
    | ⟨0, _⟩ => exact (Nat.zero_add _).symm
    | ⟨1, _⟩ => rfl
  · refine shapeCast_apply _ _ _ _ ?_
    rw [Shape.rowMajor_val_two, Shape.rowMajor_val_three]
    show (0 * 256 + r.val) * 128 + (64 + d.val) = r.val * 128 + (64 + d.val)
    omega

section Pairs
variable (g : Fin 2) (xq : Vec Ideal S1x256x128 .bf16) (K : Vec Ideal S1x128x4096 .bf16) (VL VH : Vec Ideal S2x4096x128 .bf16)
  (r : Fin 256) (d : Fin 128) (s : ℕ → ℝ) (v : ℕ → EReal) (μ : ℝ)

/-- Key `c * 512 + j`. -/
abbrev key (c : Fin 8) (j : Fin 512) : Fin 4096 := ⟨c.val * 512 + j.val, by omega⟩

/-- Row `g * 64 + d` of the keys. -/
abbrev krow (d : Fin 64) : Fin 128 := ⟨g.val * 64 + d.val, by omega⟩

theorem pair_even (hd : d.val < 64)
    (hs : ∀ k : Fin 4096, (∑ d : Fin 64, xq (ix3 (0 : Fin 1) r (⟨d.val, by omega⟩ : Fin 128)) * K (ix3 (0 : Fin 1) (krow g d) k)) = (s k.val : EReal))
    (hv : ∀ k : Fin 4096, VL (ix3 g k d) = v k.val) (hz : ∀ k : Fin 4096, VH (ix3 g k d) = 0) :
    pair g xq K VL VH (ix2 r d) = soft s v μ := by
  obtain ⟨μ', h1, h2⟩ := even_col g (k0_pay67 xq) (k0_pay68 xq) K VL VH r d s v hd
    (fun c hc j => (Finset.sum_congr rfl fun d _ => congrArg₂ (· * ·) (pay67_at xq r d) rfl).trans (hs (key ⟨c, hc⟩ j)))
    (fun c hc j => hv (key ⟨c, hc⟩ j)) (fun c hc j => hz (key ⟨c, hc⟩ j))
  refine (pay4_at _ _ _ r d).trans ?_
  rw [if_pos hd, h1, h2]
  exact div_soft s v μ' μ

theorem pair_odd (hd : ¬d.val < 64)
    (hs : ∀ k : Fin 4096, (∑ d : Fin 64, xq (ix3 (0 : Fin 1) r (⟨64 + d.val, by omega⟩ : Fin 128)) * K (ix3 (0 : Fin 1) (krow g d) k)) = (s k.val : EReal))
    (hv : ∀ k : Fin 4096, VH (ix3 g k d) = v k.val) (hz : ∀ k : Fin 4096, VL (ix3 g k d) = 0) :
    pair g xq K VL VH (ix2 r d) = soft s v μ := by
  obtain ⟨μ', h1, h2⟩ := odd_col g (k0_pay67 xq) (k0_pay68 xq) K VL VH r d s v hd
    (fun c hc j => (Finset.sum_congr rfl fun d _ => congrArg₂ (· * ·) (pay68_at xq r d) rfl).trans (hs (key ⟨c, hc⟩ j)))
    (fun c hc j => hv (key ⟨c, hc⟩ j)) (fun c hc j => hz (key ⟨c, hc⟩ j))
  refine (pay4_at _ _ _ r d).trans ?_
  rw [if_neg hd, h1, h2]
  exact div_soft s v μ' μ

end Pairs

section Values
variable (x : Vec Ideal S1x4096x128 .bf16) (k : Fin 4096) (d : Fin 128)

theorem pay59_at : k0_pay59 x (ix2 k d) = x (ix3 (0 : Fin 1) k d) := by
  unfold k0_pay59
  refine shapeCast_apply _ _ _ _ ?_
  rw [Shape.rowMajor_val_two, Shape.rowMajor_val_three]
  show (0 * 4096 + k.val) * 128 + d.val = k.val * 128 + d.val
  omega

theorem pay60_at : k0_pay60 x (ix2 k d) = x (ix3 (0 : Fin 1) k (⟨(d.val + 64) % 128, by omega⟩ : Fin 128)) := by
  unfold k0_pay60
  refine (dynamicRotate_apply (1 : Fin S4096x128.rank) 64#32 (k0_pay59 x) rotates_S4096x128_d1 (ix2 k d) (ix2 k (⟨(d.val + 64) % 128, by omega⟩ : Fin 128)) ?_).trans (pay59_at x k _)
  intro a
  match a with
  | ⟨0, _⟩ => rfl
  | ⟨1, _⟩ => rfl

theorem wide_mask : broadcastTo S4096x128 (shapeCast S1x128 k0_pay58 shapeCasts_S1x128_S1x128) broadcasts_S1x128_S4096x128 (ix2 k d) = if d.val < 64 then 1#1 else 0#1 := by
  refine (Mat.rowbc_at (by decide) _ _ k d).trans ?_
  exact (congrFun (Mat.cast_self _ _) _).trans (lane_bit d)

theorem wide_sel (a b : FVec Ideal S4096x128 .bf16) (i : Fin 1) :
    shapeCast S1x4096x128 (select (broadcastTo S4096x128 (shapeCast S1x128 k0_pay58 shapeCasts_S1x128_S1x128) broadcasts_S1x128_S4096x128) a b) shapeCasts_S4096x128_S1x4096x128 (ix3 i k d)
      = if d.val < 64 then a (ix2 k d) else b (ix2 k d) := by
  refine (shapeCast_apply _ _ _ (ix2 k d) ?_).trans ?_
  · rw [Shape.rowMajor_val_two, Shape.rowMajor_val_three]
    show k.val * 128 + d.val = (i.val * 4096 + k.val) * 128 + d.val
    omega
  · refine (ValueIdx.select_apply _ _ _ _).trans ?_
    rw [wide_mask]
    split
    · rfl
    · rfl

theorem zero_at : k0_pay61 (F := Ideal) (ix2 k d) = 0 := Ideal.ofBits_zero_bf16

/-- Two halves stored one after the other into the halves of a scratch. -/
theorem halves_at (P Q : Vec Ideal S1x4096x128 .bf16) (g : Fin 2) :
    View.canon [
      (⟨Rect.unit (s := S2x4096x128) ![1, 0, 0] ![1, 4096, 128] inb_S2x4096x128_S1x4096x128_1_0_0, Q⟩ : View.Piece (Elt Ideal) S2x4096x128 .bf16),
      ⟨Rect.unit (s := S2x4096x128) ![0, 0, 0] ![1, 4096, 128] inb_S2x4096x128_S1x4096x128_0_0_0, P⟩] (ix3 g k d)
      = if g.val = 0 then P (ix3 (0 : Fin 1) k d) else Q (ix3 (0 : Fin 1) k d) := by
  refine View.canon_apply_of_pieces (S := S2x4096x128) (fun y => if (y 0).val = 0 then P (ix3 (0 : Fin 1) (y 1) (y 2)) else Q (ix3 (0 : Fin 1) (y 1) (y 2))) _ ?_ _ ?_
  · intro pc hpc z
    rcases List.mem_cons.mp hpc with rfl | hpc
    · have h0 : (z 0).val < 1 := (z 0).isLt
      refine Eq.trans ?_ (if_neg ?_).symm
      · refine congrArg Q (funext fun a => ?_)
        match a with
        | ⟨0, _⟩ => apply Fin.ext; show (z 0).val = 0; omega
        | ⟨1, _⟩ => apply Fin.ext; show (z 1).val = 0 + 1 * (z 1).val; omega
        | ⟨2, _⟩ => apply Fin.ext; show (z 2).val = 0 + 1 * (z 2).val; omega
      · intro h
        have h' : 1 + 1 * (z 0).val = 0 := h
        omega
    rcases List.mem_cons.mp hpc with rfl | hpc
    · have h0 : (z 0).val < 1 := (z 0).isLt
      refine Eq.trans ?_ (if_pos ?_).symm
      · refine congrArg P (funext fun a => ?_)
        match a with
        | ⟨0, _⟩ => apply Fin.ext; show (z 0).val = 0; omega
        | ⟨1, _⟩ => apply Fin.ext; show (z 1).val = 0 + 1 * (z 1).val; omega
        | ⟨2, _⟩ => apply Fin.ext; show (z 2).val = 0 + 1 * (z 2).val; omega
      · show 0 + 1 * (z 0).val = 0
        omega
    nomatch hpc
  · by_cases h : g.val = 0
    · refine ⟨_, List.mem_cons_of_mem _ List.mem_cons_self, ?_⟩
      show _ ∈ (Rect.unit (s := S2x4096x128) ![0, 0, 0] ![1, 4096, 128] inb_S2x4096x128_S1x4096x128_0_0_0).set
      refine Rect.mem_set_unit.mpr fun a => ?_
      match a with
      | ⟨0, _⟩ => exact ⟨Nat.zero_le _, by show g.val < 0 + 1; omega⟩
      | ⟨1, _⟩ => exact ⟨Nat.zero_le _, by show k.val < 0 + 4096; omega⟩
      | ⟨2, _⟩ => exact ⟨Nat.zero_le _, by show d.val < 0 + 128; omega⟩
    · refine ⟨_, List.mem_cons_self, ?_⟩
      show _ ∈ (Rect.unit (s := S2x4096x128) ![1, 0, 0] ![1, 4096, 128] inb_S2x4096x128_S1x4096x128_1_0_0).set
      refine Rect.mem_set_unit.mpr fun a => ?_
      match a with
      | ⟨0, _⟩ => exact ⟨by show 1 ≤ g.val; omega, by show g.val < 1 + 1; omega⟩
      | ⟨1, _⟩ => exact ⟨Nat.zero_le _, by show k.val < 0 + 4096; omega⟩
      | ⟨2, _⟩ => exact ⟨Nat.zero_le _, by show d.val < 0 + 128; omega⟩

/-- Lanes 0–63 of the first copy hold the head group's values. -/
theorem vlo_low (g : Fin 2) (hd : d.val < 64) : vlo x (ix3 g k d) = x (ix3 (0 : Fin 1) k (⟨g.val * 64 + d.val, by omega⟩ : Fin 128)) := by
  refine (halves_at k d _ _ g).trans ?_
  match g with
  | 0 => exact (if_pos rfl).trans ((wide_sel k d _ _ 0).trans ((if_pos hd).trans ((pay59_at x k d).trans (congrArg (fun z => x (ix3 (0 : Fin 1) k z)) (Fin.ext (by show d.val = 0 * 64 + d.val; omega))))))
  | 1 => exact (if_neg (by decide)).trans ((wide_sel k d _ _ 0).trans ((if_pos hd).trans ((pay60_at x k d).trans (congrArg (fun z => x (ix3 (0 : Fin 1) k z)) (Fin.ext (by show (d.val + 64) % 128 = 1 * 64 + d.val; omega))))))

theorem vlo_high (g : Fin 2) (hd : ¬d.val < 64) : vlo x (ix3 g k d) = 0 := by
  refine (halves_at k d _ _ g).trans ?_
  match g with
  | 0 => exact (if_pos rfl).trans ((wide_sel k d _ _ 0).trans ((if_neg hd).trans (zero_at k d)))
  | 1 => exact (if_neg (by decide)).trans ((wide_sel k d _ _ 0).trans ((if_neg hd).trans (zero_at k d)))

/-- Lanes 64–127 of the second copy hold the head group's values. -/
theorem vhi_high (g : Fin 2) (hd : ¬d.val < 64) : vhi x (ix3 g k d) = x (ix3 (0 : Fin 1) k (⟨g.val * 64 + (d.val - 64), by omega⟩ : Fin 128)) := by
  refine (halves_at k d _ _ g).trans ?_
  match g with
  | 0 => exact (if_pos rfl).trans ((wide_sel k d _ _ 0).trans ((if_neg hd).trans ((pay60_at x k d).trans (congrArg (fun z => x (ix3 (0 : Fin 1) k z)) (Fin.ext (by show (d.val + 64) % 128 = 0 * 64 + (d.val - 64); omega))))))
  | 1 => exact (if_neg (by decide)).trans ((wide_sel k d _ _ 0).trans ((if_neg hd).trans ((pay59_at x k d).trans (congrArg (fun z => x (ix3 (0 : Fin 1) k z)) (Fin.ext (by show d.val = 1 * 64 + (d.val - 64); omega))))))

theorem vhi_low (g : Fin 2) (hd : d.val < 64) : vhi x (ix3 g k d) = 0 := by
  refine (halves_at k d _ _ g).trans ?_
  match g with
  | 0 => exact (if_pos rfl).trans ((wide_sel k d _ _ 0).trans ((if_pos hd).trans (zero_at k d)))
  | 1 => exact (if_neg (by decide)).trans ((wide_sel k d _ _ 0).trans ((if_pos hd).trans (zero_at k d)))

end Values

/-- Four pairs stored side by side. -/
theorem quarters_at (P : Fin 4 → Vec Ideal S256x128 .f32) (r : Fin 256) (p : Fin 4) (d : Fin 128) :
    View.canon [
      (⟨Rect.unit (s := S256x512) ![0, 384] ![256, 128] inb_S256x512_S256x128_0_384, P 3⟩ : View.Piece (Elt Ideal) S256x512 .f32),
      ⟨Rect.unit (s := S256x512) ![0, 256] ![256, 128] inb_S256x512_S256x128_0_256, P 2⟩,
      ⟨Rect.unit (s := S256x512) ![0, 128] ![256, 128] inb_S256x512_S256x128_0_128, P 1⟩,
      ⟨Rect.unit (s := S256x512) ![0, 0] ![256, 128] inb_S256x512_S256x128_0_0, P 0⟩] (ix2 r (⟨p.val * 128 + d.val, by omega⟩ : Fin 512))
      = P p (ix2 r d) := by
  have key : ∀ (p : Fin 4) (z : S256x128.Idx) (y : S256x512.Idx), (y 0).val = 0 + 1 * (z 0).val → (y 1).val = p.val * 128 + 1 * (z 1).val →
      P p z = P (⟨(y 1).val / 128, by have := (y 1).isLt; change (y 1).val < 512 at this; omega⟩ : Fin 4) (ix2 (y 0) (⟨(y 1).val % 128, by omega⟩ : Fin 128)) := by
    intro p z y h0 h1
    have hz1 : (z 1).val < 128 := (z 1).isLt
    have hp : (⟨(y 1).val / 128, by have := (y 1).isLt; change (y 1).val < 512 at this; omega⟩ : Fin 4) = p := Fin.ext (by show (y 1).val / 128 = p.val; omega)
    rw [hp]
    refine congrArg (P p) (funext fun a => ?_)
    match a with
    | ⟨0, _⟩ => apply Fin.ext; show (z 0).val = (y 0).val; omega
    | ⟨1, _⟩ => apply Fin.ext; show (z 1).val = (y 1).val % 128; omega
  refine (View.canon_apply_of_pieces (S := S256x512) (fun y => P (⟨(y 1).val / 128, by have := (y 1).isLt; change (y 1).val < 512 at this; omega⟩ : Fin 4) (ix2 (y 0) (⟨(y 1).val % 128, by omega⟩ : Fin 128))) _ ?_ _ ?_).trans (key p (ix2 r d) _ ?_ ?_).symm
  · intro pc hpc z
    rcases List.mem_cons.mp hpc with rfl | hpc
    · exact key 3 z _ rfl rfl
    rcases List.mem_cons.mp hpc with rfl | hpc
    · exact key 2 z _ rfl rfl
    rcases List.mem_cons.mp hpc with rfl | hpc
    · exact key 1 z _ rfl rfl
    rcases List.mem_cons.mp hpc with rfl | hpc
    · exact key 0 z _ rfl rfl
    nomatch hpc
  · match p with
    | 3 =>
      refine ⟨_, List.mem_cons_self, ?_⟩
      show _ ∈ (Rect.unit (s := S256x512) ![0, 384] ![256, 128] inb_S256x512_S256x128_0_384).set
      exact Rect.mem_set_unit.mpr fun a => match a with
      | ⟨0, _⟩ => ⟨Nat.zero_le _, by show r.val < 0 + 256; omega⟩
      | ⟨1, _⟩ => ⟨by show 384 ≤ 3 * 128 + d.val; omega, by show 3 * 128 + d.val < 384 + 128; omega⟩
    | 2 =>
      refine ⟨_, List.mem_cons_of_mem _ List.mem_cons_self, ?_⟩
      show _ ∈ (Rect.unit (s := S256x512) ![0, 256] ![256, 128] inb_S256x512_S256x128_0_256).set
      exact Rect.mem_set_unit.mpr fun a => match a with
      | ⟨0, _⟩ => ⟨Nat.zero_le _, by show r.val < 0 + 256; omega⟩
      | ⟨1, _⟩ => ⟨by show 256 ≤ 2 * 128 + d.val; omega, by show 2 * 128 + d.val < 256 + 128; omega⟩
    | 1 =>
      refine ⟨_, List.mem_cons_of_mem _ (List.mem_cons_of_mem _ List.mem_cons_self), ?_⟩
      show _ ∈ (Rect.unit (s := S256x512) ![0, 128] ![256, 128] inb_S256x512_S256x128_0_128).set
      exact Rect.mem_set_unit.mpr fun a => match a with
      | ⟨0, _⟩ => ⟨Nat.zero_le _, by show r.val < 0 + 256; omega⟩
      | ⟨1, _⟩ => ⟨by show 128 ≤ 1 * 128 + d.val; omega, by show 1 * 128 + d.val < 128 + 128; omega⟩
    | 0 =>
      refine ⟨_, List.mem_cons_of_mem _ (List.mem_cons_of_mem _ (List.mem_cons_of_mem _ List.mem_cons_self)), ?_⟩
      show _ ∈ (Rect.unit (s := S256x512) ![0, 0] ![256, 128] inb_S256x512_S256x128_0_0).set
      exact Rect.mem_set_unit.mpr fun a => match a with
      | ⟨0, _⟩ => ⟨Nat.zero_le _, by show r.val < 0 + 256; omega⟩
      | ⟨1, _⟩ => ⟨by show 0 ≤ 0 * 128 + d.val; omega, by show 0 * 128 + d.val < 0 + 128; omega⟩
  · show r.val = 0 + 1 * r.val; omega
  · show p.val * 128 + d.val = p.val * 128 + 1 * d.val; omega

/-- The head group of head pair `p`. -/
abbrev grp (p : Fin 4) : Fin 2 := ⟨p.val / 2, by omega⟩

theorem nums_at (x0 : Vec Ideal S1x256x512 .bf16) (K : Vec Ideal S1x128x4096 .bf16) (VL VH : Vec Ideal S2x4096x128 .bf16) (r : Fin 256) (p : Fin 4) (d : Fin 128) :
    nums x0 K VL VH (ix2 r (⟨p.val * 128 + d.val, by omega⟩ : Fin 512)) = pair (grp p) (qpair x0 p) K VL VH (ix2 r d) :=
  quarters_at (fun p => pair (grp p) (qpair x0 p) K VL VH) r p d

/-- The sum of a row's squares over its 512 columns, over 512, plus the norm's offset. -/
def meansq (x : Fin 512 → EReal) : EReal :=
  Ideal.div (∑ j : Fin 512, x j * x j) (Ideal.ofBits .f32 0x44000000#32) + Ideal.ofBits .f32 0x358637BD#32

/-- A row's rms norm with gain. -/
def rms (x g : Fin 512 → EReal) (e : Fin 512) : EReal := x e * Ideal.rsqrt (meansq x) * g e

theorem pay5_at (x : Vec Ideal S256x512 .f32) (g : Vec Ideal S1x512 .f32) (r : Fin 256) (e : Fin 512) (i : Fin 1) :
    k0_pay5 x g (ix3 i r e) = rms (fun j => x (ix2 r j)) (fun j => g (ix2 0 j)) e := by
  unfold k0_pay5
  refine (shapeCast_apply _ _ _ (ix2 r e) ?_).trans ?_
  · rw [Shape.rowMajor_val_two, Shape.rowMajor_val_three]
    show r.val * 512 + e.val = (i.val * 256 + r.val) * 512 + e.val
    omega
  refine congrArg₂ (· * ·) (congrArg (x (ix2 r e) * ·) ?_) (Mat.rowbc_at (by decide) _ _ r e)
  refine (Mat.colbc_at (by decide) _ _ r e).trans ?_
  refine congrArg Ideal.rsqrt (congrArg (fun z => Ideal.div z (Ideal.ofBits .f32 0x44000000#32) + Ideal.ofBits .f32 0x358637BD#32) ?_)
  exact (Mat.col_at _ _ r).trans ((Mat.rowsum_at _ _ _ _ r).trans rfl)

end Cert.KernelIdeal.Attn

end
-- ==== Proof.Spec.lean ====
module

public import proofs.«01_k».proof.Proof.BlockAt

/-! Grouped-query softmax attention with an rms norm, entry by entry, over the extended reals. -/

@[expose] public section

noncomputable section

namespace Spec

open Idealize.ShloMosaic.ValueIdx (ix1 ix2 ix3)

abbrev QArr := (⟨3, ![4, 4096, 512]⟩ : Idealize.ShloMosaic.Shape).Idx → EReal
abbrev KArr := (⟨3, ![4, 128, 4096]⟩ : Idealize.ShloMosaic.Shape).Idx → EReal
abbrev VArr := (⟨3, ![4, 4096, 128]⟩ : Idealize.ShloMosaic.Shape).Idx → EReal

/-- Column `d` of head `h` among the 512 columns. -/
abbrev col (h : Fin 8) (d : Fin 64) : Fin 512 := ⟨h.val * 64 + d.val, by omega⟩

/-- Column `d` of the key–value head that query head `h` reads, among the 128. -/
abbrev kcol (h : Fin 8) (d : Fin 64) : Fin 128 := ⟨h.val / 4 * 64 + d.val, by omega⟩

/-- The score of query row `R` against key `k` in head `h` of batch `b`. -/
def score (Q : QArr) (K : KArr) (b : Fin 4) (R : Fin 4096) (h : Fin 8) (k : Fin 4096) : EReal :=
  ∑ d : Fin 64, Q (ix3 b R (col h d)) * K (ix3 b (kcol h d) k)

/-- The scores of a row as reals, numbered by the keys. -/
def sreal (Q : QArr) (K : KArr) (b : Fin 4) (R : Fin 4096) (h : Fin 8) (k : ℕ) : ℝ :=
  if hk : k < 4096 then (score Q K b R h ⟨k, hk⟩).toReal else 0

/-- A value column, numbered by the keys. -/
def vcol (V : VArr) (b : Fin 4) (h : Fin 8) (d : Fin 64) (k : ℕ) : EReal :=
  if hk : k < 4096 then V (ix3 b ⟨k, hk⟩ (kcol h d)) else 0

/-- The head of column `e`, and the column inside it. -/
abbrev hd (e : Fin 512) : Fin 8 := ⟨e.val / 64, by omega⟩
abbrev ln (e : Fin 512) : Fin 64 := ⟨e.val % 64, by omega⟩

/-- The attention output before the norm, every row's softmax taken at shift `μ b R h`. -/
def att (Q : QArr) (K : KArr) (V : VArr) (μ : Fin 4 → Fin 4096 → Fin 8 → ℝ) (b : Fin 4) (R : Fin 4096) (e : Fin 512) : EReal :=
  Cert.KernelIdeal.Attn.soft (sreal Q K b R (hd e)) (vcol V b (hd e) (ln e)) (μ b R (hd e))

/-- Every score is a real. -/
def Real (Q : QArr) (K : KArr) : Prop := ∀ b R h k, ∃ x : ℝ, score Q K b R h k = (x : EReal)

theorem sreal_eq {Q : QArr} {K : KArr} (H : Real Q K) (b : Fin 4) (R : Fin 4096) (h : Fin 8) (k : Fin 4096) :
    score Q K b R h k = (sreal Q K b R h k.val : EReal) := by
  obtain ⟨x, hx⟩ := H b R h k
  unfold sreal
  rw [dif_pos k.isLt]
  show _ = ((score Q K b R h k).toReal : EReal)
  rw [hx, EReal.toReal_coe]

theorem vcol_eq (V : VArr) (b : Fin 4) (h : Fin 8) (d : Fin 64) (k : Fin 4096) : vcol V b h d k.val = V (ix3 b k (kcol h d)) :=
  dif_pos k.isLt

/-- A finite sum of reals is real. -/
theorem sum_real {ι : Type} (S : Finset ι) (f : ι → EReal) (hf : ∀ i, ∃ x : ℝ, f i = (x : EReal)) : ∃ x : ℝ, (∑ i ∈ S, f i) = (x : EReal) := by
  classical
  induction S using Finset.induction_on with
  | empty => exact ⟨0, by rw [Finset.sum_empty, EReal.coe_zero]⟩
  | insert a S ha ih =>
    obtain ⟨x, hx⟩ := ih
    obtain ⟨y, hy⟩ := hf a
    exact ⟨y + x, by rw [Finset.sum_insert ha, hx, hy, EReal.coe_add]⟩

/-- Real queries and keys give real scores. -/
theorem real_of {Q : QArr} {K : KArr} (hQ : ∀ i, ∃ x : ℝ, Q i = (x : EReal)) (hK : ∀ i, ∃ x : ℝ, K i = (x : EReal)) : Real Q K := by
  intro b R h k
  refine sum_real _ _ fun d => ?_
  obtain ⟨x, hx⟩ := hQ (ix3 b R (col h d))
  obtain ⟨y, hy⟩ := hK (ix3 b (kcol h d) k)
  exact ⟨x * y, by rw [hx, hy, EReal.coe_mul]⟩

end Spec

end
-- ==== Proof.RefAt.lean ====
module

public import proofs.«01_k».proof.Proof.Ref
public import proofs.«01_k».proof.Proof.Spec
public import Idealize.ShloMosaic.PureOps.Reduce

/-! The reference's result, entry by entry, over the extended reals. -/

@[expose] public section

set_option maxRecDepth 16384

noncomputable section

namespace Cert.ReferenceIdeal.Attn

open Cert.ReferenceIdeal Cert.ReferenceIdeal.Gen Cert.ReferenceIdeal.Read Idealize.ShloMosaic.TcCoe
open Idealize.ShloMosaic hiding ix1 ix2 ix3
open ValueIdx (ix1 ix2 ix3)
open Cert.KernelIdeal.Attn (soft rms meansq)

variable (x0 : (⟨S4x4096x512, .bf16⟩ : BufTy).Contents (Elt Ideal)) (x1 : (⟨S4x128x4096, .bf16⟩ : BufTy).Contents (Elt Ideal))
  (x2 : (⟨S4x4096x128, .bf16⟩ : BufTy).Contents (Elt Ideal)) (x3 : (⟨S1x512, .f32⟩ : BufTy).Contents (Elt Ideal))

/-- The query head of key–value head `a` and group member `g`. -/
abbrev hd2 (a : Fin 2) (g : Fin 4) : Fin 8 := ⟨a.val * 4 + g.val, by omega⟩

theorem v7_at (i : S4x2x4x4096x4096.Idx) : val_main_v7 x0 x1 i = Spec.score x0 x1 (i 0) (i 3) (hd2 (i 1) (i 2)) (i 4) := by
  rw [val_main_v7_apply, val_main_v6_apply]
  unfold Spec.score
  have h0 : (i 0).val < 4 := (i 0).isLt
  have h1 : (i 1).val < 2 := (i 1).isLt
  have h2 : (i 2).val < 4 := (i 2).isLt
  have h3 : (i 3).val < 4096 := (i 3).isLt
  have h4 : (i 4).val < 4096 := (i 4).isLt
  refine Finset.sum_congr rfl fun d _ => ?_
  have hd : d.val < 64 := d.isLt
  rw [mul_comm, val_main_v3_apply, val_main_v1_apply, val_main_v2_apply, val_main_v0_apply]
  refine congrArg₂ (· * ·) (congrArg x0 (funext fun a => ?_)) (congrArg x1 (funext fun a => ?_))
  · match a with
    | ⟨0, _⟩ => apply Fin.ext; show (((((i 0).val * 4096 + (i 3).val) * 2 + (i 1).val) * 4 + (i 2).val) * 64 + d.val) / 2097152 = (i 0).val; omega
    | ⟨1, _⟩ => apply Fin.ext; show (((((i 0).val * 4096 + (i 3).val) * 2 + (i 1).val) * 4 + (i 2).val) * 64 + d.val) / 512 % 4096 = (i 3).val; omega
    | ⟨2, _⟩ => apply Fin.ext; show (((((i 0).val * 4096 + (i 3).val) * 2 + (i 1).val) * 4 + (i 2).val) * 64 + d.val) % 512 = ((i 1).val * 4 + (i 2).val) * 64 + d.val; omega
  · match a with
    | ⟨0, _⟩ => apply Fin.ext; show ((((i 0).val * 2 + (i 1).val) * 64 + d.val) * 4096 + (i 4).val) / 524288 = (i 0).val; omega
    | ⟨1, _⟩ => apply Fin.ext; show ((((i 0).val * 2 + (i 1).val) * 64 + d.val) * 4096 + (i 4).val) / 4096 % 128 = ((i 1).val * 4 + (i 2).val) / 4 * 64 + d.val; omega
    | ⟨2, _⟩ => apply Fin.ext; show ((((i 0).val * 2 + (i 1).val) * 64 + d.val) * 4096 + (i 4).val) % 4096 = (i 4).val; omega

variable {x0 x1}

/-- The row maximum is a real. -/
theorem v10_real (H : Spec.Real x0 x1) (j : S4x2x4x4096.Idx) : ∃ x : ℝ, val_main_v10 x0 x1 j = (x : EReal) := by
  have hr : S4x2x4x4096x4096.Reduces [4] S4x2x4x4096 := by decide
  have e8 : val_main_v8 x0 x1 j = (Finset.univ : Finset (Fin 4096)).fold max ⊥ (fun k => val_main_v7 x0 x1 (hr.lift j k)) := by
    unfold val_main_v8
    generalize val_main_v7 (F := Ideal) x0 x1 = y
    have e := Host.reduce_eq_fold_single (FloatOps.maximumf (F := Ideal) (φ := .f32)) y (val_main_cst (F := Ideal)) reducesTo_S4x2x4x4096x4096_S4x2x4x4096_d4 hr h_S_ j
    rw [(val_main_cst_apply _).trans Mat.ofBits_negInf] at e
    exact e
  choose f hf using fun k => (H _ _ _ _ : ∃ x : ℝ, Spec.score x0 x1 ((hr.lift j k) 0) ((hr.lift j k) 3) (hd2 ((hr.lift j k) 1) ((hr.lift j k) 2)) ((hr.lift j k) 4) = (x : EReal))
  obtain ⟨r, h⟩ := Online.fold_max_real Finset.univ ⟨(0 : Fin 4096), Finset.mem_univ _⟩ (fun k => val_main_v7 x0 x1 (hr.lift j k)) f (fun k _ => (v7_at x0 x1 _).trans (hf k))
  refine ⟨r, ?_⟩
  rw [val_main_v10_apply, val_main_v9_apply, val_main_cst_0_apply]
  refine (congrArg₂ (fun a b : EReal => max a b) Mat.ofBits_negInf (e8.trans h)).trans ?_
  exact max_eq_right bot_le

/-- The index of a row's maximum. -/
abbrev jx (b : Fin 4) (R : Fin 4096) (h : Fin 8) : S4x2x4x4096.Idx := fun a => match a with
  | ⟨0, _⟩ => b
  | ⟨1, _⟩ => (⟨h.val / 4, by omega⟩ : Fin 2)
  | ⟨2, _⟩ => (⟨h.val % 4, by omega⟩ : Fin 4)
  | ⟨3, _⟩ => R

/-- The index of a score. -/
abbrev ix (b : Fin 4) (R : Fin 4096) (h : Fin 8) (k : Fin 4096) : S4x2x4x4096x4096.Idx := fun a => match a with
  | ⟨0, _⟩ => b
  | ⟨1, _⟩ => (⟨h.val / 4, by omega⟩ : Fin 2)
  | ⟨2, _⟩ => (⟨h.val % 4, by omega⟩ : Fin 4)
  | ⟨3, _⟩ => R
  | ⟨4, _⟩ => k

private theorem key_arith (b k e : ℕ) (hk : k < 4096) (he : e < 512) : (((b * 4096 + k) * 2 + e / 256) * 64 + e % 64) / 128 % 4096 = k := by
  have h1 : (((b * 4096 + k) * 2 + e / 256) * 64 + e % 64) / 128 = b * 4096 + k := by omega
  rw [h1]; omega

section Row
variable (H : Spec.Real x0 x1) (μ : Fin 4 → Fin 4096 → Fin 8 → ℝ) (hμ : ∀ b R h, val_main_v10 x0 x1 (jx b R h) = (μ b R h : EReal))
  (b : Fin 4) (R : Fin 4096) (h : Fin 8)
include H hμ

theorem v14_at (k : Fin 4096) : val_main_v14 x0 x1 (ix b R h k) = ((Real.exp (Spec.sreal x0 x1 b R h k.val - μ b R h) : ℝ) : EReal) := by
  have e7 : val_main_v7 x0 x1 (ix b R h k) = (Spec.sreal x0 x1 b R h k.val : EReal) := by
    refine (v7_at x0 x1 _).trans (Eq.trans ?_ (Spec.sreal_eq H b R h k))
    exact congrArg (fun z => Spec.score x0 x1 b R z k) (Fin.ext (by show h.val / 4 * 4 + h.val % 4 = h.val; omega))
  have e12 : val_main_v12 x0 x1 (ix b R h k) = (μ b R h : EReal) := by
    rw [val_main_v12_apply, val_main_v11_apply]
    refine Eq.trans (congrArg (val_main_v10 x0 x1) (funext fun a => ?_)) (hμ b R h)
    match a with
    | ⟨0, _⟩ => rfl
    | ⟨1, _⟩ => rfl
    | ⟨2, _⟩ => rfl
    | ⟨3, _⟩ => rfl
  rw [val_main_v14_apply, val_main_v13_apply, e7, e12]
  refine (congrArg Ideal.exp (EReal.coe_sub _ _).symm).trans (Ideal.exp_coe _)

theorem v18_at (k : Fin 4096) : val_main_v18 x0 x1 (ix b R h k)
    = Ideal.div ((Real.exp (Spec.sreal x0 x1 b R h k.val - μ b R h) : ℝ) : EReal) (∑ k : Fin 4096, ((Real.exp (Spec.sreal x0 x1 b R h k.val - μ b R h) : ℝ) : EReal)) := by
  have e15 : val_main_v17 x0 x1 (ix b R h k) = ∑ k : Fin 4096, ((Real.exp (Spec.sreal x0 x1 b R h k.val - μ b R h) : ℝ) : EReal) := by
    rw [val_main_v17_apply, val_main_v16_apply, val_main_v15_apply, val_main_cst_1_apply]
    refine (congrArg₂ (· + ·) Ideal.ofBits_zero_f32 (Finset.sum_congr rfl fun z _ => ?_)).trans (zero_add _)
    refine Eq.trans (congrArg (val_main_v14 x0 x1) (funext fun a => ?_)) (v14_at H μ hμ b R h z)
    match a with
    | ⟨0, _⟩ => rfl
    | ⟨1, _⟩ => rfl
    | ⟨2, _⟩ => rfl
    | ⟨3, _⟩ => rfl
    | ⟨4, _⟩ => rfl
  rw [val_main_v18_apply, e15, v14_at H μ hμ b R h k]
  rfl

theorem v21_at (e : Fin 512) : val_main_v21 x0 x1 x2 (ix3 b R e) = Spec.att x0 x1 x2 μ b R e := by
  have hb : b.val < 4 := b.isLt
  have hR : R.val < 4096 := R.isLt
  have he : e.val < 512 := e.isLt
  rw [val_main_v21_apply, val_main_v20_apply, val_main_v19_apply]
  unfold Spec.att Cert.KernelIdeal.Attn.soft
  refine Finset.sum_congr rfl fun k _ => ?_
  rw [mul_comm]
  have hk : k.val < 4096 := k.isLt
  refine congrArg₂ (· * ·) ?_ ?_
  · refine Eq.trans (congrArg (val_main_v18 x0 x1) (funext fun a => ?_)) (v18_at H μ hμ b R (Spec.hd e) k)
    match a with
    | ⟨0, _⟩ => apply Fin.ext; show ((b.val * 4096 + R.val) * 512 + e.val) / 2097152 = b.val; omega
    | ⟨1, _⟩ => apply Fin.ext; show ((b.val * 4096 + R.val) * 512 + e.val) / 256 % 2 = e.val / 64 / 4; omega
    | ⟨2, _⟩ => apply Fin.ext; show ((b.val * 4096 + R.val) * 512 + e.val) / 64 % 4 = e.val / 64 % 4; omega
    | ⟨3, _⟩ => apply Fin.ext; show ((b.val * 4096 + R.val) * 512 + e.val) / 512 % 4096 = R.val; omega
    | ⟨4, _⟩ => rfl
  · refine Eq.trans ?_ (Spec.vcol_eq x2 b (Spec.hd e) (Spec.ln e) k).symm
    rw [val_main_v5_apply, val_main_v4_apply]
    refine congrArg x2 (funext fun a => ?_)
    have q0 : ((b.val * 4096 + R.val) * 512 + e.val) / 2097152 = b.val := by omega
    have q1 : ((b.val * 4096 + R.val) * 512 + e.val) / 256 % 2 = e.val / 256 := by omega
    have q2 : ((b.val * 4096 + R.val) * 512 + e.val) % 64 = e.val % 64 := by omega
    match a with
    | ⟨0, _⟩ => apply Fin.ext; show (((((b.val * 4096 + R.val) * 512 + e.val) / 2097152 * 4096 + k.val) * 2 + ((b.val * 4096 + R.val) * 512 + e.val) / 256 % 2) * 64 + ((b.val * 4096 + R.val) * 512 + e.val) % 64) / 524288 = b.val; rw [q0, q1, q2]; omega
    | ⟨1, _⟩ => apply Fin.ext; show (((((b.val * 4096 + R.val) * 512 + e.val) / 2097152 * 4096 + k.val) * 2 + ((b.val * 4096 + R.val) * 512 + e.val) / 256 % 2) * 64 + ((b.val * 4096 + R.val) * 512 + e.val) % 64) / 128 % 4096 = k.val; rw [q0, q1, q2]; exact key_arith _ _ _ hk he
    | ⟨2, _⟩ => apply Fin.ext; show (((((b.val * 4096 + R.val) * 512 + e.val) / 2097152 * 4096 + k.val) * 2 + ((b.val * 4096 + R.val) * 512 + e.val) / 256 % 2) * 64 + ((b.val * 4096 + R.val) * 512 + e.val) % 64) % 128 = e.val / 64 / 4 * 64 + e.val % 64; rw [q0, q1, q2]; omega

theorem v35_at (e : Fin 512) : val_main_v35 x0 x1 x2 x3 (ix3 b R e) = rms (Spec.att x0 x1 x2 μ b R) (fun j => x3 (ix2 0 j)) e := by
  have e21 := v21_at (x2 := x2) H μ hμ b R
  rw [val_main_v35_apply, val_main_v34_apply, val_main_v31_apply, val_main_v30_apply, val_main_v29_apply, val_main_v28_apply, val_main_v27_apply, val_main_cst_4_apply,
    val_main_v26_apply, val_main_v25_apply, val_main_cst_3_apply, val_main_v24_apply, val_main_v23_apply, val_main_v33_apply, val_main_v32_apply, e21]
  refine congrArg₂ (· * ·) (congrArg (Spec.att x0 x1 x2 μ b R e * ·) (congrArg Ideal.rsqrt ?_)) (congrArg x3 (funext fun a => ?_))
  · refine congrArg (fun z => Ideal.div z (Ideal.ofBits .f32 0x44000000#32) + Ideal.ofBits .f32 0x358637BD#32) ?_
    have hz : val_main_cst_2 (F := Ideal) (Shape.Idx.first h_S_) = 0 := (val_main_cst_2_apply _).trans Ideal.ofBits_zero_f32
    rw [hz, zero_add]
    refine Finset.sum_congr rfl fun z _ => ?_
    rw [val_main_v22_apply]
    refine (congrArg (fun y => y * y) ((congrArg (val_main_v21 x0 x1 x2) (funext fun a => ?_)).trans (e21 z)))
    match a with
    | ⟨0, _⟩ => rfl
    | ⟨1, _⟩ => rfl
    | ⟨2, _⟩ => rfl
  · match a with
    | ⟨0, _⟩ => rfl
    | ⟨1, _⟩ => rfl

end Row

/-- THE REFERENCE'S RESULT at an entry, at the shifts it takes. -/
theorem result_at (H : Spec.Real x0 x1) : ∃ μ : Fin 4 → Fin 4096 → Fin 8 → ℝ, ∀ b R e,
    val_main_v35 x0 x1 x2 x3 (ix3 b R e) = rms (Spec.att x0 x1 x2 μ b R) (fun j => x3 (ix2 0 j)) e := by
  choose μ hμ using fun b R h => v10_real H (jx b R h)
  exact ⟨μ, fun b R e => v35_at x2 x3 H μ hμ b R e⟩

end Cert.ReferenceIdeal.Attn

end
-- ==== Proof.Points.lean ====
module

public import proofs.«01_k».proof.Proof.Spec
public import proofs.«01_k».proof.Proof.Gen.KernelIdeal.Value

/-! What the kernel's result array holds, entry by entry, over the extended reals. -/

@[expose] public section

noncomputable section

namespace Cert.KernelIdeal.Attn

open Cert.KernelIdeal Cert.KernelIdeal.Gen Cert.KernelIdeal.Value Idealize.ShloMosaic.TcCoe Idealize.ShloMosaic.Tactic
open Idealize.ShloMosaic hiding ix1 ix2 ix3
open ValueIdx (ix1 ix2 ix3)

variable (m : (ℓ : Loc nD τ sig) → Buf (Elt Ideal) ℓ) (c : Dev nD)

abbrev aQ : Spec.QArr := m ((c : Thread nD τ).loc main_arg0)
abbrev aK : Spec.KArr := m ((c : Thread nD τ).loc main_arg1)
abbrev aV : Spec.VArr := m ((c : Thread nD τ).loc main_arg2)
abbrev aG : (⟨2, ![1, 512]⟩ : Shape).Idx → EReal := m ((c : Thread nD τ).loc main_arg3)

theorem idx : ∀ t : Fin cfg0.N, win0_0.index t = ![t.val / 16, t.val % 16, 0] ∧ win0_1.index t = ![t.val / 16, 0, 0]
    ∧ win0_2.index t = ![t.val / 16, 0, 0] ∧ win0_3.index t = ![0, 0] := by decide +kernel

theorem lt64 (t : Fin cfg0.N) : t.val < 64 := lt_of_lt_of_eq t.isLt N_0

/-- The batch of point `t`, and the query row at place `r` of its block. -/
abbrev bat (t : Fin cfg0.N) : Fin 4 := ⟨t.val / 16, by have := lt64 t; omega⟩
abbrev qrow (t : Fin cfg0.N) (r : Fin 256) : Fin 4096 := ⟨t.val % 16 * 256 + r.val, by omega⟩

theorem q_blk (t : Fin cfg0.N) (r : Fin 256) (e : Fin 512) : iblk m c 0 t (ix3 (0 : Fin 1) r e) = aQ m c (ix3 (bat t) (qrow t r) e) := by
  blk_ext [iblk, V, idx t]

theorem k_blk (t : Fin cfg0.N) (r : Fin 128) (e : Fin 4096) : iblk m c 1 t (ix3 (0 : Fin 1) r e) = aK m c (ix3 (bat t) r e) := by
  blk_ext [iblk, V, idx t]

theorem v_blk (t : Fin cfg0.N) (r : Fin 4096) (e : Fin 128) : iblk m c 2 t (ix3 (0 : Fin 1) r e) = aV m c (ix3 (bat t) r e) := by
  blk_ext [iblk, V, idx t]

theorem g_blk (t : Fin cfg0.N) (e : Fin 512) : iblk m c 3 t (ix2 (0 : Fin 1) e) = aG m c (ix2 0 e) := by
  blk_ext [iblk, V, idx t]

theorem v_same (t t' : Fin cfg0.N) (h : t.val / 16 = t'.val / 16) : (iblk m c 2 t : Vec Ideal S1x4096x128 .bf16) = iblk m c 2 t' := by
  funext x
  have hx : x = ix3 (0 : Fin 1) (x 1) (x 2) := by
    funext a
    match a with
    | ⟨0, _⟩ => exact Subsingleton.elim (α := Fin 1) _ _
    | ⟨1, _⟩ => rfl
    | ⟨2, _⟩ => rfl
  rw [hx]
  refine (v_blk m c t (x 1) (x 2)).trans (Eq.trans ?_ (v_blk m c t' (x 1) (x 2)).symm)
  exact congrArg (fun b => aV m c (ix3 b (x 1) (x 2))) (Fin.ext h)

theorem lo_A (t : Fin cfg0.N) (h0 : t.val % 16 = 0) : sout0_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t) = vlo (iblk m c 2 t) := by
  rw [sout_A0]

theorem hi_A (t : Fin cfg0.N) (h0 : t.val % 16 = 0) : sout0_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t) = vhi (iblk m c 2 t) := by
  rw [sout_A1]

theorem blk_A (t : Fin cfg0.N) (h0 : t.val % 16 = 0) : out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)
    = k0_pay5 (nums (iblk m c 0 t) (iblk m c 1 t) (vlo (iblk m c 2 t)) (vhi (iblk m c 2 t))) (iblk m c 3 t) := by
  rw [out_A]

theorem blk_B (t : Fin cfg0.N) (h0 : ¬t.val % 16 = 0) (a b : Vec Ideal S2x4096x128 .bf16) : out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) a b
    = k0_pay5 (nums (iblk m c 0 t) (iblk m c 1 t) a b) (iblk m c 3 t) := by
  rw [out_B]

theorem pt_lo_A (t : Fin cfg0.N) (h0 : t.val % 16 = 0) : (outsAt0 m c t.val t.isLt).2.1 = vlo (iblk m c 2 t) := by
  have e := congrArg (fun z => z.2.1) (outsAt0_A m c t h0)
  dsimp only at e
  exact e.trans (lo_A m c t h0)

theorem pt_hi_A (t : Fin cfg0.N) (h0 : t.val % 16 = 0) : (outsAt0 m c t.val t.isLt).2.2 = vhi (iblk m c 2 t) := by
  have e := congrArg (fun z => z.2.2) (outsAt0_A m c t h0)
  dsimp only at e
  exact e.trans (hi_A m c t h0)

theorem pt_blk_A (t : Fin cfg0.N) (h0 : t.val % 16 = 0) : (outsAt0 m c t.val t.isLt).1
    = k0_pay5 (nums (iblk m c 0 t) (iblk m c 1 t) (vlo (iblk m c 2 t)) (vhi (iblk m c 2 t))) (iblk m c 3 t) := by
  have e := congrArg (fun z => z.1) (outsAt0_A m c t h0)
  dsimp only at e
  exact e.trans (blk_A m c t h0)

/-- The two copies of the values after every point: those of the point's batch. -/
theorem scratch (n : ℕ) : ∀ t : Fin cfg0.N, t.val = n →
    (outsAt0 m c t.val t.isLt).2.1 = vlo (iblk m c 2 t) ∧ (outsAt0 m c t.val t.isLt).2.2 = vhi (iblk m c 2 t) := by
  induction n with
  | zero =>
    intro t ht
    have h0 : t.val % 16 = 0 := by omega
    exact ⟨pt_lo_A m c t h0, pt_hi_A m c t h0⟩
  | succ n ih =>
    intro t ht
    by_cases h0 : t.val % 16 = 0
    · exact ⟨pt_lo_A m c t h0, pt_hi_A m c t h0⟩
    · have hlt : t.val - 1 < cfg0.N := by have := t.isLt; omega
      have hs := v_same m c ⟨t.val - 1, hlt⟩ t (by show (t.val - 1) / 16 = t.val / 16; omega)
      obtain ⟨i1, i2⟩ := ih ⟨t.val - 1, hlt⟩ (by show t.val - 1 = n; omega)
      rw [outsAt0_B m c t h0]
      exact ⟨i1.trans (congrArg vlo hs), i2.trans (congrArg vhi hs)⟩

/-- The block every point leaves. -/
theorem block (t : Fin cfg0.N) : (outsAt0 m c t.val t.isLt).1
    = k0_pay5 (nums (iblk m c 0 t) (iblk m c 1 t) (vlo (iblk m c 2 t)) (vhi (iblk m c 2 t))) (iblk m c 3 t) := by
  by_cases h0 : t.val % 16 = 0
  · exact pt_blk_A m c t h0
  · have hlt : t.val - 1 < cfg0.N := by have := t.isLt; omega
    have hs := v_same m c ⟨t.val - 1, hlt⟩ t (by show (t.val - 1) / 16 = t.val / 16; omega)
    obtain ⟨i1, i2⟩ := scratch m c (t.val - 1) ⟨t.val - 1, hlt⟩ rfl
    have e := congrArg (fun z => z.1) (outsAt0_B m c t h0)
    dsimp only at e
    refine (e.trans (blk_B m c t h0 _ _)).trans ?_
    exact congrArg₂ (fun a b => k0_pay5 (nums (iblk m c 0 t) (iblk m c 1 t) a b) (iblk m c 3 t)) (i1.trans (congrArg vlo hs)) (i2.trans (congrArg vhi hs))

/-- A column of the numerators over the denominators, in a point's block. -/
theorem nums_pt (H : Spec.Real (aQ m c) (aK m c)) (μ : Fin 4 → Fin 4096 → Fin 8 → ℝ) (t : Fin cfg0.N) (r : Fin 256) (e : Fin 512) :
    nums (iblk m c 0 t) (iblk m c 1 t) (vlo (iblk m c 2 t)) (vhi (iblk m c 2 t)) (ix2 r e)
      = Spec.att (aQ m c) (aK m c) (aV m c) μ (bat t) (qrow t r) e := by
  obtain ⟨p, d, rfl⟩ : ∃ (p : Fin 4) (d : Fin 128), e = (⟨p.val * 128 + d.val, by omega⟩ : Fin 512) :=
    ⟨⟨e.val / 128, by omega⟩, ⟨e.val % 128, by omega⟩, Fin.ext (by show e.val = e.val / 128 * 128 + e.val % 128; omega)⟩
  refine (nums_at _ _ _ _ r p d).trans ?_
  by_cases hd : d.val < 64
  · refine pair_even (grp p) _ _ _ _ r d _ _ _ hd (fun k => Eq.trans ?_ (Spec.sreal_eq H (bat t) (qrow t r) (Spec.hd ⟨p.val * 128 + d.val, by omega⟩) k))
      (fun k => (vlo_low _ k d (grp p) hd).trans (Eq.trans ?_ (Spec.vcol_eq ..).symm)) (fun k => vhi_low _ k d (grp p) hd)
    · refine Finset.sum_congr rfl fun z _ => congrArg₂ (· * ·) ((q_blk m c t r _).trans (congrArg (fun y => aQ m c (ix3 (bat t) (qrow t r) y)) (Fin.ext ?_))) ((k_blk m c t _ k).trans (congrArg (fun y => aK m c (ix3 (bat t) y k)) (Fin.ext ?_)))
      · show p.val * 128 + z.val = (p.val * 128 + d.val) / 64 * 64 + z.val
        omega
      · show p.val / 2 * 64 + z.val = (p.val * 128 + d.val) / 64 / 4 * 64 + z.val
        omega
    · refine (v_blk m c t k _).trans (congrArg (fun y => aV m c (ix3 (bat t) k y)) (Fin.ext ?_))
      show p.val / 2 * 64 + d.val = (p.val * 128 + d.val) / 64 / 4 * 64 + (p.val * 128 + d.val) % 64
      omega
  · refine pair_odd (grp p) _ _ _ _ r d _ _ _ hd (fun k => Eq.trans ?_ (Spec.sreal_eq H (bat t) (qrow t r) (Spec.hd ⟨p.val * 128 + d.val, by omega⟩) k))
      (fun k => (vhi_high _ k d (grp p) hd).trans (Eq.trans ?_ (Spec.vcol_eq ..).symm)) (fun k => vlo_high _ k d (grp p) hd)
    · refine Finset.sum_congr rfl fun z _ => congrArg₂ (· * ·) ((q_blk m c t r _).trans (congrArg (fun y => aQ m c (ix3 (bat t) (qrow t r) y)) (Fin.ext ?_))) ((k_blk m c t _ k).trans (congrArg (fun y => aK m c (ix3 (bat t) y k)) (Fin.ext ?_)))
      · show p.val * 128 + (64 + z.val) = (p.val * 128 + d.val) / 64 * 64 + z.val
        omega
      · show p.val / 2 * 64 + z.val = (p.val * 128 + d.val) / 64 / 4 * 64 + z.val
        omega
    · refine (v_blk m c t k _).trans (congrArg (fun y => aV m c (ix3 (bat t) k y)) (Fin.ext ?_))
      show p.val / 2 * 64 + (d.val - 64) = (p.val * 128 + d.val) / 64 / 4 * 64 + (p.val * 128 + d.val) % 64
      omega

/-- THE RESULT ARRAY, entry by entry: the norm of the attention's row, at any shifts. -/
theorem result_at (H : Spec.Real (aQ m c) (aK m c)) (μ : Fin 4 → Fin 4096 → Fin 8 → ℝ) (b : Fin 4) (R : Fin 4096) (e : Fin 512) :
    G4 m c (ix3 b R e) = rms (Spec.att (aQ m c) (aK m c) (aV m c) μ b R) (fun j => aG m c (ix2 0 j)) e := by
  have hN : cfg0.N = 64 := N_0
  have hp : pt4Of (ix3 b R e) = b.val * 16 + R.val / 256 := by
    show 16 * (b.val / 1 - 0) + 1 * (R.val / 256 - 0) + 1 * (e.val / 512 - 0) = _
    omega
  have hlt : pt4Of (ix3 b R e) < cfg0.N := by rw [hp, hN]; omega
  unfold G4
  rw [dif_pos hlt]
  have hsweep := outsAt0_sweep m c (pt4Of (ix3 b R e)) hlt
  refine (congrFun (congrArg (fun z => z.1) hsweep.symm) _).trans ?_
  refine (congrFun (block m c ⟨_, hlt⟩) _).trans ?_
  have hloc : loc4Of (ix3 b R e) = ix3 (0 : Fin 1) (⟨R.val % 256, by omega⟩ : Fin 256) e := by
    funext a
    match a with
    | ⟨0, _⟩ => apply Fin.ext; show b.val % 1 = 0; omega
    | ⟨1, _⟩ => rfl
    | ⟨2, _⟩ => apply Fin.ext; show e.val % 512 = e.val; omega
  rw [hloc]
  refine (pay5_at _ _ _ e 0).trans ?_
  have hb : bat ⟨_, hlt⟩ = b := Fin.ext (by show pt4Of (ix3 b R e) / 16 = b.val; rw [hp]; omega)
  have hr : qrow ⟨_, hlt⟩ (⟨R.val % 256, by omega⟩ : Fin 256) = R := Fin.ext (by show pt4Of (ix3 b R e) % 16 * 256 + R.val % 256 = R.val; rw [hp]; omega)
  refine congrArg₂ (fun x g => rms x g e) (funext fun j => ?_) (funext fun j => g_blk m c _ j)
  refine (nums_pt m c H μ _ _ j).trans ?_
  rw [hb, hr]

end Cert.KernelIdeal.Attn

end
-- ==== Proof.Pre.lean ====
module

public import proofs.«01_k».proof.Pre_finite_qk
public import Idealize.ShloMosaic.Lib.KernelVsHost

/-! The precondition's two comparisons read at an entry: an entry whose absolute value is below infinity is a real. -/

@[expose] public section

noncomputable section

namespace Cert.Pre_finite_qk.Attn

open Idealize.ShloMosaic Cert.Pre_finite_qk

instance facts : Cert.Pre_finite_qk.Facts where
  bitsLt_bf16_f32 := by decide
  bcast_S_S4x4096x512 := by decide
  bcast_S_S4x128x4096 := by decide

theorem ofBits_inf : Ideal.ofBits .f32 0x7F800000#32 = ⊤ := by simp [Ideal.ofBits, Ideal.ieee]

/-- An entry below infinity in absolute value is a real. -/
theorem real_of_cmp (x : EReal) (h : Ideal.cmp .olt (max x (-x)) (Ideal.ofBits .f32 0x7F800000#32) = 1#1) : ∃ r : ℝ, x = (r : EReal) := by
  rw [ofBits_inf] at h
  have h' : max x (-x) < ⊤ := by
    by_contra hn
    have e : BitVec.ofBool (decide (max x (-x) < ⊤)) = 1#1 := h
    rw [decide_eq_false hn] at e
    exact absurd e (by decide)
  induction x with
  | bot => exact absurd h' (by simp)
  | top => exact absurd h' (by simp)
  | coe r => exact ⟨r, rfl⟩

theorem q_real {a0 : FVec Ideal S4x4096x512 .bf16} {a1 : FVec Ideal S4x128x4096 .bf16} {a2 : FVec Ideal S4x4096x128 .bf16} {a3 : FVec Ideal S1x512 .f32}
    (h : (fn (F := Ideal) a0 a1 a2 a3).1 = fun _ => 1#1) (i : S4x4096x512.Idx) : ∃ r : ℝ, (a0 i : EReal) = (r : EReal) :=
  real_of_cmp (a0 i) (congrFun h i)

theorem k_real {a0 : FVec Ideal S4x4096x512 .bf16} {a1 : FVec Ideal S4x128x4096 .bf16} {a2 : FVec Ideal S4x4096x128 .bf16} {a3 : FVec Ideal S1x512 .f32}
    (h : (fn (F := Ideal) a0 a1 a2 a3).2 = fun _ => 1#1) (i : S4x128x4096.Idx) : ∃ r : ℝ, (a1 i : EReal) = (r : EReal) :=
  real_of_cmp (a1 i) (congrFun h i)

end Cert.Pre_finite_qk.Attn

end
-- ==== Proof.Ref2.lean ====
module

public import proofs.«01_k».proof.Proof.Gen.Kernel2Ideal.Frame
public import proofs.«01_k».proof.Proof.Gen.Kernel2Ideal.Loops
public import proofs.«01_k».proof.Proof.Gen.Kernel2.Frame
public import proofs.«01_k».proof.Proof.Gen.Kernel2.Loops
public import proofs.«01_k».proof.Proof.Gen.Reference2Ideal.Run
public import proofs.«01_k».proof.Proof.Gen.Reference2Ideal.Read

@[expose] public section

end
-- ==== Proof.Ref3.lean ====
module

public import proofs.«01_k».proof.Proof.Gen.Reference3Ideal.Run
public import proofs.«01_k».proof.Proof.Gen.Reference3Ideal.Read

@[expose] public section

end
-- ==== Proof.MixBlk.lean ====
module

public import proofs.«01_k».proof.Proof.Gen.Kernel3Ideal.Value
public import Idealize.ShloMosaic.Lib.Pipeline.ValueKit
public import Idealize.ShloMosaic.Lib.Pipeline.ReadBack

/-! What a grid point of the first call leaves in its four output blocks. -/

@[expose] public section

noncomputable section

namespace Cert.Kernel3Ideal.Mix

open Cert.Kernel3Ideal Cert.Kernel3Ideal.Gen Idealize.ShloMosaic Idealize.ShloMosaic.TcCoe Idealize.SL.Sem Idealize.ShloMosaic.Tactic Idealize.ShloMosaic.ValueIdx

variable {F : FTy → Type} [FloatOps F]

/-- Columns of the projection weights. -/
abbrev wA (x4 : Vec F S1024x2304 .bf16) : Vec F S1024x512 .bf16 := View.ld x4 (Rect.unit (s := S1024x2304) ![0, 0] S1024x512.size inb_S1024x2304_S1024x512_0_0)
abbrev wB (x4 : Vec F S1024x2304 .bf16) : Vec F S1024x256 .bf16 := View.ld x4 (Rect.unit (s := S1024x2304) ![0, 512] S1024x256.size inb_S1024x2304_S1024x256_0_512)
abbrev wC (x4 : Vec F S1024x2304 .bf16) : Vec F S1024x512 .bf16 := View.ld x4 (Rect.unit (s := S1024x2304) ![0, 768] S1024x512.size inb_S1024x2304_S1024x512_0_768)
abbrev wD (x4 : Vec F S1024x2304 .bf16) : Vec F S1024x512 .bf16 := View.ld x4 (Rect.unit (s := S1024x2304) ![0, 1280] S1024x512.size inb_S1024x2304_S1024x512_0_1280)
abbrev wE (x4 : Vec F S1024x2304 .bf16) : Vec F S1024x512 .bf16 := View.ld x4 (Rect.unit (s := S1024x2304) ![0, 1792] S1024x512.size inb_S1024x2304_S1024x512_0_1792)

/-- The masked gated product, written whole to the scratch. -/
abbrev cuv (i : grid0.Coords) (x0 : Vec F S1x512x1024 .f32) (x1 : Vec F S1x8x1024 .f32) (x2 : Vec F S1x8x1024 .f32) (x3 : Vec F S1x1024 .f32) (x4 : Vec F S1024x2304 .bf16) : FVec F S528x512 .f32 :=
  k0_pay13 (BitVec.ofNat 32 (i 1).val) (k0_pay2 x1 x0 x2 x3) (wD x4) (wE x4)

theorem out_13 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x2304 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S3x512 .f32) (harg13 : arg13.IsWhole) (arg14 : Memref sig .tc .vmem S1x512 .f32) (harg14 : arg14.IsWhole) (arg15 : Memref sig .tc .vmem S1x512x512 .bf16) (harg15 : arg15.IsWhole) (arg16 : Memref sig .tc .vmem S1x128x512 .bf16) (harg16 : arg16.IsWhole) (arg17 : Memref sig .tc .vmem S1x512x128 .bf16) (harg17 : arg17.IsWhole) (arg18 : Memref sig .tc .vmem S1x512x512 .bf16) (harg18 : arg18.IsWhole) (arg19 : Memref sig .tc .vmem S528x512 .f32) (harg19 : arg19.IsWhole)
    (x0 : Vec F S1x512x1024 .f32) (x1 : Vec F S1x8x1024 .f32) (x2 : Vec F S1x8x1024 .f32) (x3 : Vec F S1x1024 .f32) (x4 : Vec F S1024x2304 .bf16) (x5 : Vec F S1x512 .f32) (x6 : Vec F S1x128 .f32) (x7 : Vec F S512x128 .f32) (x8 : Vec F S512x128 .f32) (x9 : Vec F S512x128 .f32) (x10 : Vec F S512x512 .bf16) (x11 : Vec F S3x512 .f32) (x12 : Vec F S1x512 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
      = k0_pay8 (k0_pay7 x7 (k0_pay3 x8) (k0_pay4 x9) (k0_pay5 x1 x0 x2 x3 (wA x4)) (k0_pay6 x5) x10) := by
  frame_open
  simp (disch := decide) only [↓ View.readCov_skip, ↓ View.readCov_cons_toLoadRect, ↓ View.readCov_fill]
  frame_out

theorem out_14 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x2304 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S3x512 .f32) (harg13 : arg13.IsWhole) (arg14 : Memref sig .tc .vmem S1x512 .f32) (harg14 : arg14.IsWhole) (arg15 : Memref sig .tc .vmem S1x512x512 .bf16) (harg15 : arg15.IsWhole) (arg16 : Memref sig .tc .vmem S1x128x512 .bf16) (harg16 : arg16.IsWhole) (arg17 : Memref sig .tc .vmem S1x512x128 .bf16) (harg17 : arg17.IsWhole) (arg18 : Memref sig .tc .vmem S1x512x512 .bf16) (harg18 : arg18.IsWhole) (arg19 : Memref sig .tc .vmem S528x512 .f32) (harg19 : arg19.IsWhole)
    (x0 : Vec F S1x512x1024 .f32) (x1 : Vec F S1x8x1024 .f32) (x2 : Vec F S1x8x1024 .f32) (x3 : Vec F S1x1024 .f32) (x4 : Vec F S1024x2304 .bf16) (x5 : Vec F S1x512 .f32) (x6 : Vec F S1x128 .f32) (x7 : Vec F S512x128 .f32) (x8 : Vec F S512x128 .f32) (x9 : Vec F S512x128 .f32) (x10 : Vec F S512x512 .bf16) (x11 : Vec F S3x512 .f32) (x12 : Vec F S1x512 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
      = k0_pay10 (k0_pay2 x1 x0 x2 x3) x7 (k0_pay3 x8) (k0_pay4 x9) (wB x4) x6 (View.ld x10 (Rect.unit (s := S512x512) ![0, 0] S128x128.size inb_S512x512_S128x128_0_0)) := by
  frame_open
  simp (disch := decide) only [↓ View.readCov_skip, ↓ View.readCov_cons_toLoadRect, ↓ View.readCov_fill]
  frame_out

theorem out_15 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x2304 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S3x512 .f32) (harg13 : arg13.IsWhole) (arg14 : Memref sig .tc .vmem S1x512 .f32) (harg14 : arg14.IsWhole) (arg15 : Memref sig .tc .vmem S1x512x512 .bf16) (harg15 : arg15.IsWhole) (arg16 : Memref sig .tc .vmem S1x128x512 .bf16) (harg16 : arg16.IsWhole) (arg17 : Memref sig .tc .vmem S1x512x128 .bf16) (harg17 : arg17.IsWhole) (arg18 : Memref sig .tc .vmem S1x512x512 .bf16) (harg18 : arg18.IsWhole) (arg19 : Memref sig .tc .vmem S528x512 .f32) (harg19 : arg19.IsWhole)
    (x0 : Vec F S1x512x1024 .f32) (x1 : Vec F S1x8x1024 .f32) (x2 : Vec F S1x8x1024 .f32) (x3 : Vec F S1x1024 .f32) (x4 : Vec F S1024x2304 .bf16) (x5 : Vec F S1x512 .f32) (x6 : Vec F S1x128 .f32) (x7 : Vec F S512x128 .f32) (x8 : Vec F S512x128 .f32) (x9 : Vec F S512x128 .f32) (x10 : Vec F S512x512 .bf16) (x11 : Vec F S3x512 .f32) (x12 : Vec F S1x512 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
      = k0_pay11 (k0_pay2 x1 x0 x2 x3) (wB x4) := by
  frame_open
  simp (disch := decide) only [↓ View.readCov_skip, ↓ View.readCov_cons_toLoadRect, ↓ View.readCov_fill]
  frame_out

theorem out_16 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x2304 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S3x512 .f32) (harg13 : arg13.IsWhole) (arg14 : Memref sig .tc .vmem S1x512 .f32) (harg14 : arg14.IsWhole) (arg15 : Memref sig .tc .vmem S1x512x512 .bf16) (harg15 : arg15.IsWhole) (arg16 : Memref sig .tc .vmem S1x128x512 .bf16) (harg16 : arg16.IsWhole) (arg17 : Memref sig .tc .vmem S1x512x128 .bf16) (harg17 : arg17.IsWhole) (arg18 : Memref sig .tc .vmem S1x512x512 .bf16) (harg18 : arg18.IsWhole) (arg19 : Memref sig .tc .vmem S528x512 .f32) (harg19 : arg19.IsWhole)
    (x0 : Vec F S1x512x1024 .f32) (x1 : Vec F S1x8x1024 .f32) (x2 : Vec F S1x8x1024 .f32) (x3 : Vec F S1x1024 .f32) (x4 : Vec F S1024x2304 .bf16) (x5 : Vec F S1x512 .f32) (x6 : Vec F S1x128 .f32) (x7 : Vec F S512x128 .f32) (x8 : Vec F S512x128 .f32) (x9 : Vec F S512x128 .f32) (x10 : Vec F S512x512 .bf16) (x11 : Vec F S3x512 .f32) (x12 : Vec F S1x512 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
      = k0_pay1 (k0_pay12 (k0_pay2 x1 x0 x2 x3) (wC x4)) x11
        (k0_pay14 x11 (View.ld (cuv i x0 x1 x2 x3 x4) (Rect.unit (s := S528x512) ![7, 0] S512x512.size inb_S528x512_S512x512_7_0)))
        (View.ld (cuv i x0 x1 x2 x3 x4) (Rect.unit (s := S528x512) ![8, 0] S512x512.size inb_S528x512_S512x512_8_0)) (k0_pay15 x11)
        (View.ld (cuv i x0 x1 x2 x3 x4) (Rect.unit (s := S528x512) ![9, 0] S512x512.size inb_S528x512_S512x512_9_0)) x12 := by
  frame_open
  simp (disch := decide) only [↓ View.readCov_skip, ↓ View.readCov_cons_toLoadRect, ↓ View.readCov_fill]
  frame_out

end Cert.Kernel3Ideal.Mix

end
-- ==== Proof.PostSpec.lean ====
module

public import proofs.«01_k».proof.Proof.Mat

/-! The second half of a layer over the extended reals, row by row: the output projection, the norm, the gated
feed-forward part with its centred convolution of three rows, and the gated embedding. -/

@[expose] public section

noncomputable section

namespace PSpec

open Idealize.ShloMosaic

/-- The arrays the layer reads, in one batch. -/
structure In where
  H : Fin 4096 → Fin 1024 → EReal
  OA : Fin 4096 → Fin 512 → EReal
  OC : Fin 4096 → Fin 512 → EReal
  P : Fin 4096 → Fin 256 → EReal
  WO : Fin 1024 → Fin 1024 → EReal
  G : Fin 1024 → EReal
  WU : Fin 1024 → Fin 5632 → EReal
  CW : Fin 3 → Fin 5632 → EReal
  WD : Fin 2816 → Fin 1024 → EReal
  WG : Fin 1024 → Fin 1024 → EReal
  WP : Fin 256 → Fin 1024 → EReal

/-- Two rows of 512 side by side. -/
def side (a b : Fin 512 → EReal) (k : Fin 1024) : EReal := if h : k.val < 512 then a ⟨k.val, h⟩ else b ⟨k.val - 512, by omega⟩

theorem side_sum (a b : Fin 512 → EReal) (w : Fin 1024 → EReal) :
    ∑ k : Fin 1024, side a b k * w k = (∑ k : Fin 512, a k * w ⟨k.val, by omega⟩) + ∑ k : Fin 512, b k * w ⟨512 + k.val, by omega⟩ := by
  refine (Fin.sum_univ_add (M := EReal) (a := 512) (b := 512) (fun k => side a b k * w k)).trans ?_
  refine congrArg₂ (· + ·) (Finset.sum_congr rfl fun k _ => ?_) (Finset.sum_congr rfl fun k _ => ?_)
  · exact congrArg (· * w (Fin.castAdd 512 k)) (dif_pos k.isLt)
  · refine congrArg (· * w (Fin.natAdd 512 k)) ((dif_neg (by show ¬ 512 + k.val < 512; omega)).trans ?_)
    exact congrArg b (Fin.ext (by show 512 + k.val - 512 = k.val; omega))

/-- A row's rms norm with gain. -/
def nrm (x g : Fin 1024 → EReal) (e : Fin 1024) : EReal :=
  x e * Ideal.rsqrt (Ideal.div (∑ j : Fin 1024, x j * x j) (Ideal.ofBits .f32 0x44800000#32) + Ideal.ofBits .f32 0x358637BD#32) * g e

/-- Rows numbered from one, zeros before the first and after the last. -/
def row (f : Fin 4096 → EReal) (n : ℕ) : EReal := if h : 1 ≤ n ∧ n ≤ 4096 then f ⟨n - 1, by omega⟩ else 0

theorem row_pos (f : Fin 4096 → EReal) (n : ℕ) (R : Fin 4096) (h : n = R.val + 1) : row f n = f R := by
  subst h
  exact (dif_pos (by have := R.isLt; omega)).trans (congrArg f (Fin.ext (by show R.val + 1 - 1 = R.val; omega)))

theorem row_neg (f : Fin 4096 → EReal) (n : ℕ) (h : ¬(1 ≤ n ∧ n ≤ 4096)) : row f n = 0 := dif_neg h

variable (A : In)

def mix (R : Fin 4096) (e : Fin 1024) : EReal := A.H R e + ∑ k : Fin 1024, side (A.OA R) (A.OC R) k * A.WO k e

def norm (R : Fin 4096) (k : Fin 1024) : EReal := nrm (mix A R) A.G k

def proj (j : Fin 5632) (R : Fin 4096) : EReal := ∑ k : Fin 1024, norm A R k * A.WU k j

theorem row_proj (j : Fin 5632) (n : ℕ) : ∑ k : Fin 1024, row (fun R => norm A R k) n * A.WU k j = row (proj A j) n := by
  by_cases h : 1 ≤ n ∧ n ≤ 4096
  · have e : n = (⟨n - 1, by omega⟩ : Fin 4096).val + 1 := by show n = n - 1 + 1; omega
    rw [row_pos (proj A j) n ⟨n - 1, by omega⟩ e]
    exact Finset.sum_congr rfl fun k _ => congrArg (· * A.WU k j) (row_pos (fun R => norm A R k) n ⟨n - 1, by omega⟩ e)
  · rw [row_neg _ _ h]
    refine Finset.sum_eq_zero fun k _ => ?_
    rw [row_neg _ _ h, zero_mul]

def conv (R : Fin 4096) (j : Fin 5632) : EReal :=
  row (proj A j) R.val * A.CW 0 j + row (proj A j) (R.val + 1) * A.CW 1 j + row (proj A j) (R.val + 2) * A.CW 2 j

/-- Column `k` of the gates, and of the values they gate. -/
abbrev gcol (k : Fin 2816) : Fin 5632 := ⟨k.val, by omega⟩
abbrev ucol (k : Fin 2816) : Fin 5632 := ⟨2816 + k.val, by omega⟩

def act (R : Fin 4096) (k : Fin 2816) : EReal :=
  conv A R (gcol k) * Ideal.logistic (conv A R (gcol k)) * conv A R (ucol k)

def mid (R : Fin 4096) (e : Fin 1024) : EReal := mix A R e + ∑ k : Fin 2816, act A R k * A.WD k e

def out (R : Fin 4096) (e : Fin 1024) : EReal :=
  mid A R e + Ideal.logistic (∑ k : Fin 1024, mid A R k * A.WG k e) * ∑ k : Fin 256, A.P R k * A.WP k e

/-- The terms of the down projection numbered by the columns. -/
def term (R : Fin 4096) (e : Fin 1024) (k : ℕ) : EReal := if h : k < 2816 then act A R ⟨k, h⟩ * A.WD ⟨k, h⟩ e else 0

theorem term_sum (R : Fin 4096) (e : Fin 1024) : ∑ k ∈ Finset.range 2816, term A R e k = ∑ k : Fin 2816, act A R k * A.WD k e := by
  rw [Finset.sum_range]
  exact Finset.sum_congr rfl fun k _ => dif_pos k.isLt

end PSpec

end
-- ==== Proof.MixSpec.lean ====
module

public import proofs.«01_k».proof.Proof.PostSpec
public import proofs.«01_k».proof.Proof.Online

/-! The layer's first half over the extended reals: the norm, the six projections, the head norms, the rotation and the gated convolution. -/

@[expose] public section

noncomputable section

namespace MSpec

open Idealize.ShloMosaic

/-- The arrays the layer's first half reads, in one batch. -/
structure In where
  H : Fin 4096 → Fin 1024 → EReal
  G : Fin 1024 → EReal
  W : Fin 1024 → Fin 2304 → EReal
  GQ : Fin 64 → EReal
  GK : Fin 64 → EReal
  CW : Fin 3 → Fin 512 → EReal
  GC : Fin 512 → EReal
  C : Fin 4096 → Fin 64 → EReal
  S : Fin 4096 → Fin 64 → EReal

/-- A row's rms norm with gain, the length as a literal. -/
def nrm {n : ℕ} (c : BitVec 32) (x g : Fin n → EReal) (e : Fin n) : EReal :=
  x e * Ideal.rsqrt (Ideal.div (∑ j : Fin n, x j * x j) (Ideal.ofBits .f32 c) + Ideal.ofBits .f32 0x358637BD#32) * g e

/-- A head's rotation by a quarter turn of each half: its second sixteen negated before its first sixteen. -/
def rot (x : Fin 64 → EReal) (d : Fin 64) : EReal := if h : d.val % 32 < 16 then -x ⟨d.val + 16, by omega⟩ else x ⟨d.val - 16, by omega⟩

/-- The columns of the head that holds column `j`. -/
def qcol (j : Fin 512) (d : Fin 64) : Fin 2304 := ⟨j.val / 64 * 64 + d.val, by omega⟩
def kcol (j : Fin 128) (d : Fin 64) : Fin 2304 := ⟨512 + (j.val / 64 * 64 + d.val), by omega⟩
abbrev md {n : ℕ} (j : Fin n) : Fin 64 := ⟨j.val % 64, by omega⟩

variable (A : In)

def norm (R : Fin 4096) (k : Fin 1024) : EReal := nrm 0x44800000#32 (A.H R) A.G k

def proj (j : Fin 2304) (R : Fin 4096) : EReal := ∑ k : Fin 1024, norm A R k * A.W k j

/-- A head's rms norm, the head given by its columns. -/
def head (f : Fin 64 → Fin 2304) (g : Fin 64 → EReal) (R : Fin 4096) (d : Fin 64) : EReal := nrm 0x42800000#32 (fun d => proj A (f d) R) g d

def rope (R : Fin 4096) (x : Fin 64 → EReal) (d : Fin 64) : EReal := x d * A.C R d + rot x d * A.S R d

def q (R : Fin 4096) (j : Fin 512) : EReal := rope A R (head A (qcol j) A.GQ R) (md j) * Ideal.ofBits .f32 0x3E000000#32
def k (R : Fin 4096) (j : Fin 128) : EReal := rope A R (head A (kcol j) A.GK R) (md j)
def v (R : Fin 4096) (j : Fin 128) : EReal := proj A ⟨640 + j.val, by omega⟩ R

/-- The gated product the convolution reads. -/
def cu (j : Fin 512) (R : Fin 4096) : EReal := proj A ⟨1280 + j.val, by omega⟩ R * proj A ⟨1792 + j.val, by omega⟩ R

def conv (R : Fin 4096) (j : Fin 512) : EReal :=
  PSpec.row (cu A j) R.val * A.CW 0 j + PSpec.row (cu A j) (R.val + 1) * A.CW 1 j + PSpec.row (cu A j) (R.val + 2) * A.CW 2 j

def mid (R : Fin 4096) (j : Fin 512) : EReal := proj A ⟨768 + j.val, by omega⟩ R * conv A R j

def oc (R : Fin 4096) (j : Fin 512) : EReal := nrm 0x44000000#32 (mid A R) A.GC j

theorem sixtyfour : Ideal.ofBits .f32 0x42800000#32 = ((64 : ℝ) : EReal) := by
  simp [Ideal.ofBits, Ideal.ieee]
  rw [← EReal.coe_mul]
  congr 1
  norm_num

theorem sixtyfourth : Ideal.ofBits .f32 0x3C800000#32 = ((1 / 64 : ℝ) : EReal) := by
  simp [Ideal.ofBits, Ideal.ieee]
  rw [← EReal.coe_mul]
  congr 1
  norm_num

theorem eighth : Ideal.ofBits .f32 0x3E000000#32 = ((1 / 8 : ℝ) : EReal) := by
  simp [Ideal.ofBits, Ideal.ieee]
  rw [← EReal.coe_mul]
  congr 1
  norm_num

/-- The mean over one head as a weighted sum over all heads' columns. -/
theorem group_sum {N : ℕ} (y w : Fin N → EReal) (e : Fin 64 → Fin N) (b : ℕ) (he : ∀ d, (e d).val = b * 64 + d.val)
    (hw : ∀ k, w k = if k.val / 64 = b then Ideal.ofBits .f32 0x3C800000#32 else Ideal.ofBits .f32 0x00000000#32) :
    ∑ k : Fin N, y k * w k = Ideal.div (∑ d : Fin 64, y (e d)) (Ideal.ofBits .f32 0x42800000#32) := by
  rw [sixtyfour, Ideal.div_coe (by norm_num)]
  refine Eq.trans ?_ (Online.sum_mul_coe Finset.univ (1 / 64) (by norm_num) (fun d => y (e d))).symm
  symm
  refine Finset.sum_of_injOn e ?_ ?_ ?_ ?_
  · intro a _ b' _ h
    have h1 := he a
    have h2 := he b'
    rw [h] at h1
    exact Fin.ext (by omega)
  · exact fun _ _ => Finset.mem_coe.2 (Finset.mem_univ _)
  · intro k _ hk
    rw [hw k, if_neg, Ideal.ofBits_zero_f32, mul_zero]
    intro h
    refine hk ⟨⟨k.val - b * 64, by omega⟩, Finset.mem_coe.2 (Finset.mem_univ _), Fin.ext ?_⟩
    rw [he]
    show b * 64 + (k.val - b * 64) = k.val
    omega
  · intro d _
    have h1 := he d
    rw [hw, if_pos (by omega), sixtyfourth]

/-- The rotation as two shifted products, one of whose factors is zero. -/
theorem rope_split (x : Fin 64 → EReal) (R : Fin 4096) (d : Fin 64) (u n su sd : EReal)
    (hu : ∀ h : d.val % 32 < 16, u = x ⟨d.val + 16, by omega⟩) (hn : ∀ h : ¬ d.val % 32 < 16, n = x ⟨d.val - 16, by omega⟩)
    (hsu : su = if d.val % 32 < 16 then -A.S R d else 0) (hsd : sd = if d.val % 32 < 16 then 0 else A.S R d) :
    x d * A.C R d + u * su + n * sd = rope A R x d := by
  unfold rope rot
  split
  · rename_i h
    rw [hsu, hsd, if_pos h, if_pos h, hu h, mul_zero, add_zero, mul_neg, neg_mul]
  · rename_i h
    rw [hsu, hsd, if_neg h, if_neg h, hn h, mul_zero, add_zero]

/-- A scaled head's rotation is the rotation's scaled value. -/
theorem rope_scale (x : Fin 64 → EReal) (R : Fin 4096) (d : Fin 64) (c : ℝ) (hc : 0 ≤ c) :
    rope A R (fun d => x d * (c : EReal)) d = rope A R x d * (c : EReal) := by
  unfold rope rot
  rw [EReal.right_distrib_of_nonneg_of_ne_top (by exact_mod_cast hc) (EReal.coe_ne_top c)]
  refine congrArg₂ (· + ·) (mul_right_comm _ _ _) ?_
  split
  · rw [← neg_mul]
    exact mul_right_comm _ _ _
  · exact mul_right_comm _ _ _

/-- The gain scaled instead of the norm. -/
theorem nrm_scale {n : ℕ} (c : BitVec 32) (x g : Fin n → EReal) (s : EReal) (e : Fin n) : nrm c x (fun e => g e * s) e = nrm c x g e * s :=
  (mul_assoc _ _ _).symm

end MSpec

end
-- ==== Proof.Post.lean ====
module

public import proofs.«01_k».proof.Proof.Gen.Kernel2Ideal.Loops
public import proofs.«01_k».proof.Proof.Gen.Kernel2Ideal.Frame
public import Idealize.ShloMosaic.Lib.VecWindow
public import Idealize.ShloMosaic.Lib.Pipeline.ReadBack

/-! The feed-forward loop of the third call: one trip over a chunk of 256 hidden columns adds the chunk's product to the accumulator, whatever
    the two scratch buffers of the chunk held before. -/

@[expose] public section

set_option maxRecDepth 16384

noncomputable section

namespace Cert.Kernel2Ideal.Post

open Cert.Kernel2Ideal Cert.Kernel2Ideal.Gen Idealize.ShloMosaic Idealize.ShloMosaic.TcCoe Idealize.SL.Sem Idealize.ShloMosaic.Tactic

variable {F : FTy → Type} [FloatOps F]

/-- The gate half of the hidden columns of chunk `k`, before the short convolution. -/
def ug (A2 : Vec F S528x1024 .bf16) (W : Vec F S2x11x1024x256 .bf16) (k : Fin k0_t1_loop.trips) : Vec F S528x256 .f32 :=
  k0_pay2 A2 (View.ld W (Rect.unit (s := S2x11x1024x256) (k0_off1 k) S1x1x1024x256.size (k0_off1_inb k)))

/-- The other half. -/
def uu (A2 : Vec F S528x1024 .bf16) (W : Vec F S2x11x1024x256 .bf16) (k : Fin k0_t1_loop.trips) : Vec F S528x256 .f32 :=
  k0_pay3 A2 (View.ld W (Rect.unit (s := S2x11x1024x256) (k0_off2 k) S1x1x1024x256.size (k0_off2_inb k)))

/-- One trip: the accumulator after chunk `k`. -/
def ffStep (A2 : Vec F S528x1024 .bf16) (W : Vec F S2x11x1024x256 .bf16) (C : Vec F S2x11x3x256 .f32) (D : Vec F S11x256x1024 .bf16)
    (k : Fin k0_t1_loop.trips) (a : Vec F S512x1024 .f32) : Vec F S512x1024 .f32 :=
  k0_pay15
    (k0_pay4 (View.ld C (Rect.unit (s := S2x11x3x256) (k0_off3 k) S1x1x3x256.size (k0_off3_inb k)))
      (View.ld (ug A2 W k) (Rect.unit (s := S528x256) ![7, 0] S512x256.size inb_S528x256_S512x256_7_0))
      (View.ld (ug A2 W k) (Rect.unit (s := S528x256) ![8, 0] S512x256.size inb_S528x256_S512x256_8_0))
      (View.ld (ug A2 W k) (Rect.unit (s := S528x256) ![9, 0] S512x256.size inb_S528x256_S512x256_9_0)))
    (View.ld C (Rect.unit (s := S2x11x3x256) (k0_off4 k) S1x1x3x256.size (k0_off4_inb k)))
    (View.ld (uu A2 W k) (Rect.unit (s := S528x256) ![7, 0] S512x256.size inb_S528x256_S512x256_7_0))
    (View.ld (uu A2 W k) (Rect.unit (s := S528x256) ![8, 0] S512x256.size inb_S528x256_S512x256_8_0))
    (View.ld (uu A2 W k) (Rect.unit (s := S528x256) ![9, 0] S512x256.size inb_S528x256_S512x256_9_0))
    a
    (View.ld D (Rect.unit (s := S11x256x1024) (k0_off5 k) S1x256x1024.size (k0_off5_inb k)))

/-- The accumulator after the first `n` chunks, from `a`. -/
def ffAcc (A2 : Vec F S528x1024 .bf16) (W : Vec F S2x11x1024x256 .bf16) (C : Vec F S2x11x3x256 .f32) (D : Vec F S11x256x1024 .bf16)
    (a : Vec F S512x1024 .f32) : ℕ → Vec F S512x1024 .f32
  | 0 => a
  | n + 1 => if h : n < k0_t1_loop.trips then ffStep A2 W C D ⟨n, h⟩ (ffAcc A2 W C D a n) else ffAcc A2 W C D a n

theorem readCov_ld {κ : Kind} {sp : Space} {s : Shape} {e : EltTy} (v : View sig κ sp s e) {off : Fin s.rank → ℕ} (inb : ∀ a, off a + s.size a ≤ s.size a)
    (w : (Rect.unit off s.size inb).shape.Idx → Elt F e) (L : List (View.Piece (Elt F) s e)) (r : Rect s) :
    v.readCov (⟨Rect.unit off s.size inb, w⟩ :: L) r.toLoadRect = View.ld (show s.Idx → Elt F e from w) r := by
  unfold View.readCov
  rw [View.readAt_eq_ld, View.read_writes_full]

theorem readCov_528 {κ : Kind} {sp : Space} (v : View sig κ sp S528x256 .f32) (inb : ∀ a, ![0, 0] a + ![528, 256] a ≤ S528x256.size a)
    (w : Vec F S528x256 .f32) (off sz : Fin 2 → ℕ) (inb' : ∀ a, off a + sz a ≤ S528x256.size a) :
    v.readCov [(⟨Rect.unit (s := S528x256) ![0, 0] ![528, 256] inb, w⟩ : View.Piece (Elt F) S528x256 .f32)] (Rect.unit (s := S528x256) off sz inb').toLoadRect
      = View.ld w (Rect.unit (s := S528x256) off sz inb') :=
  readCov_ld v inb w [] _

/-- A trip leaves `ffStep` of what it finds in the accumulator. -/
theorem trip_read (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x512x512 .bf16) (harg8 : arg8.IsWhole) (arg9 : Memref sig .tc .vmem S1x16x512 .bf16) (harg9 : arg9.IsWhole) (arg10 : Memref sig .tc .vmem S1x16x512 .bf16) (harg10 : arg10.IsWhole) (arg11 : Memref sig .tc .vmem S1x512x256 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S2x11x1024x256 .bf16) (harg14 : arg14.IsWhole) (arg15 : Memref sig .tc .vmem S2x11x3x256 .f32) (harg15 : arg15.IsWhole) (arg16 : Memref sig .tc .vmem S11x256x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S1x512x1024 .f32) (harg19 : arg19.IsWhole) (arg20 : Memref sig .tc .vmem S512x1024 .f32) (harg20 : arg20.IsWhole) (arg21 : Memref sig .tc .vmem S528x1024 .bf16) (harg21 : arg21.IsWhole) (arg22 : Memref sig .tc .vmem S528x256 .f32) (harg22 : arg22.IsWhole) (arg23 : Memref sig .tc .vmem S528x256 .f32) (harg23 : arg23.IsWhole) (arg24 : Memref sig .tc .vmem S512x1024 .f32) (harg24 : arg24.IsWhole) (v57 : IVec S528x1 1) (v71 : FVec F S528x1024 .f32) (X_arg14 : BufTy.Contents (Elt F) arg14.view.ty) (X_arg15 : BufTy.Contents (Elt F) arg15.view.ty) (X_arg16 : BufTy.Contents (Elt F) arg16.view.ty) (X_arg21 : BufTy.Contents (Elt F) arg21.view.ty) (k : Fin k0_t1_loop.trips) (f22 : BufTy.Contents (Elt F) arg22.view.ty) (f23 : BufTy.Contents (Elt F) arg23.view.ty) (f24 g : BufTy.Contents (Elt F) arg24.view.ty) :
    arg24.view.read (Elt F) (arg24.view.writes (Elt F) g ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v57 v71 X_arg14 X_arg15 X_arg16 X_arg21 k).2.2.1 f22 f23 f24))
      = ffStep (arg21.view.read (Elt F) X_arg21) (arg14.view.read (Elt F) X_arg14) (arg15.view.read (Elt F) X_arg15) (arg16.view.read (Elt F) X_arg16) k
          (arg24.view.read (Elt F) f24) := by
  unfold trip_k0_t1
  refine (View.read_writes_full _ _ _ _ _).trans ?_
  have hfull : View.readAt (Elt F) arg24.view (Rect.unit (s := S512x1024) ![0, 0] S512x1024.size inb_S512x1024_S512x1024_0_0).toLoadRect f24 = arg24.view.read (Elt F) f24 :=
    View.readAt_full _ _ _
  have hA : View.readAt (Elt F) arg21.view (Rect.unit (s := S528x1024) ![0, 0] S528x1024.size inb_S528x1024_S528x1024_0_0).toLoadRect X_arg21 = arg21.view.read (Elt F) X_arg21 :=
    View.readAt_full _ _ _
  rw [hfull]
  unfold ffStep ug uu
  unfold trip_k0_t1.sl.r trip_k0_t1.sl.v139 trip_k0_t1.sl.v143 trip_k0_t1.sl.v148
  unfold trip_k0_t1.sl.v122 trip_k0_t1.sl.v126 trip_k0_t1.sl.v131 trip_k0_t1.sl.HW_arg22_1 trip_k0_t1.sl.HW_arg23_1
  simp only [View.readAt_eq_ld] at hA
  simp only [View.readAt_eq_ld]
  rw [hA]
  simp only [readCov_528]

/-- After `n` trips the accumulator holds `ffAcc` of what it held before the loop. -/
theorem pb_read (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x512x512 .bf16) (harg8 : arg8.IsWhole) (arg9 : Memref sig .tc .vmem S1x16x512 .bf16) (harg9 : arg9.IsWhole) (arg10 : Memref sig .tc .vmem S1x16x512 .bf16) (harg10 : arg10.IsWhole) (arg11 : Memref sig .tc .vmem S1x512x256 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S2x11x1024x256 .bf16) (harg14 : arg14.IsWhole) (arg15 : Memref sig .tc .vmem S2x11x3x256 .f32) (harg15 : arg15.IsWhole) (arg16 : Memref sig .tc .vmem S11x256x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S1x512x1024 .f32) (harg19 : arg19.IsWhole) (arg20 : Memref sig .tc .vmem S512x1024 .f32) (harg20 : arg20.IsWhole) (arg21 : Memref sig .tc .vmem S528x1024 .bf16) (harg21 : arg21.IsWhole) (arg22 : Memref sig .tc .vmem S528x256 .f32) (harg22 : arg22.IsWhole) (arg23 : Memref sig .tc .vmem S528x256 .f32) (harg23 : arg23.IsWhole) (arg24 : Memref sig .tc .vmem S512x1024 .f32) (harg24 : arg24.IsWhole) (v57 : IVec S528x1 1) (v71 : FVec F S528x1024 .f32) (X_arg14 : BufTy.Contents (Elt F) arg14.view.ty) (X_arg15 : BufTy.Contents (Elt F) arg15.view.ty) (X_arg16 : BufTy.Contents (Elt F) arg16.view.ty) (X_arg21 : BufTy.Contents (Elt F) arg21.view.ty)  (G_arg22 : BufTy.Contents (Elt F) arg22.view.ty) (G_arg23 : BufTy.Contents (Elt F) arg23.view.ty) (G_arg24 : BufTy.Contents (Elt F) arg24.view.ty) (n : ℕ) (hn : n ≤ k0_t1_loop.trips) :
    arg24.view.read (Elt F) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v57 v71 X_arg14 X_arg15 X_arg16 X_arg21 G_arg22 G_arg23 G_arg24 n).2.2)
      = ffAcc (arg21.view.read (Elt F) X_arg21) (arg14.view.read (Elt F) X_arg14) (arg15.view.read (Elt F) X_arg15) (arg16.view.read (Elt F) X_arg16)
          (arg24.view.read (Elt F) G_arg24) n := by
  induction n with
  | zero => rfl
  | succ n ih =>
    have h : n < k0_t1_loop.trips := hn
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v57 v71 X_arg14 X_arg15 X_arg16 X_arg21 G_arg22 G_arg23 G_arg24 ⟨n, h⟩
    have e2 := congrArg (fun z => z.2.2) e
    refine (congrArg (fun z => arg24.view.read (Elt F) (arg24.view.writes (Elt F) G_arg24 z)) e2).trans ?_
    refine (congrArg (fun z => arg24.view.read (Elt F) z) (View.writes_append _ _ _ _)).trans ?_
    refine (trip_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v57 v71 X_arg14 X_arg15 X_arg16 X_arg21 ⟨n, h⟩ _ _ _ _).trans ?_
    refine Eq.trans ?_ (dif_pos h).symm
    exact congrArg _ (ih (Nat.le_of_lt h))

/-- What a grid point leaves in the output block. -/
def outv (i : grid0.Coords) (x0 : Vec F S1x512x1024 .f32) (x1 : Vec F S1x8x1024 .f32) (x2 : Vec F S1x8x1024 .f32) (x3 : Vec F S1x512x512 .bf16)
    (x4 : Vec F S1x16x512 .bf16) (x5 : Vec F S1x16x512 .bf16) (x6 : Vec F S1x512x512 .bf16) (x7 : Vec F S1x16x512 .bf16) (x8 : Vec F S1x16x512 .bf16)
    (x9 : Vec F S1x512x256 .f32) (x10 : Vec F S1024x1024 .bf16) (x11 : Vec F S1x1024 .f32) (x12 : Vec F S2x11x1024x256 .bf16) (x13 : Vec F S2x11x3x256 .f32)
    (x14 : Vec F S11x256x1024 .bf16) (x15 : Vec F S1024x1024 .bf16) (x16 : Vec F S256x1024 .bf16) : Vec F S1x512x1024 .f32 :=
  k0_pay1 (k0_pay16
    (k0_pay10 (k0_pay5 x4 x5 x3) (k0_pay6 x7 x8 x6) (k0_pay7 x1) (k0_pay8 x0) x2
      (View.ld x10 (Rect.unit (s := S1024x1024) ![0, 0] S512x1024.size inb_S1024x1024_S512x1024_0_0))
      (View.ld x10 (Rect.unit (s := S1024x1024) ![512, 0] S512x1024.size inb_S1024x1024_S512x1024_512_0)))
    (ffAcc
      (k0_pay13 (k0_pay11 (BitVec.ofNat 32 (i 1).val))
        (k0_pay12 (k0_pay5 x4 x5 x3) (k0_pay6 x7 x8 x6) (k0_pay7 x1) (k0_pay8 x0) x2
          (View.ld x10 (Rect.unit (s := S1024x1024) ![0, 0] S512x1024.size inb_S1024x1024_S512x1024_0_0))
          (View.ld x10 (Rect.unit (s := S1024x1024) ![512, 0] S512x1024.size inb_S1024x1024_S512x1024_512_0)) x11))
      x12 x13 x14 (k0_pay14 (F := F)) k0_t1_loop.trips)
    x15 x9 x16)

end Cert.Kernel2Ideal.Post

end
-- ==== Proof.PostAt.lean ====
module

public import proofs.«01_k».proof.Proof.Post
public import proofs.«01_k».proof.Proof.PostSpec

/-! What a grid point of the third call leaves in its block, entry by entry over the extended reals. -/

@[expose] public section

set_option maxRecDepth 16384

noncomputable section

namespace Cert.Kernel2Ideal.Post

open Cert.Kernel2Ideal Cert.Kernel2Ideal.Gen Idealize.ShloMosaic.TcCoe
open Idealize.ShloMosaic hiding ix1 ix2 ix3 ix4
open ValueIdx (ix1 ix2 ix3 ix4)

theorem mixdot_at (a : FVec Ideal S528x512 .bf16) (b : FVec Ideal S512x1024 .bf16) (r : Fin 528) (j : Fin 1024) :
    matmul dot_S528x512_S512x1024_S528x1024_1_0_0_1_n_n none a b (constant S528x1024 .f32 0x00000000#32) (ix2 r j) = ∑ k : Fin 512, a (ix2 r k) * b (ix2 k j) := by
  refine Mat.matmul_at dot_S528x512_S512x1024_S528x1024_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

theorem updot_at (a : FVec Ideal S528x1024 .bf16) (b : FVec Ideal S1024x256 .bf16) (r : Fin 528) (j : Fin 256) :
    matmul dot_S528x1024_S1024x256_S528x256_1_0_0_1_n_n none a b (constant S528x256 .f32 0x00000000#32) (ix2 r j) = ∑ k : Fin 1024, a (ix2 r k) * b (ix2 k j) := by
  refine Mat.matmul_at dot_S528x1024_S1024x256_S528x256_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

theorem downdot_at (a : FVec Ideal S512x256 .bf16) (b : FVec Ideal S256x1024 .bf16) (r : Fin 512) (j : Fin 1024) :
    matmul dot_S512x256_S256x1024_S512x1024_1_0_0_1_n_n none a b (constant S512x1024 .f32 0x00000000#32) (ix2 r j) = ∑ k : Fin 256, a (ix2 r k) * b (ix2 k j) := by
  refine Mat.matmul_at dot_S512x256_S256x1024_S512x1024_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

theorem gatedot_at (a : FVec Ideal S512x1024 .bf16) (b : FVec Ideal S1024x1024 .bf16) (r : Fin 512) (j : Fin 1024) :
    matmul dot_S512x1024_S1024x1024_S512x1024_1_0_0_1_n_n none a b (constant S512x1024 .f32 0x00000000#32) (ix2 r j) = ∑ k : Fin 1024, a (ix2 r k) * b (ix2 k j) := by
  refine Mat.matmul_at dot_S512x1024_S1024x1024_S512x1024_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

/-- Eight rows before a tile, the tile's 512 and eight after, each read from the same rows of `f`. -/
theorem ext_at {N : ℕ} (P : (⟨2, ![8, N]⟩ : Shape).Idx → EReal) (M : (⟨2, ![512, N]⟩ : Shape).Idx → EReal) (X : (⟨2, ![8, N]⟩ : Shape).Idx → EReal)
    (h : Shape.Concatenates [⟨2, ![8, N]⟩, ⟨2, ![512, N]⟩, ⟨2, ![8, N]⟩] ⟨2, ![528, N]⟩ 0) (f : Fin 4096 → Fin N → EReal) (i : ℕ)
    (hP : ∀ (R : Fin 4096) (r : Fin 8) k, R.val + 8 = i * 512 + r.val → P (ix2 r k) = f R k)
    (hM : ∀ (R : Fin 4096) (r : Fin 512) k, R.val = i * 512 + r.val → M (ix2 r k) = f R k)
    (hX : ∀ (R : Fin 4096) (r : Fin 8) k, R.val = i * 512 + 512 + r.val → X (ix2 r k) = f R k)
    (q : Fin 528) (R : Fin 4096) (hR : R.val + 8 = i * 512 + q.val) (k : Fin N) :
    concatenate ⟨2, ![528, N]⟩ 0 [⟨⟨2, ![8, N]⟩, P⟩, ⟨⟨2, ![512, N]⟩, M⟩, ⟨⟨2, ![8, N]⟩, X⟩] h (ix2 q k) = f R k := by
  have hq := q.isLt
  by_cases h1 : q.val < 8
  · refine (concatenate_apply_piece (t := ⟨2, ![528, N]⟩) 0 [⟨⟨2, ![8, N]⟩, P⟩, ⟨⟨2, ![512, N]⟩, M⟩, ⟨⟨2, ![8, N]⟩, X⟩] h (ix2 q k) 0 (by simp) ⟨2, ![8, N]⟩ P rfl rfl 0 rfl (ix2 (⟨q.val, h1⟩ : Fin 8) k) ?_ ?_).trans (hP R _ k hR)
    · intro b hb
      match b with
      | ⟨0, _⟩ => exact absurd rfl hb
      | ⟨1, _⟩ => rfl
    · show 0 + q.val = q.val
      omega
  · by_cases h2 : q.val < 520
    · refine (concatenate_apply_piece (t := ⟨2, ![528, N]⟩) 0 [⟨⟨2, ![8, N]⟩, P⟩, ⟨⟨2, ![512, N]⟩, M⟩, ⟨⟨2, ![8, N]⟩, X⟩] h (ix2 q k) 1 (by simp) ⟨2, ![512, N]⟩ M rfl rfl 8 rfl (ix2 (⟨q.val - 8, by omega⟩ : Fin 512) k) ?_ ?_).trans
        (hM R _ k (by show R.val = i * 512 + (q.val - 8); omega))
      · intro b hb
        match b with
        | ⟨0, _⟩ => exact absurd rfl hb
        | ⟨1, _⟩ => rfl
      · show 8 + (q.val - 8) = q.val
        omega
    · refine (concatenate_apply_piece (t := ⟨2, ![528, N]⟩) 0 [⟨⟨2, ![8, N]⟩, P⟩, ⟨⟨2, ![512, N]⟩, M⟩, ⟨⟨2, ![8, N]⟩, X⟩] h (ix2 q k) 2 (by simp) ⟨2, ![8, N]⟩ X rfl rfl 520 rfl (ix2 (⟨q.val - 520, by omega⟩ : Fin 8) k) ?_ ?_).trans
        (hX R _ k (by show R.val = i * 512 + 512 + (q.val - 520); omega))
      · intro b hb
        match b with
        | ⟨0, _⟩ => exact absurd rfl hb
        | ⟨1, _⟩ => rfl
      · show 520 + (q.val - 520) = q.val
        omega

/-- A block of one batch without its unit axis. -/
theorem drop_at {α : Type} {M N : ℕ} (x : (⟨3, ![1, M, N]⟩ : Shape).Idx → α) (h : Shape.ShapeCasts ⟨3, ![1, M, N]⟩ ⟨2, ![M, N]⟩) (r : Fin M) (k : Fin N) :
    shapeCast ⟨2, ![M, N]⟩ x h (ix2 r k) = x (ix3 (0 : Fin 1) r k) := by
  refine shapeCast_apply _ _ _ _ ?_
  rw [Shape.rowMajor_val_two, Shape.rowMajor_val_three]
  show (0 * M + r.val) * N + k.val = r.val * N + k.val
  rw [Nat.zero_mul, Nat.zero_add]

/-- A block with two unit axes without them. -/
theorem drop2_at {α : Type} {M N : ℕ} (x : (⟨4, ![1, 1, M, N]⟩ : Shape).Idx → α) (h : Shape.ShapeCasts ⟨4, ![1, 1, M, N]⟩ ⟨2, ![M, N]⟩) (r : Fin M) (k : Fin N) :
    shapeCast ⟨2, ![M, N]⟩ x h (ix2 r k) = x (ix4 (0 : Fin 1) (0 : Fin 1) r k) := by
  refine shapeCast_apply _ _ _ _ ?_
  rw [Shape.rowMajor_val_two, Shape.rowMajor_val_four]
  show ((0 * 1 + 0) * M + r.val) * N + k.val = r.val * N + k.val
  simp only [Nat.zero_mul, Nat.zero_add]

/-- Rows `o` and on of an array. -/
theorem slice_at {α : Type} {M K N : ℕ} (o : ℕ) (x : (⟨2, ![M, N]⟩ : Shape).Idx → α) (h) (r : Fin K) (r' : Fin M) (hr : r'.val = o + r.val) (k : Fin N) :
    extractStridedSlice ⟨2, ![K, N]⟩ ![o, 0] x h (ix2 r k) = x (ix2 r' k) := by
  refine extractStridedSlice_apply _ _ _ (ix2 r k) (ix2 r' k) ?_
  intro a
  match a with
  | ⟨0, _⟩ => exact hr
  | ⟨1, _⟩ => exact (Nat.zero_add _).symm

/-- Two blocks of sixteen rows and a tile give the eight rows before it, its rows and the eight after. -/
theorem halo_at (xm : Vec Ideal S1x512x512 .bf16) (xp xn : Vec Ideal S1x16x512 .bf16) (f : Fin 4096 → Fin 512 → EReal) (i : ℕ)
    (hm : ∀ (R : Fin 4096) (r : Fin 512) k, R.val = i * 512 + r.val → xm (ix3 (0 : Fin 1) r k) = f R k)
    (hp : ∀ (R : Fin 4096) (r : Fin 16) k, R.val + 16 = i * 512 + r.val → xp (ix3 (0 : Fin 1) r k) = f R k)
    (hn : ∀ (R : Fin 4096) (r : Fin 16) k, R.val = i * 512 + 512 + r.val → xn (ix3 (0 : Fin 1) r k) = f R k)
    (q : Fin 528) (R : Fin 4096) (hR : R.val + 8 = i * 512 + q.val) (k : Fin 512) : k0_pay5 xp xn xm (ix2 q k) = f R k := by
  unfold k0_pay5
  refine ext_at _ _ _ concatenates_S8x512_S512x512_S8x512_S528x512_d0 f i ?_ ?_ ?_ q R hR k
  · intro R r k h
    refine (slice_at 8 _ _ r (⟨8 + r.val, by omega⟩ : Fin 16) rfl k).trans ?_
    refine (drop_at xp _ _ k).trans (hp R _ k ?_)
    show R.val + 16 = i * 512 + (8 + r.val)
    omega
  · intro R r k h
    exact (drop_at xm _ r k).trans (hm R r k h)
  · intro R r k h
    refine (slice_at 0 _ _ r (⟨r.val, by omega⟩ : Fin 16) (Nat.zero_add _).symm k).trans ?_
    exact (drop_at xn _ _ k).trans (hn R _ k h)

/-- Rows of the mask: the halo rows that lie outside the array. -/
theorem mask_at : ∀ (i : Fin 8) (q : Fin 528), k0_pay11 (BitVec.ofNat 32 i.val) (ix2 q (0 : Fin 1)) = if (q.val < 8 ∧ i.val = 0) ∨ (520 ≤ q.val ∧ i.val = 7) then 0#1 else 1#1 := by
  decide +kernel

end Cert.Kernel2Ideal.Post

end
-- ==== Proof.MixVal.lean ====
module

public import proofs.«01_k».proof.Proof.MixBlk
public import proofs.«01_k».proof.Proof.MixSpec
public import proofs.«01_k».proof.Proof.PostAt

/-! A grid point's blocks of the first call against the layer's first half, entry by entry. -/

@[expose] public section

set_option maxRecDepth 16384

noncomputable section

namespace Cert.Kernel3Ideal.Mix

open Cert.Kernel3Ideal Cert.Kernel3Ideal.Gen Idealize.ShloMosaic.TcCoe
open Idealize.ShloMosaic hiding ix1 ix2 ix3 ix4
open ValueIdx (ix1 ix2 ix3 ix4)
open Cert.Kernel2Ideal.Post (ext_at drop_at slice_at)
open MSpec (md qcol kcol)

theorem dotA (a : FVec Ideal S528x1024 .bf16) (b : FVec Ideal S1024x512 .bf16) (r : Fin 528) (j : Fin 512) :
    matmul dot_S528x1024_S1024x512_S528x512_1_0_0_1_n_n none a b (constant S528x512 .f32 0x00000000#32) (ix2 r j) = ∑ k : Fin 1024, a (ix2 r k) * b (ix2 k j) := by
  refine Mat.matmul_at dot_S528x1024_S1024x512_S528x512_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

theorem dotB (a : FVec Ideal S528x1024 .bf16) (b : FVec Ideal S1024x256 .bf16) (r : Fin 528) (j : Fin 256) :
    matmul dot_S528x1024_S1024x256_S528x256_1_0_0_1_n_n none a b (constant S528x256 .f32 0x00000000#32) (ix2 r j) = ∑ k : Fin 1024, a (ix2 r k) * b (ix2 k j) := by
  refine Mat.matmul_at dot_S528x1024_S1024x256_S528x256_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

theorem dotG (a : FVec Ideal S512x512 .bf16) (b : FVec Ideal S512x512 .bf16) (r : Fin 512) (j : Fin 512) :
    matmul dot_S512x512_S512x512_S512x512_1_0_0_1_n_n none a b (constant S512x512 .f32 0x00000000#32) (ix2 r j) = ∑ k : Fin 512, a (ix2 r k) * b (ix2 k j) := by
  refine Mat.matmul_at dot_S512x512_S512x512_S512x512_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

theorem dotK (a : FVec Ideal S512x128 .bf16) (b : FVec Ideal S128x128 .bf16) (r : Fin 512) (j : Fin 128) :
    matmul dot_S512x128_S128x128_S512x128_1_0_0_1_n_n none a b (constant S512x128 .f32 0x00000000#32) (ix2 r j) = ∑ k : Fin 128, a (ix2 r k) * b (ix2 k j) := by
  refine Mat.matmul_at dot_S512x128_S128x128_S512x128_1_0_0_1_n_n rfl rfl ?_ ?_ ?_ ?_ none a b r j
  · intro i q
    unfold DotDims.lhsIdx
    rw [dif_neg (by decide), dif_pos (by decide)]; rfl
  · exact fun i q => DotDims.lhsIdx_val_of_single _ rfl i q
  · exact fun i q => DotDims.rhsIdx_val_of_single _ rfl i q
  · intro i q
    unfold DotDims.rhsIdx
    rw [dif_neg (by decide), dif_pos (by decide)]; rfl

/-- Columns `o` and on of an array. -/
theorem cslice_at {α : Type} {M K N : ℕ} (o : ℕ) (x : (⟨2, ![M, N]⟩ : Shape).Idx → α) (h) (r : Fin M) (k : Fin K) (k' : Fin N) (hk : k'.val = o + k.val) :
    extractStridedSlice ⟨2, ![M, K]⟩ ![0, o] x h (ix2 r k) = x (ix2 r k') := by
  refine extractStridedSlice_apply _ _ _ (ix2 r k) (ix2 r k') ?_
  intro a
  match a with
  | ⟨0, _⟩ => exact (Nat.zero_add _).symm
  | ⟨1, _⟩ => exact hk

theorem trunc_at {s : Shape} (x : FVec Ideal s .f32) (h) (y : s.Idx) : truncf (F := Ideal) .bf16 x h y = (x y : EReal) := rfl

/-- A block with a unit axis put before it. -/
theorem lift_at {α : Type} {M N : ℕ} (x : (⟨2, ![M, N]⟩ : Shape).Idx → α) (h : Shape.ShapeCasts ⟨2, ![M, N]⟩ ⟨3, ![1, M, N]⟩) (r : Fin M) (k : Fin N) :
    shapeCast ⟨3, ![1, M, N]⟩ x h (ix3 (0 : Fin 1) r k) = x (ix2 r k) := by
  refine shapeCast_apply _ _ _ (ix2 r k) ?_
  rw [Shape.rowMajor_val_two, Shape.rowMajor_val_three]
  show r.val * N + k.val = (0 * M + r.val) * N + k.val
  rw [Nat.zero_mul, Nat.zero_add]

/-- Four pieces of 128 columns side by side. -/
theorem cat4_at (X0 X1 X2 X3 : FVec Ideal S512x128 .f32) (h) (f : Fin 512 → EReal) (r : Fin 512)
    (h0 : ∀ l : Fin 128, X0 (ix2 r l) = f ⟨0 + l.val, by omega⟩) (h1 : ∀ l : Fin 128, X1 (ix2 r l) = f ⟨128 + l.val, by omega⟩)
    (h2 : ∀ l : Fin 128, X2 (ix2 r l) = f ⟨256 + l.val, by omega⟩) (h3 : ∀ l : Fin 128, X3 (ix2 r l) = f ⟨384 + l.val, by omega⟩) (j : Fin 512) :
    concatenate S512x512 1 [⟨S512x128, X0⟩, ⟨S512x128, X1⟩, ⟨S512x128, X2⟩, ⟨S512x128, X3⟩] h (ix2 r j) = f j := by
  have hj := j.isLt
  rcases (by omega : j.val < 128 ∨ (128 ≤ j.val ∧ j.val < 256) ∨ (256 ≤ j.val ∧ j.val < 384) ∨ 384 ≤ j.val) with g | g | g | g
  · refine (concatenate_apply_piece (t := S512x512) 1 [⟨S512x128, X0⟩, ⟨S512x128, X1⟩, ⟨S512x128, X2⟩, ⟨S512x128, X3⟩] h (ix2 r j) 0 (by simp) S512x128 X0 rfl rfl 0 rfl (ix2 r (⟨j.val - 0, by omega⟩ : Fin 128)) ?_ ?_).trans
      ((h0 ⟨j.val - 0, by omega⟩).trans (congrArg f (Fin.ext (by show 0 + (j.val - 0) = j.val; omega))))
    · intro b hb
      match b with
      | ⟨0, _⟩ => rfl
      | ⟨1, _⟩ => exact absurd rfl hb
    · show 0 + (j.val - 0) = j.val
      omega
  · refine (concatenate_apply_piece (t := S512x512) 1 [⟨S512x128, X0⟩, ⟨S512x128, X1⟩, ⟨S512x128, X2⟩, ⟨S512x128, X3⟩] h (ix2 r j) 1 (by simp) S512x128 X1 rfl rfl 128 rfl (ix2 r (⟨j.val - 128, by omega⟩ : Fin 128)) ?_ ?_).trans
      ((h1 ⟨j.val - 128, by omega⟩).trans (congrArg f (Fin.ext (by show 128 + (j.val - 128) = j.val; omega))))
    · intro b hb
      match b with
      | ⟨0, _⟩ => rfl
      | ⟨1, _⟩ => exact absurd rfl hb
    · show 128 + (j.val - 128) = j.val
      omega
  · refine (concatenate_apply_piece (t := S512x512) 1 [⟨S512x128, X0⟩, ⟨S512x128, X1⟩, ⟨S512x128, X2⟩, ⟨S512x128, X3⟩] h (ix2 r j) 2 (by simp) S512x128 X2 rfl rfl 256 rfl (ix2 r (⟨j.val - 256, by omega⟩ : Fin 128)) ?_ ?_).trans
      ((h2 ⟨j.val - 256, by omega⟩).trans (congrArg f (Fin.ext (by show 256 + (j.val - 256) = j.val; omega))))
    · intro b hb
      match b with
      | ⟨0, _⟩ => rfl
      | ⟨1, _⟩ => exact absurd rfl hb
    · show 256 + (j.val - 256) = j.val
      omega
  · refine (concatenate_apply_piece (t := S512x512) 1 [⟨S512x128, X0⟩, ⟨S512x128, X1⟩, ⟨S512x128, X2⟩, ⟨S512x128, X3⟩] h (ix2 r j) 3 (by simp) S512x128 X3 rfl rfl 384 rfl (ix2 r (⟨j.val - 384, by omega⟩ : Fin 128)) ?_ ?_).trans
      ((h3 ⟨j.val - 384, by omega⟩).trans (congrArg f (Fin.ext (by show 384 + (j.val - 384) = j.val; omega))))
    · intro b hb
      match b with
      | ⟨0, _⟩ => rfl
      | ⟨1, _⟩ => exact absurd rfl hb
    · show 384 + (j.val - 384) = j.val
      omega

/-- A pair of heads rotated: the columns times the cosines, and two shifts of them times the two sine tables. -/
abbrev chunk (X cs su sd : FVec Ideal S512x128 .f32) : FVec Ideal S512x128 .f32 :=
  addf (addf (mulf X cs) (mulf (dynamicRotate 1 112#32 none X rotates_S512x128_d1) su)) (mulf (dynamicRotate 1 16#32 none X rotates_S512x128_d1) sd)

theorem up_at (X : FVec Ideal S512x128 .f32) (r : Fin 512) (l : Fin 128) :
    dynamicRotate 1 112#32 none X rotates_S512x128_d1 (ix2 r l) = X (ix2 r (⟨(l.val + 16) % 128, by omega⟩ : Fin 128)) := by
  unfold dynamicRotate
  refine congrArg X (funext fun b => ?_)
  match b with
  | ⟨0, _⟩ => rfl
  | ⟨1, _⟩ => exact Fin.ext (by show (l.val + 128 - 112) % 128 = (l.val + 16) % 128; omega)

theorem down_at (X : FVec Ideal S512x128 .f32) (r : Fin 512) (l : Fin 128) :
    dynamicRotate 1 16#32 none X rotates_S512x128_d1 (ix2 r l) = X (ix2 r (⟨(l.val + 112) % 128, by omega⟩ : Fin 128)) := by
  unfold dynamicRotate
  refine congrArg X (funext fun b => ?_)
  match b with
  | ⟨0, _⟩ => rfl
  | ⟨1, _⟩ => exact Fin.ext (by show (l.val + 128 - 16) % 128 = (l.val + 112) % 128; omega)

theorem chunk_at (A : MSpec.In) (X cs su sd : FVec Ideal S512x128 .f32) (r : Fin 512) (R : Fin 4096) (l : Fin 128) (x : Fin 64 → EReal)
    (hX : ∀ l' : Fin 128, l'.val / 64 = l.val / 64 → X (ix2 r l') = x (md l')) (hc : cs (ix2 r l) = A.C R (md l))
    (hsu : su (ix2 r l) = if (md l).val % 32 < 16 then -A.S R (md l) else 0) (hsd : sd (ix2 r l) = if (md l).val % 32 < 16 then 0 else A.S R (md l)) :
    chunk X cs su sd (ix2 r l) = MSpec.rope A R x (md l) := by
  have hl := l.isLt
  refine Eq.trans ?_ (MSpec.rope_split A x R (md l) (X (ix2 r (⟨(l.val + 16) % 128, by omega⟩ : Fin 128))) (X (ix2 r (⟨(l.val + 112) % 128, by omega⟩ : Fin 128)))
    (su (ix2 r l)) (sd (ix2 r l)) ?_ ?_ hsu hsd)
  · exact congrArg₂ (· + ·) (congrArg₂ (· + ·) (congrArg₂ (· * ·) (hX l rfl) hc) (congrArg (· * su (ix2 r l)) (up_at X r l))) (congrArg (· * sd (ix2 r l)) (down_at X r l))
  · intro h
    change l.val % 64 % 32 < 16 at h
    refine (hX _ (by show (l.val + 16) % 128 / 64 = l.val / 64; omega)).trans (congrArg x (Fin.ext ?_))
    show (l.val + 16) % 128 % 64 = l.val % 64 + 16
    omega
  · intro h
    change ¬ l.val % 64 % 32 < 16 at h
    refine (hX _ (by show (l.val + 112) % 128 / 64 = l.val / 64; omega)).trans (congrArg x (Fin.ext ?_))
    show (l.val + 112) % 128 % 64 = l.val % 64 - 16
    omega

/-- The query columns normed head by head. -/
abbrev hdq (z : FVec Ideal S512x512 .f32) (g : FVec Ideal S1x512 .f32) (w : Vec Ideal S512x512 .bf16) : FVec Ideal S512x512 .f32 :=
  mulf (mulf z (rsqrt (addf (matmul (φ₂ := .bf16) dot_S512x512_S512x512_S512x512_1_0_0_1_n_n none (truncf .bf16 (mulf z z) bitsLt_bf16_f32) (shapeCast S512x512 w shapeCasts_S512x512_S512x512) (constant S512x512 .f32 0x00000000#32))
    (broadcast S512x512 (Scalar.ofBits .f32 0x358637BD#32 : Ideal .f32))))) (broadcastTo S512x512 g broadcasts_S1x512_S512x512)

theorem pay7_eq (cs su sd : FVec Ideal S512x128 .f32) (z : FVec Ideal S512x512 .f32) (g : FVec Ideal S1x512 .f32) (w : Vec Ideal S512x512 .bf16) :
    k0_pay7 cs su sd z g w = truncf .bf16 (concatenate S512x512 1 [⟨S512x128, chunk (extractStridedSlice S512x128 ![0, 0] (hdq z g w) slices_S512x512_o0_0_S512x128) cs su sd⟩,
      ⟨S512x128, chunk (extractStridedSlice S512x128 ![0, 128] (hdq z g w) slices_S512x512_o0_128_S512x128) cs su sd⟩, ⟨S512x128, chunk (extractStridedSlice S512x128 ![0, 256] (hdq z g w) slices_S512x512_o0_256_S512x128) cs su sd⟩,
      ⟨S512x128, chunk (extractStridedSlice S512x128 ![0, 384] (hdq z g w) slices_S512x512_o0_384_S512x128) cs su sd⟩] concatenates_S512x128_S512x128_S512x128_S512x128_S512x512_d1) bitsLt_bf16_f32 := rfl

/-- The key columns normed head by head. -/
abbrev hdk (z : FVec Ideal S512x128 .f32) (g : Vec Ideal S1x128 .f32) (w : Vec Ideal S128x128 .bf16) : FVec Ideal S512x128 .f32 :=
  mulf (mulf z (rsqrt (addf (matmul (φ₂ := .bf16) dot_S512x128_S128x128_S512x128_1_0_0_1_n_n none (truncf .bf16 (mulf z z) bitsLt_bf16_f32) (shapeCast S128x128 w shapeCasts_S128x128_S128x128) (constant S512x128 .f32 0x00000000#32))
    (broadcast S512x128 (Scalar.ofBits .f32 0x358637BD#32 : Ideal .f32))))) (broadcastTo S512x128 (shapeCast S1x128 g shapeCasts_S1x128_S1x128) broadcasts_S1x128_S512x128)

theorem pay10_eq (a : FVec Ideal S528x1024 .bf16) (cs su sd : FVec Ideal S512x128 .f32) (y : Vec Ideal S1024x256 .bf16) (g : Vec Ideal S1x128 .f32) (w : Vec Ideal S128x128 .bf16) :
    k0_pay10 a cs su sd y g w = shapeCast S1x128x512 (truncf .bf16 (transpose S128x512 [1, 0] (chunk (hdk (extractStridedSlice S512x128 ![0, 0] (k0_pay9 a y) slices_S512x256_o0_0_S512x128) g w) cs su sd)
      transposes_S512x128_p1_0_S128x512) bitsLt_bf16_f32) shapeCasts_S128x512_S1x128x512 := rfl

/-- The halo rows outside the array, as a mask. -/
abbrev maskv (a : BitVec 32) : IVec S528x1 1 :=
  xori (ori (andi (cmpi .slt (iota .tc S528x1 32 [0] iota_S528x1_d0_w32) (broadcast S528x1 8#32)) (broadcast S528x1 (Scalar.cmpi .eq a 0#32)))
    (andi (cmpi .sge (iota .tc S528x1 32 [0] iota_S528x1_d0_w32) (broadcast S528x1 520#32)) (broadcast S528x1 (Scalar.cmpi .eq a 7#32)))) (constantI S528x1 1 1#1)

theorem mask_at : ∀ (i : Fin 8) (q : Fin 528), maskv (BitVec.ofNat 32 i.val) (ix2 q (0 : Fin 1)) = if (q.val < 8 ∧ i.val = 0) ∨ (520 ≤ q.val ∧ i.val = 7) then 0#1 else 1#1 := by
  decide +kernel

theorem pay13_eq (a : BitVec 32) (n : FVec Ideal S528x1024 .bf16) (u w : Vec Ideal S1024x512 .bf16) :
    k0_pay13 a n u w = shapeCast S528x512 (select (broadcastTo S528x512 (shapeCast S528x1 (maskv a) shapeCasts_S528x1_S528x1) broadcasts_S528x1_S528x512)
      (mulf (matmul (φ₂ := .bf16) dot_S528x1024_S1024x512_S528x512_1_0_0_1_n_n none n (shapeCast S1024x512 u shapeCasts_S1024x512_S1024x512) (constant S528x512 .f32 0x00000000#32))
        (matmul (φ₂ := .bf16) dot_S528x1024_S1024x512_S528x512_1_0_0_1_n_n none n (shapeCast S1024x512 w shapeCasts_S1024x512_S1024x512) (constant S528x512 .f32 0x00000000#32)))
      (broadcast S528x512 (Scalar.ofBits .f32 0x00000000#32 : Ideal .f32))) shapeCasts_S528x512_S528x512 := rfl

/-- Columns of the weights from `o` on. -/
theorem wcut_at {N : ℕ} (o : ℕ) (x4 : Vec Ideal S1024x2304 .bf16) (inb) (k : Fin 1024) (j : Fin N) (j' : Fin 2304) (hj : j'.val = o + j.val) :
    View.ld x4 (Rect.unit (s := S1024x2304) ![0, o] ![1024, N] inb) (ix2 k j) = x4 (ix2 k j') := by
  refine View.ld_unit_apply_of _ _ _ _ _ (ix2 k j') ?_
  intro a
  match a with
  | ⟨0, _⟩ => exact (Nat.zero_add _).symm
  | ⟨1, _⟩ => exact hj

/-- Rows of the scratch from `o` on. -/
theorem shift_at (o : ℕ) (X : Vec Ideal S528x512 .f32) (inb) (r : Fin 512) (q : Fin 528) (hq : q.val = o + r.val) (j : Fin 512) :
    View.ld X (Rect.unit (s := S528x512) ![o, 0] S512x512.size inb) (ix2 r j) = X (ix2 q j) := by
  refine View.ld_unit_apply_of _ _ _ _ _ (ix2 q j) ?_
  intro a
  match a with
  | ⟨0, _⟩ => exact hq
  | ⟨1, _⟩ => exact (Nat.zero_add _).symm

variable (A : MSpec.In) (i : Fin 8) (x0 : Vec Ideal S1x512x1024 .f32) (x1 : Vec Ideal S1x8x1024 .f32) (x2 : Vec Ideal S1x8x1024 .f32) (x3 : Vec Ideal S1x1024 .f32) (x4 : Vec Ideal S1024x2304 .bf16)
    (x5 : Vec Ideal S1x512 .f32) (x6 : Vec Ideal S1x128 .f32) (x7 : Vec Ideal S512x128 .f32) (x8 : Vec Ideal S512x128 .f32) (x9 : Vec Ideal S512x128 .f32) (x10 : Vec Ideal S512x512 .bf16)
    (x11 : Vec Ideal S3x512 .f32) (x12 : Vec Ideal S1x512 .f32)

/-- The blocks of tile `i` hold the arrays' rows, the weights and the tables. -/
structure Blk : Prop where
  h0 : ∀ (R : Fin 4096) (r : Fin 512) k, R.val = i.val * 512 + r.val → x0 (ix3 (0 : Fin 1) r k) = A.H R k
  h1 : ∀ (R : Fin 4096) (r : Fin 8) k, R.val + 8 = i.val * 512 + r.val → x1 (ix3 (0 : Fin 1) r k) = A.H R k
  h2 : ∀ (R : Fin 4096) (r : Fin 8) k, R.val = i.val * 512 + 512 + r.val → x2 (ix3 (0 : Fin 1) r k) = A.H R k
  g : ∀ e, x3 (ix2 (0 : Fin 1) e) = A.G e
  w : ∀ k j, x4 (ix2 k j) = A.W k j
  gq : ∀ j, x5 (ix2 (0 : Fin 1) j) = A.GQ (md j) * Ideal.ofBits .f32 0x3E000000#32
  gk : ∀ j, x6 (ix2 (0 : Fin 1) j) = A.GK (md j)
  cs : ∀ (R : Fin 4096) (r : Fin 512) (l : Fin 128), R.val = i.val * 512 + r.val → x7 (ix2 r l) = A.C R (md l)
  su : ∀ (R : Fin 4096) (r : Fin 512) (l : Fin 128), R.val = i.val * 512 + r.val → x8 (ix2 r l) = if (md l).val % 32 < 16 then -A.S R (md l) else 0
  sd : ∀ (R : Fin 4096) (r : Fin 512) (l : Fin 128), R.val = i.val * 512 + r.val → x9 (ix2 r l) = if (md l).val % 32 < 16 then 0 else A.S R (md l)
  grp : ∀ k j : Fin 512, x10 (ix2 k j) = if k.val / 64 = j.val / 64 then Ideal.ofBits .f32 0x3C800000#32 else Ideal.ofBits .f32 0x00000000#32
  cw : ∀ t j, x11 (ix2 t j) = A.CW t j
  gc : ∀ j, x12 (ix2 (0 : Fin 1) j) = A.GC j

section Rows
variable {A i x0 x1 x2 x3 x4 x5 x6 x7 x8 x9 x10 x11 x12}
variable (B : Blk A i x0 x1 x2 x3 x4 x5 x6 x7 x8 x9 x10 x11 x12)
include B

theorem nv_at (q : Fin 528) (R : Fin 4096) (hR : R.val + 8 = i.val * 512 + q.val) (e : Fin 1024) : k0_pay2 x1 x0 x2 x3 (ix2 q e) = MSpec.norm A R e := by
  have hx : ∀ e : Fin 1024, concatenate S528x1024 0 [⟨S8x1024, shapeCast S8x1024 x1 shapeCasts_S1x8x1024_S8x1024⟩, ⟨S512x1024, shapeCast S512x1024 x0 shapeCasts_S1x512x1024_S512x1024⟩,
      ⟨S8x1024, shapeCast S8x1024 x2 shapeCasts_S1x8x1024_S8x1024⟩] concatenates_S8x1024_S512x1024_S8x1024_S528x1024_d0 (ix2 q e) = A.H R e := fun e => by
    refine ext_at _ _ _ concatenates_S8x1024_S512x1024_S8x1024_S528x1024_d0 A.H i.val ?_ ?_ ?_ q R hR e
    · intro R r k h
      exact (drop_at x1 _ r k).trans (B.h1 R r k h)
    · intro R r k h
      exact (drop_at x0 _ r k).trans (B.h0 R r k h)
    · intro R r k h
      exact (drop_at x2 _ r k).trans (B.h2 R r k h)
  unfold k0_pay2
  refine congrArg₂ (· * ·) (congrArg₂ (· * ·) (hx e) ?_) ?_
  · refine (Mat.colbc_at (by decide) _ _ q e).trans ?_
    refine congrArg Ideal.rsqrt (congrArg (fun z => Ideal.div z (Ideal.ofBits .f32 0x44800000#32) + Ideal.ofBits .f32 0x358637BD#32) ?_)
    refine (Mat.col_at _ _ q).trans ((Mat.rowsum_at _ _ _ _ q).trans ?_)
    exact Finset.sum_congr rfl fun j _ => congrArg₂ (· * ·) (hx j) (hx j)
  · refine (Mat.rowbc_at (by decide) _ _ q e).trans ?_
    exact (congrFun (Mat.cast_self _ _) _).trans (B.g e)

/-- Rows of the products with 512 columns of the weights. -/
theorem projA (f : Fin 512 → Fin 2304) (w : Vec Ideal S1024x512 .bf16) (hw : ∀ k j, w (ix2 k j) = A.W k (f j)) (q : Fin 528) (R : Fin 4096) (hR : R.val + 8 = i.val * 512 + q.val) (j : Fin 512) :
    matmul (φ₂ := .bf16) dot_S528x1024_S1024x512_S528x512_1_0_0_1_n_n none (k0_pay2 x1 x0 x2 x3) (shapeCast S1024x512 w shapeCasts_S1024x512_S1024x512) (constant S528x512 .f32 0x00000000#32) (ix2 q j) = MSpec.proj A (f j) R := by
  refine (dotA _ _ q j).trans (Finset.sum_congr rfl fun k _ => congrArg₂ (· * ·) (nv_at B q R hR k) ?_)
  exact (congrFun (Mat.cast_self _ _) _).trans (hw k j)

theorem projB (q : Fin 528) (R : Fin 4096) (hR : R.val + 8 = i.val * 512 + q.val) (j : Fin 256) :
    matmul (φ₂ := .bf16) dot_S528x1024_S1024x256_S528x256_1_0_0_1_n_n none (k0_pay2 x1 x0 x2 x3) (shapeCast S1024x256 (wB x4) shapeCasts_S1024x256_S1024x256) (constant S528x256 .f32 0x00000000#32) (ix2 q j)
      = MSpec.proj A ⟨512 + j.val, by omega⟩ R := by
  refine (dotB _ _ q j).trans (Finset.sum_congr rfl fun k _ => congrArg₂ (· * ·) (nv_at B q R hR k) ?_)
  exact (congrFun (Mat.cast_self _ _) _).trans ((wcut_at 512 x4 _ k j (⟨512 + j.val, by omega⟩ : Fin 2304) rfl).trans (B.w _ _))

section Tile
variable (r : Fin 512) (R : Fin 4096) (hR : R.val = i.val * 512 + r.val)
include hR

theorem zq_at (j : Fin 512) : k0_pay5 x1 x0 x2 x3 (wA x4) (ix2 r j) = MSpec.proj A ⟨0 + j.val, by omega⟩ R := by
  have hr := r.isLt
  unfold k0_pay5
  refine (slice_at 8 _ _ r (⟨8 + r.val, by omega⟩ : Fin 528) rfl j).trans ?_
  exact projA B (fun j => ⟨0 + j.val, by omega⟩) _ (fun k j => (wcut_at 0 x4 _ k j (⟨0 + j.val, by omega⟩ : Fin 2304) rfl).trans (B.w _ _)) _ R (by show R.val + 8 = i.val * 512 + (8 + r.val); omega) j

theorem zg_at (j : Fin 512) : k0_pay12 (k0_pay2 x1 x0 x2 x3) (wC x4) (ix2 r j) = MSpec.proj A ⟨768 + j.val, by omega⟩ R := by
  have hr := r.isLt
  unfold k0_pay12
  refine (slice_at 8 _ _ r (⟨8 + r.val, by omega⟩ : Fin 528) rfl j).trans ?_
  exact projA B (fun j => ⟨768 + j.val, by omega⟩) _ (fun k j => (wcut_at 768 x4 _ k j (⟨768 + j.val, by omega⟩ : Fin 2304) rfl).trans (B.w _ _)) _ R (by show R.val + 8 = i.val * 512 + (8 + r.val); omega) j

theorem zk_at (j : Fin 256) : k0_pay9 (k0_pay2 x1 x0 x2 x3) (wB x4) (ix2 r j) = MSpec.proj A ⟨512 + j.val, by omega⟩ R := by
  have hr := r.isLt
  unfold k0_pay9
  refine (slice_at 8 _ _ r (⟨8 + r.val, by omega⟩ : Fin 528) rfl j).trans ?_
  exact projB B _ R (by show R.val + 8 = i.val * 512 + (8 + r.val); omega) j

/-- The query columns, normed and scaled. -/
theorem hdq_at (j : Fin 512) : hdq (k0_pay5 x1 x0 x2 x3 (wA x4)) (k0_pay6 x5) x10 (ix2 r j)
    = MSpec.head A (qcol j) (fun e => A.GQ e * Ideal.ofBits .f32 0x3E000000#32) R (md j) := by
  have hz : ∀ d : Fin 64, k0_pay5 x1 x0 x2 x3 (wA x4) (ix2 r (⟨j.val / 64 * 64 + d.val, by omega⟩ : Fin 512)) = MSpec.proj A (qcol j d) R := fun d =>
    (zq_at B r R hR _).trans (congrArg (fun c => MSpec.proj A c R) (Fin.ext (Nat.zero_add _)))
  unfold MSpec.head MSpec.nrm
  refine congrArg₂ (· * ·) (congrArg₂ (· * ·) ?_ (congrArg Ideal.rsqrt (congrArg (· + Ideal.ofBits .f32 0x358637BD#32) ?_))) ?_
  · refine (zq_at B r R hR j).trans (congrArg (fun c => MSpec.proj A c R) (Fin.ext ?_))
    show 0 + j.val = j.val / 64 * 64 + j.val % 64
    omega
  · refine (dotG _ _ r j).trans ?_
    refine (MSpec.group_sum (fun k : Fin 512 => k0_pay5 x1 x0 x2 x3 (wA x4) (ix2 r k) * k0_pay5 x1 x0 x2 x3 (wA x4) (ix2 r k)) (fun k => shapeCast S512x512 x10 shapeCasts_S512x512_S512x512 (ix2 k j))
      (fun d => ⟨j.val / 64 * 64 + d.val, by omega⟩) (j.val / 64) (fun d => rfl) (fun k => (congrFun (Mat.cast_self _ _) _).trans (B.grp k j))).trans ?_
    exact congrArg (fun s => Ideal.div s (Ideal.ofBits .f32 0x42800000#32)) (Finset.sum_congr rfl fun d _ => congrArg₂ (· * ·) (hz d) (hz d))
  · refine (Mat.rowbc_at (by decide) _ _ r j).trans ?_
    exact (congrFun (Mat.cast_self _ _) _).trans (B.gq j)

/-- THE QUERIES, entry by entry. -/
theorem q_at (j : Fin 512) : k0_pay8 (k0_pay7 x7 (k0_pay3 x8) (k0_pay4 x9) (k0_pay5 x1 x0 x2 x3 (wA x4)) (k0_pay6 x5) x10) (ix3 (0 : Fin 1) r j) = MSpec.q A R j := by
  have hs : ∀ j : Fin 512, MSpec.head A (qcol j) (fun e => A.GQ e * Ideal.ofBits .f32 0x3E000000#32) R = fun d => MSpec.head A (qcol j) A.GQ R d * ((1 / 8 : ℝ) : EReal) := fun j =>
    funext fun d => (MSpec.nrm_scale _ _ _ _ d).trans (by rw [MSpec.eighth]; rfl)
  have hp : ∀ (o : ℕ) (ho : o = 0 ∨ o = 128 ∨ o = 256 ∨ o = 384) (h) (l : Fin 128) (hl : o + l.val < 512),
      chunk (extractStridedSlice S512x128 ![0, o] (hdq (k0_pay5 x1 x0 x2 x3 (wA x4)) (k0_pay6 x5) x10) h) x7 (k0_pay3 x8) (k0_pay4 x9) (ix2 r l) = MSpec.q A R ⟨o + l.val, hl⟩ := fun o ho h l hl => by
    have hll := l.isLt
    have hm : (md l) = md (⟨o + l.val, hl⟩ : Fin 512) := Fin.ext (by show l.val % 64 = (o + l.val) % 64; omega)
    refine (chunk_at A _ _ _ _ r R l (MSpec.head A (qcol ⟨o + l.val, hl⟩) (fun e => A.GQ e * Ideal.ofBits .f32 0x3E000000#32) R) ?_ (B.cs R r l hR)
      ((congrFun (Mat.cast_self _ _) _).trans (B.su R r l hR)) ((congrFun (Mat.cast_self _ _) _).trans (B.sd R r l hR))).trans ?_
    · intro l' hl'
      have hll' := l'.isLt
      refine (cslice_at o _ h r l' (⟨o + l'.val, by omega⟩ : Fin 512) rfl).trans ((hdq_at B r R hR _).trans ?_)
      have h1 : qcol (⟨o + l'.val, by omega⟩ : Fin 512) = qcol ⟨o + l.val, hl⟩ := funext fun d => Fin.ext (by show (o + l'.val) / 64 * 64 + d.val = (o + l.val) / 64 * 64 + d.val; omega)
      have h2 : md (⟨o + l'.val, by omega⟩ : Fin 512) = md l' := Fin.ext (by show (o + l'.val) % 64 = l'.val % 64; omega)
      rw [h1, h2]
    · rw [hs, MSpec.rope_scale A _ R _ (1 / 8) (by norm_num), hm]
      unfold MSpec.q
      rw [MSpec.eighth]
  unfold k0_pay8
  refine (lift_at _ _ r j).trans ?_
  rw [pay7_eq]
  refine (trunc_at _ _ _).trans ?_
  exact cat4_at _ _ _ _ concatenates_S512x128_S512x128_S512x128_S512x128_S512x512_d1 (MSpec.q A R) r (fun l => hp 0 (by omega) _ l _) (fun l => hp 128 (by omega) _ l _) (fun l => hp 256 (by omega) _ l _) (fun l => hp 384 (by omega) _ l _) j

/-- The 128-row cut of the head table. -/
abbrev grpK (x10 : Vec Ideal S512x512 .bf16) : Vec Ideal S128x128 .bf16 := View.ld x10 (Rect.unit (s := S512x512) ![0, 0] S128x128.size inb_S512x512_S128x128_0_0)

omit hR in
theorem grpK_at (k j : Fin 128) : grpK x10 (ix2 k j) = if k.val / 64 = j.val / 64 then Ideal.ofBits .f32 0x3C800000#32 else Ideal.ofBits .f32 0x00000000#32 := by
  refine (View.ld_unit_apply_of _ _ _ _ _ (ix2 (⟨k.val, by omega⟩ : Fin 512) (⟨j.val, by omega⟩ : Fin 512)) ?_).trans (B.grp _ _)
  intro a
  match a with
  | ⟨0, _⟩ => exact (Nat.zero_add _).symm
  | ⟨1, _⟩ => exact (Nat.zero_add _).symm

theorem zkl_at (l : Fin 128) : extractStridedSlice S512x128 ![0, 0] (k0_pay9 (k0_pay2 x1 x0 x2 x3) (wB x4)) slices_S512x256_o0_0_S512x128 (ix2 r l) = MSpec.proj A ⟨512 + l.val, by omega⟩ R :=
  (cslice_at 0 _ _ r l (⟨l.val, by omega⟩ : Fin 256) (Nat.zero_add _).symm).trans (zk_at B r R hR _)

omit hR in
/-- The key columns, normed. -/
theorem hdk_at (z : FVec Ideal S512x128 .f32) (hz : ∀ l : Fin 128, z (ix2 r l) = MSpec.proj A ⟨512 + l.val, by omega⟩ R) (j : Fin 128) :
    hdk z x6 (grpK x10) (ix2 r j) = MSpec.head A (kcol j) A.GK R (md j) := by
  have hd : ∀ d : Fin 64, z (ix2 r (⟨j.val / 64 * 64 + d.val, by omega⟩ : Fin 128)) = MSpec.proj A (kcol j d) R := fun d => hz _
  unfold MSpec.head MSpec.nrm
  show z (ix2 r j) * Ideal.rsqrt (matmul (φ₂ := .bf16) dot_S512x128_S128x128_S512x128_1_0_0_1_n_n none (truncf .bf16 (mulf z z) bitsLt_bf16_f32) (shapeCast S128x128 (grpK x10) shapeCasts_S128x128_S128x128) (constant S512x128 .f32 0x00000000#32) (ix2 r j)
    + Ideal.ofBits .f32 0x358637BD#32) * broadcastTo S512x128 (shapeCast S1x128 x6 shapeCasts_S1x128_S1x128) broadcasts_S1x128_S512x128 (ix2 r j) = _
  refine congrArg₂ (· * ·) (congrArg₂ (· * ·) ?_ (congrArg Ideal.rsqrt (congrArg (· + Ideal.ofBits .f32 0x358637BD#32) ?_))) ?_
  · refine (hz j).trans (congrArg (fun c => MSpec.proj A c R) (Fin.ext ?_))
    show 512 + j.val = 512 + (j.val / 64 * 64 + j.val % 64)
    omega
  · refine (dotK _ _ r j).trans ?_
    refine (MSpec.group_sum (fun k : Fin 128 => z (ix2 r k) * z (ix2 r k)) (fun k => shapeCast S128x128 (grpK x10) shapeCasts_S128x128_S128x128 (ix2 k j))
      (fun d => ⟨j.val / 64 * 64 + d.val, by omega⟩) (j.val / 64) (fun d => rfl) (fun k => (congrFun (Mat.cast_self _ _) _).trans (grpK_at B k j))).trans ?_
    exact congrArg (fun s => Ideal.div s (Ideal.ofBits .f32 0x42800000#32)) (Finset.sum_congr rfl fun d _ => congrArg₂ (· * ·) (hd d) (hd d))
  · refine (Mat.rowbc_at (by decide) _ _ r j).trans ?_
    exact (congrFun (Mat.cast_self _ _) _).trans (B.gk j)

/-- THE KEYS, turned, entry by entry. -/
theorem k_at (l : Fin 128) : k0_pay10 (k0_pay2 x1 x0 x2 x3) x7 (k0_pay3 x8) (k0_pay4 x9) (wB x4) x6 (grpK x10) (ix3 (0 : Fin 1) l r) = MSpec.k A R l := by
  rw [pay10_eq]
  refine (lift_at _ _ l r).trans ?_
  refine (trunc_at _ _ _).trans ((transpose_apply _ _ transposes_S512x128_p1_0_S128x512 (ix2 l r) (ix2 r l) ?_).trans ?_)
  · intro a
    match a with
    | ⟨0, _⟩ => rfl
    | ⟨1, _⟩ => rfl
  refine chunk_at A _ _ _ _ r R l (MSpec.head A (kcol l) A.GK R) ?_ (B.cs R r l hR)
    ((congrFun (Mat.cast_self _ _) _).trans (B.su R r l hR)) ((congrFun (Mat.cast_self _ _) _).trans (B.sd R r l hR))
  intro l' hl'
  refine (hdk_at B r R _ (zkl_at B r R hR) l').trans ?_
  have h1 : kcol l' = kcol l := funext fun d => Fin.ext (by show 512 + (l'.val / 64 * 64 + d.val) = 512 + (l.val / 64 * 64 + d.val); omega)
  rw [h1]

/-- THE VALUES, entry by entry. -/
theorem v_at (l : Fin 128) : k0_pay11 (k0_pay2 x1 x0 x2 x3) (wB x4) (ix3 (0 : Fin 1) r l) = MSpec.v A R l := by
  unfold k0_pay11
  refine (lift_at _ _ r l).trans ?_
  refine (trunc_at _ _ _).trans ((cslice_at 128 _ _ r l (⟨128 + l.val, by omega⟩ : Fin 256) rfl).trans ((zk_at B r R hR _).trans ?_))
  exact congrArg (fun c => MSpec.proj A c R) (Fin.ext (by show 512 + (128 + l.val) = 640 + l.val; omega))

omit hR in
/-- The masked product: zeros outside the array, the product of the two projections inside. -/
theorem cuv_at (co : grid0.Coords) (hco : (co 1).val = i.val) (q : Fin 528) (hq : 7 ≤ q.val) (hq' : q.val ≤ 520) (j : Fin 512) :
    cuv co x0 x1 x2 x3 x4 (ix2 q j) = PSpec.row (MSpec.cu A j) (i.val * 512 + q.val - 7) := by
  have hi := i.isLt
  unfold cuv
  rw [hco, pay13_eq]
  refine (congrFun (Mat.cast_self _ _) _).trans ?_
  refine (ValueIdx.select_apply _ _ _ _).trans ?_
  have hm : broadcastTo S528x512 (shapeCast S528x1 (maskv (BitVec.ofNat 32 i.val)) shapeCasts_S528x1_S528x1) broadcasts_S528x1_S528x512 (ix2 q j)
      = if (q.val < 8 ∧ i.val = 0) ∨ (520 ≤ q.val ∧ i.val = 7) then 0#1 else 1#1 := by
    refine (Mat.colbc_at (by decide) _ _ q j).trans ?_
    exact (congrFun (Mat.cast_self _ _) _).trans (mask_at i q)
  rw [hm]
  split
  · rename_i h
    rw [ValueIdx.select_zero]
    refine Eq.trans ?_ (PSpec.row_neg _ _ (by omega)).symm
    exact Ideal.ofBits_zero_f32
  · rename_i h
    rw [ValueIdx.select_one]
    have hb : i.val * 512 + q.val - 8 < 4096 := by omega
    have hR : (⟨i.val * 512 + q.val - 8, hb⟩ : Fin 4096).val + 8 = i.val * 512 + q.val := by show i.val * 512 + q.val - 8 + 8 = _; omega
    refine Eq.trans ?_ (PSpec.row_pos (MSpec.cu A j) _ ⟨i.val * 512 + q.val - 8, hb⟩ (by show i.val * 512 + q.val - 7 = i.val * 512 + q.val - 8 + 1; omega)).symm
    exact congrArg₂ (· * ·)
      (projA B (fun j => ⟨1280 + j.val, by omega⟩) _ (fun k j => (wcut_at 1280 x4 _ k j (⟨1280 + j.val, by omega⟩ : Fin 2304) rfl).trans (B.w _ _)) q _ hR j)
      (projA B (fun j => ⟨1792 + j.val, by omega⟩) _ (fun k j => (wcut_at 1792 x4 _ k j (⟨1792 + j.val, by omega⟩ : Fin 2304) rfl).trans (B.w _ _)) q _ hR j)

theorem cus_at (co : grid0.Coords) (hco : (co 1).val = i.val) (o : ℕ) (ho : 7 ≤ o) (ho' : o ≤ 9) (inb) (j : Fin 512) :
    (View.ld (cuv co x0 x1 x2 x3 x4) (Rect.unit (s := S528x512) ![o, 0] S512x512.size inb) : Vec Ideal S512x512 .f32) (ix2 r j) = PSpec.row (MSpec.cu A j) (R.val + (o - 7)) := by
  have hr := r.isLt
  refine (shift_at o _ inb r (⟨o + r.val, by omega⟩ : Fin 528) rfl j).trans ?_
  refine (cuv_at B co hco _ (by show 7 ≤ o + r.val; omega) (by show o + r.val ≤ 520; omega) j).trans ?_
  exact congrArg (PSpec.row _) (by show i.val * 512 + (o + r.val) - 7 = R.val + (o - 7); omega)

omit hR in
theorem tap_at (o : ℕ) (t : Fin 3) (ho : t.val = o) (h) (j : Fin 512) :
    broadcastTo S512x512 (extractStridedSlice S1x512 ![o, 0] x11 h) broadcasts_S1x512_S512x512 (ix2 r j) = A.CW t j := by
  refine (Mat.rowbc_at (by decide) _ _ r j).trans ?_
  exact (slice_at o _ _ (0 : Fin 1) t ho j).trans (B.cw t j)

/-- THE CONVOLUTION'S BLOCK, entry by entry. -/
theorem oc_at (co : grid0.Coords) (hco : (co 1).val = i.val) (j : Fin 512) :
    k0_pay1 (k0_pay12 (k0_pay2 x1 x0 x2 x3) (wC x4)) x11
        (k0_pay14 x11 (View.ld (cuv co x0 x1 x2 x3 x4) (Rect.unit (s := S528x512) ![7, 0] S512x512.size inb_S528x512_S512x512_7_0) : Vec Ideal S512x512 .f32))
        (View.ld (cuv co x0 x1 x2 x3 x4) (Rect.unit (s := S528x512) ![8, 0] S512x512.size inb_S528x512_S512x512_8_0) : Vec Ideal S512x512 .f32) (k0_pay15 x11)
        (View.ld (cuv co x0 x1 x2 x3 x4) (Rect.unit (s := S528x512) ![9, 0] S512x512.size inb_S528x512_S512x512_9_0) : Vec Ideal S512x512 .f32) x12 (ix3 (0 : Fin 1) r j) = MSpec.oc A R j := by
  have hm : ∀ j : Fin 512, mulf (k0_pay12 (k0_pay2 x1 x0 x2 x3) (wC x4)) (addf (addf
        (k0_pay14 x11 (View.ld (cuv co x0 x1 x2 x3 x4) (Rect.unit (s := S528x512) ![7, 0] S512x512.size inb_S528x512_S512x512_7_0) : Vec Ideal S512x512 .f32))
        (mulf (View.ld (cuv co x0 x1 x2 x3 x4) (Rect.unit (s := S528x512) ![8, 0] S512x512.size inb_S528x512_S512x512_8_0) : Vec Ideal S512x512 .f32) (broadcastTo S512x512 (k0_pay15 x11) broadcasts_S1x512_S512x512)))
        (mulf (View.ld (cuv co x0 x1 x2 x3 x4) (Rect.unit (s := S528x512) ![9, 0] S512x512.size inb_S528x512_S512x512_9_0) : Vec Ideal S512x512 .f32)
          (broadcastTo S512x512 (extractStridedSlice S1x512 ![2, 0] x11 slices_S3x512_o2_0_S1x512) broadcasts_S1x512_S512x512))) (ix2 r j) = MSpec.mid A R j := fun j => by
    refine congrArg₂ (· * ·) (zg_at B r R hR j) ?_
    exact congrArg₂ (· + ·) (congrArg₂ (· + ·) (congrArg₂ (· * ·) (cus_at B r R hR co hco 7 (by omega) (by omega) _ j) (tap_at B r 0 0 rfl slices_S3x512_o0_0_S1x512 j))
      (congrArg₂ (· * ·) (cus_at B r R hR co hco 8 (by omega) (by omega) _ j) (tap_at B r 1 1 rfl slices_S3x512_o1_0_S1x512 j)))
      (congrArg₂ (· * ·) (cus_at B r R hR co hco 9 (by omega) (by omega) _ j) (tap_at B r 2 2 rfl slices_S3x512_o2_0_S1x512 j))
  unfold k0_pay1
  refine (lift_at _ _ r j).trans ?_
  refine congrArg₂ (· * ·) (congrArg₂ (· * ·) (hm j) ?_) ?_
  · refine (Mat.colbc_at (by decide) _ _ r j).trans ?_
    refine congrArg Ideal.rsqrt (congrArg (fun z => Ideal.div z (Ideal.ofBits .f32 0x44000000#32) + Ideal.ofBits .f32 0x358637BD#32) ?_)
    refine (Mat.col_at _ _ r).trans ((Mat.rowsum_at _ _ _ _ r).trans ?_)
    exact Finset.sum_congr rfl fun j _ => congrArg₂ (· * ·) (hm j) (hm j)
  · refine (Mat.rowbc_at (by decide) _ _ r j).trans ?_
    exact (congrFun (Mat.cast_self _ _) _).trans (B.gc j)

end Tile

end Rows

end Cert.Kernel3Ideal.Mix

end
-- ==== Proof.MixTab.lean ====
module

public import proofs.«01_k».proof.Proof.MixVal
public import Idealize.ShloMosaic.Lib.Pipeline.Value
public import Idealize.ShloMosaic.Lib.Pipeline.ValueKit

/-! The blocks every grid point of the first call reads, in the arguments' entries. -/

@[expose] public section

set_option maxRecDepth 16384

noncomputable section

namespace Cert.Kernel3Ideal.Mix

open Cert.Kernel3Ideal Cert.Kernel3Ideal.Gen Idealize.ShloMosaic.TcCoe
open Idealize.ShloMosaic hiding ix1 ix2 ix3 ix4
open ValueIdx (ix1 ix2 ix3 ix4)
open MSpec (md)

/-- The head of every column, as the host divides it out. -/
def headI : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

/-- The divisor of the remainder. -/
def perI : IVec S_ 32 := select (cmpi .eq (constantI S_ 32 32#32) (constantI S_ 32 0#32)) (constantI S_ 32 1#32) (constantI S_ 32 32#32)

/-- Every column's place in its half head. -/
def remI : IVec S64 32 := Host.remsi (iotaInDim S64 32 0) (broadcastInDim S64 ![] bcast_S_S64 perI)

/-- Whether a column is among the first sixteen of its half head. -/
def firstI : IVec S64 1 :=
  cmpi .slt (select (andi (cmpi .ne (cmpi .slt remI (broadcastInDim S64 ![] bcast_S_S64 (constantI S_ 32 0#32))) (broadcastInDim S64 ![] bcast_S_S64 (cmpi .slt perI (constantI S_ 32 0#32))))
      (cmpi .ne remI (broadcastInDim S64 ![] bcast_S_S64 (constantI S_ 32 0#32)))) (addi remI (broadcastInDim S64 ![] bcast_S_S64 perI)) remI)
    (broadcastInDim S64 ![] bcast_S_S64 (constantI S_ 32 16#32))

theorem headI_at : ∀ j : Fin 512, headI (ix1 j) = BitVec.ofNat 32 (j.val / 64) := by decide +kernel

theorem firstI_at : ∀ d : Fin 64, firstI (ix1 d) = if d.val % 32 < 16 then 1#1 else 0#1 := by decide +kernel

variable (m : (ℓ : Loc nD τ sig) → Buf (Elt Ideal) ℓ) (c : Dev nD)

/-- The arguments' entries in batch `b`. -/
def inp (b : Fin 4) : MSpec.In where
  H R k := (m ((c : Thread nD τ).loc main_arg0) : (⟨3, ![4, 4096, 1024]⟩ : Shape).Idx → EReal) (ix3 b R k)
  G e := (m ((c : Thread nD τ).loc main_arg1) : (⟨1, ![1024]⟩ : Shape).Idx → EReal) (ix1 e)
  W k j := (m ((c : Thread nD τ).loc main_arg2) : (⟨2, ![1024, 2304]⟩ : Shape).Idx → EReal) (ix2 k j)
  GQ d := (m ((c : Thread nD τ).loc main_arg3) : (⟨1, ![64]⟩ : Shape).Idx → EReal) (ix1 d)
  GK d := (m ((c : Thread nD τ).loc main_arg4) : (⟨1, ![64]⟩ : Shape).Idx → EReal) (ix1 d)
  CW t j := (m ((c : Thread nD τ).loc main_arg5) : (⟨2, ![3, 512]⟩ : Shape).Idx → EReal) (ix2 t j)
  GC j := (m ((c : Thread nD τ).loc main_arg6) : (⟨1, ![512]⟩ : Shape).Idx → EReal) (ix1 j)
  C R d := (m ((c : Thread nD τ).loc main_arg7) : (⟨2, ![4096, 64]⟩ : Shape).Idx → EReal) (ix2 R d)
  S R d := (m ((c : Thread nD τ).loc main_arg8) : (⟨2, ![4096, 64]⟩ : Shape).Idx → EReal) (ix2 R d)

/-- A table of one head's columns laid out for two heads. -/
abbrev wide (x : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 x shapeCasts_S4096x64_S1x4096x1x64)) shapeCasts_S1x4096x2x64_S4096x128

theorem wide_at (x : FVec Ideal S4096x64 .f32) (R : Fin 4096) (l : Fin 128) : wide x (ix2 R l) = x (ix2 R (md l)) := by
  have hl := l.isLt
  refine (shapeCast_apply _ _ _ (ix4 (0 : Fin 1) R (⟨l.val / 64, by omega⟩ : Fin 2) (md l)) ?_).trans ?_
  · rw [Shape.rowMajor_val_two, Shape.rowMajor_val_four]
    show ((0 * 4096 + R.val) * 2 + l.val / 64) * 64 + l.val % 64 = R.val * 128 + l.val
    omega
  · refine (broadcastInDim_apply _ _ _ _ (ix4 (0 : Fin 1) R (0 : Fin 1) (md l)) ?_).trans ?_
    · intro a
      match a with
      | ⟨0, _⟩ => rfl
      | ⟨1, _⟩ => rfl
      | ⟨2, _⟩ => rfl
      | ⟨3, _⟩ => rfl
    · refine shapeCast_apply _ _ _ (ix2 R (md l)) ?_
      rw [Shape.rowMajor_val_two, Shape.rowMajor_val_four]
      show R.val * 64 + l.val % 64 = ((0 * 4096 + R.val) * 1 + 0) * 64 + l.val % 64
      omega

theorem V_v1 : V m c main_v1 = headI := by
  rfl
theorem V_v25 : V m c main_v25 = firstI := by
  rfl
theorem V_v2 : V m c main_v2 = (broadcastInDim S1x1024 ![1] bcast_S1024_S1x1024_1 (m ((c : Thread nD τ).loc main_arg1)) : FVec Ideal S1x1024 .f32) := by
  rfl
theorem V_v3 : V m c main_v3 = (truncf .bf16 (m ((c : Thread nD τ).loc main_arg2)) bitsLt_bf16_f32 : FVec Ideal S1024x2304 .bf16) := by
  rfl
theorem V_v9 : V m c main_v9 = (broadcastInDim S1x512 ![1] bcast_S512_S1x512_1 (shapeCast S512 (broadcastInDim S8x64 ![0, 1] bcast_S1x64_S8x64_0_1
    (shapeCast S1x64 (mulf (m ((c : Thread nD τ).loc main_arg3)) (broadcastInDim S64 ![] bcast_S_S64 (constant S_ .f32 0x3E000000#32)) : FVec Ideal S64 .f32) shapeCasts_S64_S1x64)) shapeCasts_S8x64_S512) : FVec Ideal S1x512 .f32) := by
  rfl
theorem V_v13 : V m c main_v13 = (broadcastInDim S1x128 ![1] bcast_S128_S1x128_1 (shapeCast S128 (broadcastInDim S2x64 ![0, 1] bcast_S1x64_S2x64_0_1
    (shapeCast S1x64 (m ((c : Thread nD τ).loc main_arg4)) shapeCasts_S64_S1x64)) shapeCasts_S2x64_S128) : FVec Ideal S1x128 .f32) := by
  rfl
theorem V_v20 : V m c main_v20 = (truncf .bf16 (select (cmpi .eq (broadcastInDim S512x512 ![0, 1] bcast_S512x1_S512x512_0_1 (broadcastInDim S512x1 ![0] bcast_S512_S512x1_0 headI))
    (broadcastInDim S512x512 ![0, 1] bcast_S1x512_S512x512_0_1 (broadcastInDim S1x512 ![1] bcast_S512_S1x512_1 headI)))
    (broadcastInDim S512x512 ![] bcast_S_S512x512 (constant S_ .f32 0x3C800000#32)) (broadcastInDim S512x512 ![] bcast_S_S512x512 (constant S_ .f32 0x00000000#32)) : FVec Ideal S512x512 .f32) bitsLt_bf16_f32 : FVec Ideal S512x512 .bf16) := by
  rfl
theorem V_v21 : V m c main_v21 = (broadcastInDim S1x512 ![1] bcast_S512_S1x512_1 (m ((c : Thread nD τ).loc main_arg6)) : FVec Ideal S1x512 .f32) := by
  rfl
theorem V_v31 : V m c main_v31 = wide (m ((c : Thread nD τ).loc main_arg7)) := by
  rfl
set_option maxHeartbeats 4000000 in
theorem V_v27 : V m c main_v27 = (select (broadcastInDim S4096x64 ![1] bcast_S64_S4096x64_1 firstI) (Host.negf (m ((c : Thread nD τ).loc main_arg8)) : FVec Ideal S4096x64 .f32)
    (broadcastInDim S4096x64 ![] bcast_S_S4096x64 (id (constant S_ .f32 0x00000000#32))) : FVec Ideal S4096x64 .f32) := by
  rfl
set_option maxHeartbeats 4000000 in
theorem V_v28 : V m c main_v28 = (select (broadcastInDim S4096x64 ![1] bcast_S64_S4096x64_1 firstI) (broadcastInDim S4096x64 ![] bcast_S_S4096x64 (id (constant S_ .f32 0x00000000#32)))
    (m ((c : Thread nD τ).loc main_arg8)) : FVec Ideal S4096x64 .f32) := by
  rfl
theorem W_v34 : V m c main_v34 = wide (V m c main_v27) := by
  rfl
theorem W_v37 : V m c main_v37 = wide (V m c main_v28) := by
  rfl
theorem V_v34 : V m c main_v34 = wide (select (broadcastInDim S4096x64 ![1] bcast_S64_S4096x64_1 firstI) (Host.negf (m ((c : Thread nD τ).loc main_arg8)) : FVec Ideal S4096x64 .f32)
    (broadcastInDim S4096x64 ![] bcast_S_S4096x64 (constant S_ .f32 0x00000000#32))) :=
  (W_v34 m c).trans (congrArg wide (V_v27 m c))
theorem V_v37 : V m c main_v37 = wide (select (broadcastInDim S4096x64 ![1] bcast_S64_S4096x64_1 firstI) (broadcastInDim S4096x64 ![] bcast_S_S4096x64 (constant S_ .f32 0x00000000#32))
    (m ((c : Thread nD τ).loc main_arg8))) :=
  (W_v37 m c).trans (congrArg wide (V_v28 m c))

theorem lt32 (t : Fin cfg0.N) : t.val < 32 := lt_of_lt_of_eq t.isLt N_0

/-- The batch and the tile of point `t`. -/
abbrev bat (t : Fin cfg0.N) : Fin 4 := ⟨t.val / 8, by have := lt32 t; omega⟩
abbrev tile (t : Fin cfg0.N) : Fin 8 := ⟨t.val % 8, by omega⟩

theorem idxH : ∀ t : Fin cfg0.N, win0_0.index t = ![t.val / 8, t.val % 8, 0] ∧ win0_1.index t = ![t.val / 8, t.val % 8 * 64 - 1, 0] ∧ win0_2.index t = ![t.val / 8, min (t.val % 8 * 64 + 64) 511, 0] := by decide +kernel
theorem idxT : ∀ t : Fin cfg0.N, win0_7.index t = ![t.val % 8, 0] ∧ win0_8.index t = ![t.val % 8, 0] ∧ win0_9.index t = ![t.val % 8, 0] := by decide +kernel
theorem idxW : ∀ t : Fin cfg0.N, win0_3.index t = ![0, 0] ∧ win0_4.index t = ![0, 0] ∧ win0_5.index t = ![0, 0] ∧ win0_6.index t = ![0, 0] ∧ win0_10.index t = ![0, 0] ∧ win0_11.index t = ![0, 0] ∧ win0_12.index t = ![0, 0] := by decide +kernel
theorem idxO : ∀ t : Fin cfg0.N, win0_13.index t = ![t.val / 8, t.val % 8, 0] ∧ win0_14.index t = ![t.val / 8, 0, t.val % 8] ∧ win0_15.index t = ![t.val / 8, t.val % 8, 0] ∧ win0_16.index t = ![t.val / 8, t.val % 8, 0] := by decide +kernel
theorem co_tile : ∀ t : Fin cfg0.N, (grid0.coords t 1).val = t.val % 8 := by decide +kernel

theorem b0 (t : Fin cfg0.N) (R : Fin 4096) (r : Fin 512) (k : Fin 1024) (h : R.val = t.val % 8 * 512 + r.val) :
    iblk m c 0 t (ix3 (0 : Fin 1) r k) = (inp m c (bat t)).H R k := by
  have h8 : t.val % 8 < 8 := Nat.mod_lt _ (by decide)
  have hR := R.isLt
  have hr := r.isLt
  obtain ⟨e0, e1, e2⟩ : win0_0.index t 0 = t.val / 8 ∧ win0_0.index t 1 = t.val % 8 ∧ win0_0.index t 2 = 0 := by
    rw [(idxH t).1]; exact ⟨rfl, rfl, rfl⟩
  refine (congrFun (V_main_arg0 m c) _).trans ?_
  refine congrArg (m ((c : Thread nD τ).loc main_arg0)) (funext fun a => Fin.ext ?_)
  match a with
  | ⟨0, _⟩ => show win0_0.index t 0 * 1 + 1 * 0 = t.val / 8; omega
  | ⟨1, _⟩ => show win0_0.index t 1 * 512 + 1 * r.val = R.val; omega
  | ⟨2, _⟩ => show win0_0.index t 2 * 1024 + 1 * k.val = k.val; omega

theorem b1 (t : Fin cfg0.N) (R : Fin 4096) (r : Fin 8) (k : Fin 1024) (h : R.val + 8 = t.val % 8 * 512 + r.val) :
    iblk m c 1 t (ix3 (0 : Fin 1) r k) = (inp m c (bat t)).H R k := by
  have h8 : t.val % 8 < 8 := Nat.mod_lt _ (by decide)
  have hR := R.isLt
  have hr := r.isLt
  obtain ⟨e0, e1, e2⟩ : win0_1.index t 0 = t.val / 8 ∧ win0_1.index t 1 = t.val % 8 * 64 - 1 ∧ win0_1.index t 2 = 0 := by
    rw [(idxH t).2.1]; exact ⟨rfl, rfl, rfl⟩
  refine (congrFun (V_main_arg0 m c) _).trans ?_
  refine congrArg (m ((c : Thread nD τ).loc main_arg0)) (funext fun a => Fin.ext ?_)
  match a with
  | ⟨0, _⟩ => show win0_1.index t 0 * 1 + 1 * 0 = t.val / 8; omega
  | ⟨1, _⟩ => show win0_1.index t 1 * 8 + 1 * r.val = R.val; omega
  | ⟨2, _⟩ => show win0_1.index t 2 * 1024 + 1 * k.val = k.val; omega

theorem b2 (t : Fin cfg0.N) (R : Fin 4096) (r : Fin 8) (k : Fin 1024) (h : R.val = t.val % 8 * 512 + 512 + r.val) :
    iblk m c 2 t (ix3 (0 : Fin 1) r k) = (inp m c (bat t)).H R k := by
  have h8 : t.val % 8 < 8 := Nat.mod_lt _ (by decide)
  have hR := R.isLt
  have hr := r.isLt
  obtain ⟨e0, e1, e2⟩ : win0_2.index t 0 = t.val / 8 ∧ win0_2.index t 1 = min (t.val % 8 * 64 + 64) 511 ∧ win0_2.index t 2 = 0 := by
    rw [(idxH t).2.2]; exact ⟨rfl, rfl, rfl⟩
  refine (congrFun (V_main_arg0 m c) _).trans ?_
  refine congrArg (m ((c : Thread nD τ).loc main_arg0)) (funext fun a => Fin.ext ?_)
  match a with
  | ⟨0, _⟩ => show win0_2.index t 0 * 1 + 1 * 0 = t.val / 8; omega
  | ⟨1, _⟩ => show win0_2.index t 1 * 8 + 1 * r.val = R.val; omega
  | ⟨2, _⟩ => show win0_2.index t 2 * 1024 + 1 * k.val = k.val; omega

theorem b3 (t : Fin cfg0.N) (b : Fin 4) (j : Fin 1024) : iblk m c 3 t (ix2 (0 : Fin 1) j) = (inp m c b).G j := by
  have hj := j.isLt
  have e0 : win0_3.index t 0 = 0 := by rw [(idxW t).1]; rfl
  have e1 : win0_3.index t 1 = 0 := by rw [(idxW t).1]; rfl
  refine Eq.trans (congrArg (V m c main_v2) (funext fun a => Fin.ext ?_) : _ = V m c main_v2 (ix2 (0 : Fin 1) j)) ((congrFun (V_v2 m c) _).trans ?_)
  · match a with
    | ⟨0, _⟩ => show win0_3.index t 0 * 1 + 1 * 0 = 0; omega
    | ⟨1, _⟩ => show win0_3.index t 1 * 1024 + 1 * j.val = j.val; omega
  · refine (broadcastInDim_apply _ _ _ _ (ix1 j) ?_).trans ?_
    · intro a
      match a with
      | ⟨0, _⟩ => rfl
    · rfl

theorem b12 (t : Fin cfg0.N) (b : Fin 4) (j : Fin 512) : iblk m c 12 t (ix2 (0 : Fin 1) j) = (inp m c b).GC j := by
  have hj := j.isLt
  have e0 : win0_12.index t 0 = 0 := by rw [(idxW t).2.2.2.2.2.2]; rfl
  have e1 : win0_12.index t 1 = 0 := by rw [(idxW t).2.2.2.2.2.2]; rfl
  refine Eq.trans (congrArg (V m c main_v21) (funext fun a => Fin.ext ?_) : _ = V m c main_v21 (ix2 (0 : Fin 1) j)) ((congrFun (V_v21 m c) _).trans ?_)
  · match a with
    | ⟨0, _⟩ => show win0_12.index t 0 * 1 + 1 * 0 = 0; omega
    | ⟨1, _⟩ => show win0_12.index t 1 * 512 + 1 * j.val = j.val; omega
  · refine (broadcastInDim_apply _ _ _ _ (ix1 j) ?_).trans ?_
    · intro a
      match a with
      | ⟨0, _⟩ => rfl
    · rfl

theorem b5 (t : Fin cfg0.N) (b : Fin 4) (j : Fin 512) : iblk m c 5 t (ix2 (0 : Fin 1) j) = (inp m c b).GQ (md j) * Ideal.ofBits .f32 0x3E000000#32 := by
  have hj := j.isLt
  have e0 : win0_5.index t 0 = 0 := by rw [(idxW t).2.2.1]; rfl
  have e1 : win0_5.index t 1 = 0 := by rw [(idxW t).2.2.1]; rfl
  refine Eq.trans (congrArg (V m c main_v9) (funext fun a => Fin.ext ?_) : _ = V m c main_v9 (ix2 (0 : Fin 1) j)) ((congrFun (V_v9 m c) _).trans ?_)
  · match a with
    | ⟨0, _⟩ => show win0_5.index t 0 * 1 + 1 * 0 = 0; omega
    | ⟨1, _⟩ => show win0_5.index t 1 * 512 + 1 * j.val = j.val; omega
  · refine (broadcastInDim_apply _ _ _ _ (ix1 j) ?_).trans ?_
    · intro a
      match a with
      | ⟨0, _⟩ => rfl
    · refine (shapeCast_apply _ _ _ (ix2 (⟨j.val / 64, by omega⟩ : Fin 8) (md j)) ?_).trans ?_
      · rw [Shape.rowMajor_val_two, Shape.rowMajor_val_one]
        show j.val / 64 * 64 + j.val % 64 = j.val
        omega
      · refine (broadcastInDim_apply _ _ _ _ (ix2 (0 : Fin 1) (md j)) ?_).trans ?_
        · intro a
          match a with
          | ⟨0, _⟩ => rfl
          | ⟨1, _⟩ => rfl
        · refine (shapeCast_apply _ _ _ (ix1 (md j)) ?_).trans rfl
          rw [Shape.rowMajor_val_two, Shape.rowMajor_val_one]
          show j.val % 64 = 0 * 64 + j.val % 64
          omega

theorem b6 (t : Fin cfg0.N) (b : Fin 4) (j : Fin 128) : iblk m c 6 t (ix2 (0 : Fin 1) j) = (inp m c b).GK (md j) := by
  have hj := j.isLt
  have e0 : win0_6.index t 0 = 0 := by rw [(idxW t).2.2.2.1]; rfl
  have e1 : win0_6.index t 1 = 0 := by rw [(idxW t).2.2.2.1]; rfl
  refine Eq.trans (congrArg (V m c main_v13) (funext fun a => Fin.ext ?_) : _ = V m c main_v13 (ix2 (0 : Fin 1) j)) ((congrFun (V_v13 m c) _).trans ?_)
  · match a with
    | ⟨0, _⟩ => show win0_6.index t 0 * 1 + 1 * 0 = 0; omega
    | ⟨1, _⟩ => show win0_6.index t 1 * 128 + 1 * j.val = j.val; omega
  · refine (broadcastInDim_apply _ _ _ _ (ix1 j) ?_).trans ?_
    · intro a
      match a with
      | ⟨0, _⟩ => rfl
    · refine (shapeCast_apply _ _ _ (ix2 (⟨j.val / 64, by omega⟩ : Fin 2) (md j)) ?_).trans ?_
      · rw [Shape.rowMajor_val_two, Shape.rowMajor_val_one]
        show j.val / 64 * 64 + j.val % 64 = j.val
        omega
      · refine (broadcastInDim_apply _ _ _ _ (ix2 (0 : Fin 1) (md j)) ?_).trans ?_
        · intro a
          match a with
          | ⟨0, _⟩ => rfl
          | ⟨1, _⟩ => rfl
        · refine (shapeCast_apply _ _ _ (ix1 (md j)) ?_).trans rfl
          rw [Shape.rowMajor_val_two, Shape.rowMajor_val_one]
          show j.val % 64 = 0 * 64 + j.val % 64
          omega

theorem b4 (t : Fin cfg0.N) (b : Fin 4) (k : Fin 1024) (j : Fin 2304) : iblk m c 4 t (ix2 k j) = (inp m c b).W k j := by
  have e0 : win0_4.index t 0 = 0 := by rw [(idxW t).2.1]; rfl
  have e1 : win0_4.index t 1 = 0 := by rw [(idxW t).2.1]; rfl
  refine Eq.trans (congrArg (V m c main_v3) (funext fun a => Fin.ext ?_) : _ = V m c main_v3 (ix2 k j)) ((congrFun (V_v3 m c) _).trans ?_)
  · match a with
    | ⟨0, _⟩ => show win0_4.index t 0 * 1024 + 1 * k.val = k.val; omega
    | ⟨1, _⟩ => show win0_4.index t 1 * 2304 + 1 * j.val = j.val; omega
  · rfl

theorem b11 (t : Fin cfg0.N) (b : Fin 4) (k : Fin 3) (j : Fin 512) : iblk m c 11 t (ix2 k j) = (inp m c b).CW k j := by
  have e0 : win0_11.index t 0 = 0 := by rw [(idxW t).2.2.2.2.2.1]; rfl
  have e1 : win0_11.index t 1 = 0 := by rw [(idxW t).2.2.2.2.2.1]; rfl
  refine Eq.trans (congrArg (V m c main_arg5) (funext fun a => Fin.ext ?_) : _ = V m c main_arg5 (ix2 k j)) ((congrFun (V_main_arg5 m c) _).trans ?_)
  · match a with
    | ⟨0, _⟩ => show win0_11.index t 0 * 3 + 1 * k.val = k.val; omega
    | ⟨1, _⟩ => show win0_11.index t 1 * 512 + 1 * j.val = j.val; omega
  · rfl

theorem grp_at (k j : Fin 512) : (if (cmpi .eq (broadcastInDim S512x512 ![0, 1] bcast_S512x1_S512x512_0_1 (broadcastInDim S512x1 ![0] bcast_S512_S512x1_0 headI))
    (broadcastInDim S512x512 ![0, 1] bcast_S1x512_S512x512_0_1 (broadcastInDim S1x512 ![1] bcast_S512_S1x512_1 headI)) : IVec S512x512 1) (ix2 k j) = 1#1 then Ideal.ofBits .f32 0x3C800000#32 else Ideal.ofBits .f32 0x00000000#32)
    = if k.val / 64 = j.val / 64 then Ideal.ofBits .f32 0x3C800000#32 else Ideal.ofBits .f32 0x00000000#32 := by
  have hk := k.isLt
  have hj := j.isLt
  have ek : broadcastInDim S512x512 ![0, 1] bcast_S512x1_S512x512_0_1 (broadcastInDim S512x1 ![0] bcast_S512_S512x1_0 headI) (ix2 k j) = BitVec.ofNat 32 (k.val / 64) := by
    refine (broadcastInDim_apply _ _ _ _ (ix2 k (0 : Fin 1)) ?_).trans ((broadcastInDim_apply _ _ _ _ (ix1 k) ?_).trans (headI_at k))
    · intro a
      match a with
      | ⟨0, _⟩ => rfl
      | ⟨1, _⟩ => rfl
    · intro a
      match a with
      | ⟨0, _⟩ => rfl
  have ej : broadcastInDim S512x512 ![0, 1] bcast_S1x512_S512x512_0_1 (broadcastInDim S1x512 ![1] bcast_S512_S1x512_1 headI) (ix2 k j) = BitVec.ofNat 32 (j.val / 64) := by
    refine (broadcastInDim_apply _ _ _ _ (ix2 (0 : Fin 1) j) ?_).trans ((broadcastInDim_apply _ _ _ _ (ix1 j) ?_).trans (headI_at j))
    · intro a
      match a with
      | ⟨0, _⟩ => rfl
      | ⟨1, _⟩ => rfl
    · intro a
      match a with
      | ⟨0, _⟩ => rfl
  have hc : ((cmpi .eq (broadcastInDim S512x512 ![0, 1] bcast_S512x1_S512x512_0_1 (broadcastInDim S512x1 ![0] bcast_S512_S512x1_0 headI))
      (broadcastInDim S512x512 ![0, 1] bcast_S1x512_S512x512_0_1 (broadcastInDim S1x512 ![1] bcast_S512_S1x512_1 headI)) : IVec S512x512 1) (ix2 k j) = 1#1) ↔ k.val / 64 = j.val / 64 := by
    show (IntOp.cmpi .eq _ _ = 1#1) ↔ _
    rw [ek, ej]
    have h8 : ∀ a b : Fin 8, (IntOp.cmpi .eq (BitVec.ofNat 32 a.val) (BitVec.ofNat 32 b.val) = 1#1) ↔ a.val = b.val := by decide
    exact h8 ⟨k.val / 64, by omega⟩ ⟨j.val / 64, by omega⟩
  by_cases h : k.val / 64 = j.val / 64
  · rw [if_pos h, if_pos (hc.2 h)]
  · rw [if_neg h, if_neg (fun e => h (hc.1 e))]

theorem b10 (t : Fin cfg0.N) (b : Fin 4) (k : Fin 512) (j : Fin 512) : iblk m c 10 t (ix2 k j) = if k.val / 64 = j.val / 64 then Ideal.ofBits .f32 0x3C800000#32 else Ideal.ofBits .f32 0x00000000#32 := by
  have e0 : win0_10.index t 0 = 0 := by rw [(idxW t).2.2.2.2.1]; rfl
  have e1 : win0_10.index t 1 = 0 := by rw [(idxW t).2.2.2.2.1]; rfl
  refine Eq.trans (congrArg (V m c main_v20) (funext fun a => Fin.ext ?_) : _ = V m c main_v20 (ix2 k j)) ((congrFun (V_v20 m c) _).trans ?_)
  · match a with
    | ⟨0, _⟩ => show win0_10.index t 0 * 512 + 1 * k.val = k.val; omega
    | ⟨1, _⟩ => show win0_10.index t 1 * 512 + 1 * j.val = j.val; omega
  · exact grp_at k j

theorem first_at (R : Fin 4096) (d : Fin 64) : broadcastInDim S4096x64 ![1] bcast_S64_S4096x64_1 firstI (ix2 R d) = if d.val % 32 < 16 then 1#1 else 0#1 := by
  refine (broadcastInDim_apply _ _ _ _ (ix1 d) ?_).trans (firstI_at d)
  intro a
  match a with
  | ⟨0, _⟩ => rfl

theorem pick_at (R : Fin 4096) (d : Fin 64) (x y : EReal) :
    (if broadcastInDim S4096x64 ![1] bcast_S64_S4096x64_1 firstI (ix2 R d) = 1#1 then x else y) = if d.val % 32 < 16 then x else y := by
  rw [first_at]
  by_cases h : d.val % 32 < 16
  · rw [if_pos h, if_pos h, if_pos rfl]
  · rw [if_neg h, if_neg h, if_neg (by decide)]

theorem b7 (t : Fin cfg0.N) (R : Fin 4096) (r : Fin 512) (l : Fin 128) (h : R.val = t.val % 8 * 512 + r.val) : iblk m c 7 t (ix2 r l) = (inp m c (bat t)).C R (md l) := by
  have e0 : win0_7.index t 0 = t.val % 8 := by rw [(idxT t).1]; rfl
  have e1 : win0_7.index t 1 = 0 := by rw [(idxT t).1]; rfl
  refine Eq.trans (congrArg (V m c main_v31) (funext fun a => Fin.ext ?_) : _ = V m c main_v31 (ix2 R l)) ((congrFun (V_v31 m c) _).trans ((wide_at _ R l).trans ?_))
  · match a with
    | ⟨0, _⟩ => show win0_7.index t 0 * 512 + 1 * r.val = R.val; omega
    | ⟨1, _⟩ => show win0_7.index t 1 * 128 + 1 * l.val = l.val; omega
  · rfl

theorem b8 (t : Fin cfg0.N) (R : Fin 4096) (r : Fin 512) (l : Fin 128) (h : R.val = t.val % 8 * 512 + r.val) : iblk m c 8 t (ix2 r l) = if (md l).val % 32 < 16 then -(inp m c (bat t)).S R (md l) else 0 := by
  have e0 : win0_8.index t 0 = t.val % 8 := by rw [(idxT t).2.1]; rfl
  have e1 : win0_8.index t 1 = 0 := by rw [(idxT t).2.1]; rfl
  refine Eq.trans (congrArg (V m c main_v34) (funext fun a => Fin.ext ?_) : _ = V m c main_v34 (ix2 R l)) ((congrFun (V_v34 m c) _).trans ((wide_at _ R l).trans ?_))
  · match a with
    | ⟨0, _⟩ => show win0_8.index t 0 * 512 + 1 * r.val = R.val; omega
    | ⟨1, _⟩ => show win0_8.index t 1 * 128 + 1 * l.val = l.val; omega
  · exact (pick_at R (md l) _ _).trans (by rw [← Ideal.ofBits_zero_f32]; rfl)

theorem b9 (t : Fin cfg0.N) (R : Fin 4096) (r : Fin 512) (l : Fin 128) (h : R.val = t.val % 8 * 512 + r.val) : iblk m c 9 t (ix2 r l) = if (md l).val % 32 < 16 then 0 else (inp m c (bat t)).S R (md l) := by
  have e0 : win0_9.index t 0 = t.val % 8 := by rw [(idxT t).2.2]; rfl
  have e1 : win0_9.index t 1 = 0 := by rw [(idxT t).2.2]; rfl
  refine Eq.trans (congrArg (V m c main_v37) (funext fun a => Fin.ext ?_) : _ = V m c main_v37 (ix2 R l)) ((congrFun (V_v37 m c) _).trans ((wide_at _ R l).trans ?_))
  · match a with
    | ⟨0, _⟩ => show win0_9.index t 0 * 512 + 1 * r.val = R.val; omega
    | ⟨1, _⟩ => show win0_9.index t 1 * 128 + 1 * l.val = l.val; omega
  · exact (pick_at R (md l) _ _).trans (by rw [← Ideal.ofBits_zero_f32]; rfl)

/-- Every point's blocks hold the rows, weights and tables its tile reads. -/
theorem blk_at (t : Fin cfg0.N) : Blk (inp m c (bat t)) (tile t) (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) where
  h0 := b0 m c t
  h1 := b1 m c t
  h2 := b2 m c t
  g := b3 m c t _
  w := b4 m c t _
  gq := b5 m c t _
  gk := b6 m c t _
  cs := b7 m c t
  su := b8 m c t
  sd := b9 m c t
  grp := b10 m c t (bat t)
  cw := b11 m c t _
  gc := b12 m c t _

end Cert.Kernel3Ideal.Mix

end
-- ==== Proof.MixPts.lean ====
module

public import proofs.«01_k».proof.Proof.MixTab
public import Idealize.ShloMosaic.Lib.StableHlo.Run

/-! The arrays the points of the first call leave. -/

@[expose] public section

set_option maxRecDepth 16384

noncomputable section

namespace Cert.Kernel3Ideal.Mix

open Cert.Kernel3Ideal Cert.Kernel3Ideal.Gen Idealize.ShloMosaic.TcCoe Idealize.SL.Sem
open Idealize.ShloMosaic hiding ix1 ix2 ix3 ix4
open ValueIdx (ix1 ix2 ix3 ix4)

variable (m : (ℓ : Loc nD τ sig) → Buf (Elt Ideal) ℓ) (c : Dev nD)

/-- The queries: rotated, scaled, of every batch. -/
def res13 : Buf (Elt Ideal) ((c : Thread nD τ).loc main_v38_0) := (fun i : (⟨3, ![4, 4096, 512]⟩ : Shape).Idx => MSpec.q (inp m c (i 0)) (i 1) (i 2) : (⟨3, ![4, 4096, 512]⟩ : Shape).Idx → EReal)

theorem flushed_eq13 (t : Fin cfg0.N) : (dats m 0 c).flushed 13 t = ((cfg0.win 13).blk t).view.read (Elt Ideal) (res13 m c) := by
  rw [Value.flushed13_A, out_13]
  have e0 : win0_13.index t 0 = t.val / 8 := by rw [(idxO t).1]; rfl
  have e1 : win0_13.index t 1 = t.val % 8 := by rw [(idxO t).1]; rfl
  have e2 : win0_13.index t 2 = 0 := by rw [(idxO t).1]; rfl
  have h8 : t.val % 8 < 8 := Nat.mod_lt _ (by decide)
  funext y
  have hy0 : (y 0).val < 1 := (y 0).isLt
  have hy1 : (y 1).val < 512 := (y 1).isLt
  have hy2 : (y 2).val < 512 := (y 2).isLt
  have hx : (cfg0.win 13).xinj (grid0.coords t) y = ix3 (0 : Fin 1) (⟨(y 1).val, hy1⟩ : Fin 512) (⟨(y 2).val, hy2⟩ : Fin 512) := by
    funext a; apply Fin.ext
    match a with
    | ⟨0, _⟩ => show (y 0).val = 0; omega
    | ⟨1, _⟩ => rfl
    | ⟨2, _⟩ => rfl
  have hb0 : (((cfg0.win 13).blk t).view.emb y 0).val = win0_13.index t 0 * 1 + 1 * (y 0).val := rfl
  have hb1 : (((cfg0.win 13).blk t).view.emb y 1).val = win0_13.index t 1 * 512 + 1 * (y 1).val := rfl
  have hb2 : (((cfg0.win 13).blk t).view.emb y 2).val = win0_13.index t 2 * 512 + 1 * (y 2).val := rfl
  have hR : t.val % 8 * 512 + (y 1).val < 4096 := by omega
  refine (congrArg _ hx).trans (((q_at (blk_at m c t) ⟨(y 1).val, hy1⟩ ⟨t.val % 8 * 512 + (y 1).val, hR⟩ rfl ⟨(y 2).val, hy2⟩)).trans ?_)
  have i0 : (((cfg0.win 13).blk t).view.emb y 0) = bat t := Fin.ext (by show _ = t.val / 8; rw [hb0]; omega)
  have iR : (((cfg0.win 13).blk t).view.emb y 1) = (⟨t.val % 8 * 512 + (y 1).val, hR⟩ : Fin 4096) := Fin.ext (by show _ = t.val % 8 * 512 + (y 1).val; rw [hb1]; omega)
  have iJ : (((cfg0.win 13).blk t).view.emb y 2) = (⟨(y 2).val, hy2⟩ : Fin 512) := Fin.ext (by show _ = (y 2).val; rw [hb2]; omega)
  show _ = MSpec.q (inp m c (((cfg0.win 13).blk t).view.emb y 0)) (((cfg0.win 13).blk t).view.emb y 1) (((cfg0.win 13).blk t).view.emb y 2)
  rw [i0, iR, iJ]

theorem mem_blk13 (t : Fin cfg0.N) (i : S4x4096x512.Idx) :
    i ∈ ((cfg0.win 13).blk t).view.set ↔ ∀ a : Fin 3, win0_13.index t a * S1x512x512.size a ≤ (i a).val ∧ (i a).val < win0_13.index t a * S1x512x512.size a + S1x512x512.size a := by
  show i ∈ ((View.whole main_v38_0).slice (win0_13.rect t)).set ↔ _
  rw [View.set_slice_whole, Rect.mem_set_unit]
  exact Iff.rfl

theorem covered13 (i : S4x4096x512.Idx) : ∃ t : Fin cfg0.N, (cfg0.win 13).flush t = true ∧ i ∈ ((cfg0.win 13).blk t).view.set := by
  have h0 : (i 0).val < 4 := (i 0).isLt
  have h1 : (i 1).val < 4096 := (i 1).isLt
  have h2 : (i 2).val < 512 := (i 2).isLt
  refine ⟨⟨(i 0).val * 8 + (i 1).val / 512, lt_of_lt_of_eq (by omega) N_0.symm⟩, flush0_13 _, ?_⟩
  generalize ht : (⟨(i 0).val * 8 + (i 1).val / 512, _⟩ : Fin cfg0.N) = t
  have hv : t.val = (i 0).val * 8 + (i 1).val / 512 := by rw [← ht]
  rw [mem_blk13]
  have e0 : win0_13.index t 0 = t.val / 8 := by rw [(idxO t).1]; rfl
  have e1 : win0_13.index t 1 = t.val % 8 := by rw [(idxO t).1]; rfl
  have e2 : win0_13.index t 2 = 0 := by rw [(idxO t).1]; rfl
  intro a
  match a with
  | ⟨0, _⟩ => show win0_13.index t 0 * 1 ≤ (i 0).val ∧ (i 0).val < win0_13.index t 0 * 1 + 1; omega
  | ⟨1, _⟩ => show win0_13.index t 1 * 512 ≤ (i 1).val ∧ (i 1).val < win0_13.index t 1 * 512 + 512; omega
  | ⟨2, _⟩ => show win0_13.index t 2 * 512 ≤ (i 2).val ∧ (i 2).val < win0_13.index t 2 * 512 + 512; omega

theorem final13 : (dats m 0 c).arrAt 13 cfg0.N = res13 m c :=
  (dats m 0 c).arrAt_eq_of_cover 13 _ (fun t _ => flushed_eq13 m c t) (fun i => covered13 i)

/-- The keys, transposed, of every batch. -/
def res14 : Buf (Elt Ideal) ((c : Thread nD τ).loc main_v38_1) := (fun i : (⟨3, ![4, 128, 4096]⟩ : Shape).Idx => MSpec.k (inp m c (i 0)) (i 2) (i 1) : (⟨3, ![4, 128, 4096]⟩ : Shape).Idx → EReal)

theorem flushed_eq14 (t : Fin cfg0.N) : (dats m 0 c).flushed 14 t = ((cfg0.win 14).blk t).view.read (Elt Ideal) (res14 m c) := by
  rw [Value.flushed14_A, out_14]
  have e0 : win0_14.index t 0 = t.val / 8 := by rw [(idxO t).2.1]; rfl
  have e1 : win0_14.index t 1 = 0 := by rw [(idxO t).2.1]; rfl
  have e2 : win0_14.index t 2 = t.val % 8 := by rw [(idxO t).2.1]; rfl
  have h8 : t.val % 8 < 8 := Nat.mod_lt _ (by decide)
  funext y
  have hy0 : (y 0).val < 1 := (y 0).isLt
  have hy1 : (y 1).val < 128 := (y 1).isLt
  have hy2 : (y 2).val < 512 := (y 2).isLt
  have hx : (cfg0.win 14).xinj (grid0.coords t) y = ix3 (0 : Fin 1) (⟨(y 1).val, hy1⟩ : Fin 128) (⟨(y 2).val, hy2⟩ : Fin 512) := by
    funext a; apply Fin.ext
    match a with
    | ⟨0, _⟩ => show (y 0).val = 0; omega
    | ⟨1, _⟩ => rfl
    | ⟨2, _⟩ => rfl
  have hb0 : (((cfg0.win 14).blk t).view.emb y 0).val = win0_14.index t 0 * 1 + 1 * (y 0).val := rfl
  have hb1 : (((cfg0.win 14).blk t).view.emb y 1).val = win0_14.index t 1 * 128 + 1 * (y 1).val := rfl
  have hb2 : (((cfg0.win 14).blk t).view.emb y 2).val = win0_14.index t 2 * 512 + 1 * (y 2).val := rfl
  have hR : t.val % 8 * 512 + (y 2).val < 4096 := by omega
  refine (congrArg _ hx).trans (((k_at (blk_at m c t) ⟨(y 2).val, hy2⟩ ⟨t.val % 8 * 512 + (y 2).val, hR⟩ rfl ⟨(y 1).val, hy1⟩)).trans ?_)
  have i0 : (((cfg0.win 14).blk t).view.emb y 0) = bat t := Fin.ext (by show _ = t.val / 8; rw [hb0]; omega)
  have iR : (((cfg0.win 14).blk t).view.emb y 2) = (⟨t.val % 8 * 512 + (y 2).val, hR⟩ : Fin 4096) := Fin.ext (by show _ = t.val % 8 * 512 + (y 2).val; rw [hb2]; omega)
  have iJ : (((cfg0.win 14).blk t).view.emb y 1) = (⟨(y 1).val, hy1⟩ : Fin 128) := Fin.ext (by show _ = (y 1).val; rw [hb1]; omega)
  show _ = MSpec.k (inp m c (((cfg0.win 14).blk t).view.emb y 0)) (((cfg0.win 14).blk t).view.emb y 2) (((cfg0.win 14).blk t).view.emb y 1)
  rw [i0, iR, iJ]

theorem mem_blk14 (t : Fin cfg0.N) (i : S4x128x4096.Idx) :
    i ∈ ((cfg0.win 14).blk t).view.set ↔ ∀ a : Fin 3, win0_14.index t a * S1x128x512.size a ≤ (i a).val ∧ (i a).val < win0_14.index t a * S1x128x512.size a + S1x128x512.size a := by
  show i ∈ ((View.whole main_v38_1).slice (win0_14.rect t)).set ↔ _
  rw [View.set_slice_whole, Rect.mem_set_unit]
  exact Iff.rfl

theorem covered14 (i : S4x128x4096.Idx) : ∃ t : Fin cfg0.N, (cfg0.win 14).flush t = true ∧ i ∈ ((cfg0.win 14).blk t).view.set := by
  have h0 : (i 0).val < 4 := (i 0).isLt
  have h1 : (i 1).val < 128 := (i 1).isLt
  have h2 : (i 2).val < 4096 := (i 2).isLt
  refine ⟨⟨(i 0).val * 8 + (i 2).val / 512, lt_of_lt_of_eq (by omega) N_0.symm⟩, flush0_14 _, ?_⟩
  generalize ht : (⟨(i 0).val * 8 + (i 2).val / 512, _⟩ : Fin cfg0.N) = t
  have hv : t.val = (i 0).val * 8 + (i 2).val / 512 := by rw [← ht]
  rw [mem_blk14]
  have e0 : win0_14.index t 0 = t.val / 8 := by rw [(idxO t).2.1]; rfl
  have e1 : win0_14.index t 1 = 0 := by rw [(idxO t).2.1]; rfl
  have e2 : win0_14.index t 2 = t.val % 8 := by rw [(idxO t).2.1]; rfl
  intro a
  match a with
  | ⟨0, _⟩ => show win0_14.index t 0 * 1 ≤ (i 0).val ∧ (i 0).val < win0_14.index t 0 * 1 + 1; omega
  | ⟨1, _⟩ => show win0_14.index t 1 * 128 ≤ (i 1).val ∧ (i 1).val < win0_14.index t 1 * 128 + 128; omega
  | ⟨2, _⟩ => show win0_14.index t 2 * 512 ≤ (i 2).val ∧ (i 2).val < win0_14.index t 2 * 512 + 512; omega

theorem final14 : (dats m 0 c).arrAt 14 cfg0.N = res14 m c :=
  (dats m 0 c).arrAt_eq_of_cover 14 _ (fun t _ => flushed_eq14 m c t) (fun i => covered14 i)

/-- The values of every batch. -/
def res15 : Buf (Elt Ideal) ((c : Thread nD τ).loc main_v38_2) := (fun i : (⟨3, ![4, 4096, 128]⟩ : Shape).Idx => MSpec.v (inp m c (i 0)) (i 1) (i 2) : (⟨3, ![4, 4096, 128]⟩ : Shape).Idx → EReal)

theorem flushed_eq15 (t : Fin cfg0.N) : (dats m 0 c).flushed 15 t = ((cfg0.win 15).blk t).view.read (Elt Ideal) (res15 m c) := by
  rw [Value.flushed15_A, out_15]
  have e0 : win0_15.index t 0 = t.val / 8 := by rw [(idxO t).2.2.1]; rfl
  have e1 : win0_15.index t 1 = t.val % 8 := by rw [(idxO t).2.2.1]; rfl
  have e2 : win0_15.index t 2 = 0 := by rw [(idxO t).2.2.1]; rfl
  have h8 : t.val % 8 < 8 := Nat.mod_lt _ (by decide)
  funext y
  have hy0 : (y 0).val < 1 := (y 0).isLt
  have hy1 : (y 1).val < 512 := (y 1).isLt
  have hy2 : (y 2).val < 128 := (y 2).isLt
  have hx : (cfg0.win 15).xinj (grid0.coords t) y = ix3 (0 : Fin 1) (⟨(y 1).val, hy1⟩ : Fin 512) (⟨(y 2).val, hy2⟩ : Fin 128) := by
    funext a; apply Fin.ext
    match a with
    | ⟨0, _⟩ => show (y 0).val = 0; omega
    | ⟨1, _⟩ => rfl
    | ⟨2, _⟩ => rfl
  have hb0 : (((cfg0.win 15).blk t).view.emb y 0).val = win0_15.index t 0 * 1 + 1 * (y 0).val := rfl
  have hb1 : (((cfg0.win 15).blk t).view.emb y 1).val = win0_15.index t 1 * 512 + 1 * (y 1).val := rfl
  have hb2 : (((cfg0.win 15).blk t).view.emb y 2).val = win0_15.index t 2 * 128 + 1 * (y 2).val := rfl
  have hR : t.val % 8 * 512 + (y 1).val < 4096 := by omega
  refine (congrArg _ hx).trans (((v_at (blk_at m c t) ⟨(y 1).val, hy1⟩ ⟨t.val % 8 * 512 + (y 1).val, hR⟩ rfl ⟨(y 2).val, hy2⟩)).trans ?_)
  have i0 : (((cfg0.win 15).blk t).view.emb y 0) = bat t := Fin.ext (by show _ = t.val / 8; rw [hb0]; omega)
  have iR : (((cfg0.win 15).blk t).view.emb y 1) = (⟨t.val % 8 * 512 + (y 1).val, hR⟩ : Fin 4096) := Fin.ext (by show _ = t.val % 8 * 512 + (y 1).val; rw [hb1]; omega)
  have iJ : (((cfg0.win 15).blk t).view.emb y 2) = (⟨(y 2).val, hy2⟩ : Fin 128) := Fin.ext (by show _ = (y 2).val; rw [hb2]; omega)
  show _ = MSpec.v (inp m c (((cfg0.win 15).blk t).view.emb y 0)) (((cfg0.win 15).blk t).view.emb y 1) (((cfg0.win 15).blk t).view.emb y 2)
  rw [i0, iR, iJ]

theorem mem_blk15 (t : Fin cfg0.N) (i : S4x4096x128.Idx) :
    i ∈ ((cfg0.win 15).blk t).view.set ↔ ∀ a : Fin 3, win0_15.index t a * S1x512x128.size a ≤ (i a).val ∧ (i a).val < win0_15.index t a * S1x512x128.size a + S1x512x128.size a := by
  show i ∈ ((View.whole main_v38_2).slice (win0_15.rect t)).set ↔ _
  rw [View.set_slice_whole, Rect.mem_set_unit]
  exact Iff.rfl

theorem covered15 (i : S4x4096x128.Idx) : ∃ t : Fin cfg0.N, (cfg0.win 15).flush t = true ∧ i ∈ ((cfg0.win 15).blk t).view.set := by
  have h0 : (i 0).val < 4 := (i 0).isLt
  have h1 : (i 1).val < 4096 := (i 1).isLt
  have h2 : (i 2).val < 128 := (i 2).isLt
  refine ⟨⟨(i 0).val * 8 + (i 1).val / 512, lt_of_lt_of_eq (by omega) N_0.symm⟩, flush0_15 _, ?_⟩
  generalize ht : (⟨(i 0).val * 8 + (i 1).val / 512, _⟩ : Fin cfg0.N) = t
  have hv : t.val = (i 0).val * 8 + (i 1).val / 512 := by rw [← ht]
  rw [mem_blk15]
  have e0 : win0_15.index t 0 = t.val / 8 := by rw [(idxO t).2.2.1]; rfl
  have e1 : win0_15.index t 1 = t.val % 8 := by rw [(idxO t).2.2.1]; rfl
  have e2 : win0_15.index t 2 = 0 := by rw [(idxO t).2.2.1]; rfl
  intro a
  match a with
  | ⟨0, _⟩ => show win0_15.index t 0 * 1 ≤ (i 0).val ∧ (i 0).val < win0_15.index t 0 * 1 + 1; omega
  | ⟨1, _⟩ => show win0_15.index t 1 * 512 ≤ (i 1).val ∧ (i 1).val < win0_15.index t 1 * 512 + 512; omega
  | ⟨2, _⟩ => show win0_15.index t 2 * 128 ≤ (i 2).val ∧ (i 2).val < win0_15.index t 2 * 128 + 128; omega

theorem final15 : (dats m 0 c).arrAt 15 cfg0.N = res15 m c :=
  (dats m 0 c).arrAt_eq_of_cover 15 _ (fun t _ => flushed_eq15 m c t) (fun i => covered15 i)

/-- The normed gated convolution of every batch. -/
def res16 : Buf (Elt Ideal) ((c : Thread nD τ).loc main_v38_3) := (fun i : (⟨3, ![4, 4096, 512]⟩ : Shape).Idx => MSpec.oc (inp m c (i 0)) (i 1) (i 2) : (⟨3, ![4, 4096, 512]⟩ : Shape).Idx → EReal)

theorem flushed_eq16 (t : Fin cfg0.N) : (dats m 0 c).flushed 16 t = ((cfg0.win 16).blk t).view.read (Elt Ideal) (res16 m c) := by
  rw [Value.flushed16_A, out_16]
  have e0 : win0_16.index t 0 = t.val / 8 := by rw [(idxO t).2.2.2]; rfl
  have e1 : win0_16.index t 1 = t.val % 8 := by rw [(idxO t).2.2.2]; rfl
  have e2 : win0_16.index t 2 = 0 := by rw [(idxO t).2.2.2]; rfl
  have h8 : t.val % 8 < 8 := Nat.mod_lt _ (by decide)
  funext y
  have hy0 : (y 0).val < 1 := (y 0).isLt
  have hy1 : (y 1).val < 512 := (y 1).isLt
  have hy2 : (y 2).val < 512 := (y 2).isLt
  have hx : (cfg0.win 16).xinj (grid0.coords t) y = ix3 (0 : Fin 1) (⟨(y 1).val, hy1⟩ : Fin 512) (⟨(y 2).val, hy2⟩ : Fin 512) := by
    funext a; apply Fin.ext
    match a with
    | ⟨0, _⟩ => show (y 0).val = 0; omega
    | ⟨1, _⟩ => rfl
    | ⟨2, _⟩ => rfl
  have hb0 : (((cfg0.win 16).blk t).view.emb y 0).val = win0_16.index t 0 * 1 + 1 * (y 0).val := rfl
  have hb1 : (((cfg0.win 16).blk t).view.emb y 1).val = win0_16.index t 1 * 512 + 1 * (y 1).val := rfl
  have hb2 : (((cfg0.win 16).blk t).view.emb y 2).val = win0_16.index t 2 * 512 + 1 * (y 2).val := rfl
  have hR : t.val % 8 * 512 + (y 1).val < 4096 := by omega
  refine (congrArg _ hx).trans (((oc_at (blk_at m c t) ⟨(y 1).val, hy1⟩ ⟨t.val % 8 * 512 + (y 1).val, hR⟩ rfl (grid0.coords t) (co_tile t) ⟨(y 2).val, hy2⟩)).trans ?_)
  have i0 : (((cfg0.win 16).blk t).view.emb y 0) = bat t := Fin.ext (by show _ = t.val / 8; rw [hb0]; omega)
  have iR : (((cfg0.win 16).blk t).view.emb y 1) = (⟨t.val % 8 * 512 + (y 1).val, hR⟩ : Fin 4096) := Fin.ext (by show _ = t.val % 8 * 512 + (y 1).val; rw [hb1]; omega)
  have iJ : (((cfg0.win 16).blk t).view.emb y 2) = (⟨(y 2).val, hy2⟩ : Fin 512) := Fin.ext (by show _ = (y 2).val; rw [hb2]; omega)
  show _ = MSpec.oc (inp m c (((cfg0.win 16).blk t).view.emb y 0)) (((cfg0.win 16).blk t).view.emb y 1) (((cfg0.win 16).blk t).view.emb y 2)
  rw [i0, iR, iJ]

theorem mem_blk16 (t : Fin cfg0.N) (i : S4x4096x512.Idx) :
    i ∈ ((cfg0.win 16).blk t).view.set ↔ ∀ a : Fin 3, win0_16.index t a * S1x512x512.size a ≤ (i a).val ∧ (i a).val < win0_16.index t a * S1x512x512.size a + S1x512x512.size a := by
  show i ∈ ((View.whole main_v38_3).slice (win0_16.rect t)).set ↔ _
  rw [View.set_slice_whole, Rect.mem_set_unit]
  exact Iff.rfl

theorem covered16 (i : S4x4096x512.Idx) : ∃ t : Fin cfg0.N, (cfg0.win 16).flush t = true ∧ i ∈ ((cfg0.win 16).blk t).view.set := by
  have h0 : (i 0).val < 4 := (i 0).isLt
  have h1 : (i 1).val < 4096 := (i 1).isLt
  have h2 : (i 2).val < 512 := (i 2).isLt
  refine ⟨⟨(i 0).val * 8 + (i 1).val / 512, lt_of_lt_of_eq (by omega) N_0.symm⟩, flush0_16 _, ?_⟩
  generalize ht : (⟨(i 0).val * 8 + (i 1).val / 512, _⟩ : Fin cfg0.N) = t
  have hv : t.val = (i 0).val * 8 + (i 1).val / 512 := by rw [← ht]
  rw [mem_blk16]
  have e0 : win0_16.index t 0 = t.val / 8 := by rw [(idxO t).2.2.2]; rfl
  have e1 : win0_16.index t 1 = t.val % 8 := by rw [(idxO t).2.2.2]; rfl
  have e2 : win0_16.index t 2 = 0 := by rw [(idxO t).2.2.2]; rfl
  intro a
  match a with
  | ⟨0, _⟩ => show win0_16.index t 0 * 1 ≤ (i 0).val ∧ (i 0).val < win0_16.index t 0 * 1 + 1; omega
  | ⟨1, _⟩ => show win0_16.index t 1 * 512 ≤ (i 1).val ∧ (i 1).val < win0_16.index t 1 * 512 + 512; omega
  | ⟨2, _⟩ => show win0_16.index t 2 * 512 ≤ (i 2).val ∧ (i 2).val < win0_16.index t 2 * 512 + 512; omega

theorem final16 : (dats m 0 c).arrAt 16 cfg0.N = res16 m c :=
  (dats m 0 c).arrAt_eq_of_cover 16 _ (fun t _ => flushed_eq16 m c t) (fun i => covered16 i)

/-- The run: the four result arrays named. -/
theorem run_res (ρ : Dev nD → PrngReg) : θ_run defs (onTc (τ := τ) (main (F := Ideal))) ⟨m, fun _ => 0, ρ⟩ (fun r => ∀ c : Dev nD,
    r.2.mem ((c : Thread nD τ).loc main_v38_0) = res13 m c ∧ r.2.mem ((c : Thread nD τ).loc main_v38_1) = res14 m c
      ∧ r.2.mem ((c : Thread nD τ).loc main_v38_2) = res15 m c ∧ r.2.mem ((c : Thread nD τ).loc main_v38_3) = res16 m c) :=
  (θ_run defs _ _).mono (fun _ h c => ⟨(h c).1.trans (final13 m c), (h c).2.1.trans (final14 m c), (h c).2.2.1.trans (final15 m c), (h c).2.2.2.1.trans (final16 m c)⟩) (Value.run_blocks m ρ)

end Cert.Kernel3Ideal.Mix

end
-- ==== Proof.MixRefAt.lean ====
module

public import proofs.«01_k».proof.Proof.Ref3
public import proofs.«01_k».proof.Proof.MixSpec
public import Idealize.ShloMosaic.Lib.KernelVsHost

/-! The third reference's results, entry by entry, over the extended reals. -/

@[expose] public section

set_option maxRecDepth 16384

noncomputable section

namespace Cert.Reference3Ideal.Mix

open Cert.Reference3Ideal Cert.Reference3Ideal.Gen Cert.Reference3Ideal.Read Idealize.ShloMosaic.TcCoe
open Idealize.ShloMosaic hiding ix1 ix2 ix3 ix4
open ValueIdx (ix1 ix2 ix3 ix4)
open MSpec (md qcol kcol)

variable (x0 : (⟨S4x4096x1024, .f32⟩ : BufTy).Contents (Elt Ideal)) (x1 : (⟨S1024, .f32⟩ : BufTy).Contents (Elt Ideal)) (x2 : (⟨S1024x2304, .f32⟩ : BufTy).Contents (Elt Ideal))
  (x3 x4 : (⟨S64, .f32⟩ : BufTy).Contents (Elt Ideal)) (x5 : (⟨S3x512, .f32⟩ : BufTy).Contents (Elt Ideal)) (x6 : (⟨S512, .f32⟩ : BufTy).Contents (Elt Ideal))
  (x7 x8 : (⟨S4096x64, .f32⟩ : BufTy).Contents (Elt Ideal))

/-- The arguments' entries in batch `b`. -/
def inp (b : Fin 4) : MSpec.In where
  H R k := x0 (ix3 b R k)
  G e := x1 (ix1 e)
  W k j := x2 (ix2 k j)
  GQ d := x3 (ix1 d)
  GK d := x4 (ix1 d)
  CW t j := x5 (ix2 t j)
  GC j := x6 (ix1 j)
  C R d := x7 (ix2 R d)
  S R d := x8 (ix2 R d)

theorem pad_zero : val_main_call0_v0 (F := Ideal) (Shape.Idx.first h_S_) = 0 := by
  rw [val_main_call0_v0_apply, val_main_c_apply]
  show ((((0#32 : BitVec 32).toInt : ℤ) : ℝ) : EReal) = 0
  norm_num

theorem cat8_at (X0 X1 X2 X3 : (⟨S4x4096x8x16, .f32⟩ : BufTy).Contents (Elt Ideal)) (b : Fin 4) (R : Fin 4096) (n : Fin 8) (f : Fin 64 → EReal)
    (h0 : ∀ e : Fin 16, X0 (ix4 b R n e) = f ⟨e.val, by omega⟩) (h1 : ∀ e : Fin 16, X1 (ix4 b R n e) = f ⟨16 + e.val, by omega⟩)
    (h2 : ∀ e : Fin 16, X2 (ix4 b R n e) = f ⟨32 + e.val, by omega⟩) (h3 : ∀ e : Fin 16, X3 (ix4 b R n e) = f ⟨48 + e.val, by omega⟩) (d : Fin 64) :
    concatenate S4x4096x8x64 3 [⟨S4x4096x8x16, X0⟩, ⟨S4x4096x8x16, X1⟩, ⟨S4x4096x8x16, X2⟩, ⟨S4x4096x8x16, X3⟩]
      concatenates_S4x4096x8x16_S4x4096x8x16_S4x4096x8x16_S4x4096x8x16_S4x4096x8x64_d3 (ix4 b R n d) = f d := by
  have hd := d.isLt
  rcases (by omega : d.val < 16 ∨ (16 ≤ d.val ∧ d.val < 32) ∨ (32 ≤ d.val ∧ d.val < 48) ∨ 48 ≤ d.val) with h | h | h | h
  · refine (concatenate_apply_piece (t := S4x4096x8x64) 3 [⟨S4x4096x8x16, X0⟩, ⟨S4x4096x8x16, X1⟩, ⟨S4x4096x8x16, X2⟩, ⟨S4x4096x8x16, X3⟩]
      concatenates_S4x4096x8x16_S4x4096x8x16_S4x4096x8x16_S4x4096x8x16_S4x4096x8x64_d3 (ix4 b R n d) 0 (by simp) S4x4096x8x16 X0 rfl rfl 0 rfl
        (ix4 b R n (⟨d.val - 0, by omega⟩ : Fin 16)) ?_ ?_).trans ((h0 ⟨d.val - 0, by omega⟩).trans (congrArg f (Fin.ext (by show d.val - 0 = d.val; omega))))
    · intro a ha
      match a with
      | ⟨0, _⟩ => rfl
      | ⟨1, _⟩ => rfl
      | ⟨2, _⟩ => rfl
      | ⟨3, _⟩ => exact absurd rfl ha
    · show 0 + (d.val - 0) = d.val
      omega
  · refine (concatenate_apply_piece (t := S4x4096x8x64) 3 [⟨S4x4096x8x16, X0⟩, ⟨S4x4096x8x16, X1⟩, ⟨S4x4096x8x16, X2⟩, ⟨S4x4096x8x16, X3⟩]
      concatenates_S4x4096x8x16_S4x4096x8x16_S4x4096x8x16_S4x4096x8x16_S4x4096x8x64_d3 (ix4 b R n d) 1 (by simp) S4x4096x8x16 X1 rfl rfl 16 rfl
        (ix4 b R n (⟨d.val - 16, by omega⟩ : Fin 16)) ?_ ?_).trans ((h1 ⟨d.val - 16, by omega⟩).trans (congrArg f (Fin.ext (by show 16 + (d.val - 16) = d.val; omega))))
    · intro a ha
      match a with
      | ⟨0, _⟩ => rfl
      | ⟨1, _⟩ => rfl
      | ⟨2, _⟩ => rfl
      | ⟨3, _⟩ => exact absurd rfl ha
    · show 16 + (d.val - 16) = d.val
      omega
  · refine (concatenate_apply_piece (t := S4x4096x8x64) 3 [⟨S4x4096x8x16, X0⟩, ⟨S4x4096x8x16, X1⟩, ⟨S4x4096x8x16, X2⟩, ⟨S4x4096x8x16, X3⟩]
      concatenates_S4x4096x8x16_S4x4096x8x16_S4x4096x8x16_S4x4096x8x16_S4x4096x8x64_d3 (ix4 b R n d) 2 (by simp) S4x4096x8x16 X2 rfl rfl 32 rfl
        (ix4 b R n (⟨d.val - 32, by omega⟩ : Fin 16)) ?_ ?_).trans ((h2 ⟨d.val - 32, by omega⟩).trans (congrArg f (Fin.ext (by show 32 + (d.val - 32) = d.val; omega))))
    · intro a ha
      match a with
      | ⟨0, _⟩ => rfl
      | ⟨1, _⟩ => rfl
      | ⟨2, _⟩ => rfl
      | ⟨3, _⟩ => exact absurd rfl ha
    · show 32 + (d.val - 32) = d.val
      omega
  · refine (concatenate_apply_piece (t := S4x4096x8x64) 3 [⟨S4x4096x8x16, X0⟩, ⟨S4x4096x8x16, X1⟩, ⟨S4x4096x8x16, X2⟩, ⟨S4x4096x8x16, X3⟩]
      concatenates_S4x4096x8x16_S4x4096x8x16_S4x4096x8x16_S4x4096x8x16_S4x4096x8x64_d3 (ix4 b R n d) 3 (by simp) S4x4096x8x16 X3 rfl rfl 48 rfl
        (ix4 b R n (⟨d.val - 48, by omega⟩ : Fin 16)) ?_ ?_).trans ((h3 ⟨d.val - 48, by omega⟩).trans (congrArg f (Fin.ext (by show 48 + (d.val - 48) = d.val; omega))))
    · intro a ha
      match a with
      | ⟨0, _⟩ => rfl
      | ⟨1, _⟩ => rfl
      | ⟨2, _⟩ => rfl
      | ⟨3, _⟩ => exact absurd rfl ha
    · show 48 + (d.val - 48) = d.val
      omega

theorem cat2_at (X0 X1 X2 X3 : (⟨S4x4096x2x16, .f32⟩ : BufTy).Contents (Elt Ideal)) (b : Fin 4) (R : Fin 4096) (n : Fin 2) (f : Fin 64 → EReal)
    (h0 : ∀ e : Fin 16, X0 (ix4 b R n e) = f ⟨e.val, by omega⟩) (h1 : ∀ e : Fin 16, X1 (ix4 b R n e) = f ⟨16 + e.val, by omega⟩)
    (h2 : ∀ e : Fin 16, X2 (ix4 b R n e) = f ⟨32 + e.val, by omega⟩) (h3 : ∀ e : Fin 16, X3 (ix4 b R n e) = f ⟨48 + e.val, by omega⟩) (d : Fin 64) :
    concatenate S4x4096x2x64 3 [⟨S4x4096x2x16, X0⟩, ⟨S4x4096x2x16, X1⟩, ⟨S4x4096x2x16, X2⟩, ⟨S4x4096x2x16, X3⟩]
      concatenates_S4x4096x2x16_S4x4096x2x16_S4x4096x2x16_S4x4096x2x16_S4x4096x2x64_d3 (ix4 b R n d) = f d := by
  have hd := d.isLt
  rcases (by omega : d.val < 16 ∨ (16 ≤ d.val ∧ d.val < 32) ∨ (32 ≤ d.val ∧ d.val < 48) ∨ 48 ≤ d.val) with h | h | h | h
  · refine (concatenate_apply_piece (t := S4x4096x2x64) 3 [⟨S4x4096x2x16, X0⟩, ⟨S4x4096x2x16, X1⟩, ⟨S4x4096x2x16, X2⟩, ⟨S4x4096x2x16, X3⟩]
      concatenates_S4x4096x2x16_S4x4096x2x16_S4x4096x2x16_S4x4096x2x16_S4x4096x2x64_d3 (ix4 b R n d) 0 (by simp) S4x4096x2x16 X0 rfl rfl 0 rfl
        (ix4 b R n (⟨d.val - 0, by omega⟩ : Fin 16)) ?_ ?_).trans ((h0 ⟨d.val - 0, by omega⟩).trans (congrArg f (Fin.ext (by show d.val - 0 = d.val; omega))))
    · intro a ha
      match a with
      | ⟨0, _⟩ => rfl
      | ⟨1, _⟩ => rfl
      | ⟨2, _⟩ => rfl
      | ⟨3, _⟩ => exact absurd rfl ha
    · show 0 + (d.val - 0) = d.val
      omega
  · refine (concatenate_apply_piece (t := S4x4096x2x64) 3 [⟨S4x4096x2x16, X0⟩, ⟨S4x4096x2x16, X1⟩, ⟨S4x4096x2x16, X2⟩, ⟨S4x4096x2x16, X3⟩]
      concatenates_S4x4096x2x16_S4x4096x2x16_S4x4096x2x16_S4x4096x2x16_S4x4096x2x64_d3 (ix4 b R n d) 1 (by simp) S4x4096x2x16 X1 rfl rfl 16 rfl
        (ix4 b R n (⟨d.val - 16, by omega⟩ : Fin 16)) ?_ ?_).trans ((h1 ⟨d.val - 16, by omega⟩).trans (congrArg f (Fin.ext (by show 16 + (d.val - 16) = d.val; omega))))
    · intro a ha
      match a with
      | ⟨0, _⟩ => rfl
      | ⟨1, _⟩ => rfl
      | ⟨2, _⟩ => rfl
      | ⟨3, _⟩ => exact absurd rfl ha
    · show 16 + (d.val - 16) = d.val
      omega
  · refine (concatenate_apply_piece (t := S4x4096x2x64) 3 [⟨S4x4096x2x16, X0⟩, ⟨S4x4096x2x16, X1⟩, ⟨S4x4096x2x16, X2⟩, ⟨S4x4096x2x16, X3⟩]
      concatenates_S4x4096x2x16_S4x4096x2x16_S4x4096x2x16_S4x4096x2x16_S4x4096x2x64_d3 (ix4 b R n d) 2 (by simp) S4x4096x2x16 X2 rfl rfl 32 rfl
        (ix4 b R n (⟨d.val - 32, by omega⟩ : Fin 16)) ?_ ?_).trans ((h2 ⟨d.val - 32, by omega⟩).trans (congrArg f (Fin.ext (by show 32 + (d.val - 32) = d.val; omega))))
    · intro a ha
      match a with
      | ⟨0, _⟩ => rfl
      | ⟨1, _⟩ => rfl
      | ⟨2, _⟩ => rfl
      | ⟨3, _⟩ => exact absurd rfl ha
    · show 32 + (d.val - 32) = d.val
      omega
  · refine (concatenate_apply_piece (t := S4x4096x2x64) 3 [⟨S4x4096x2x16, X0⟩, ⟨S4x4096x2x16, X1⟩, ⟨S4x4096x2x16, X2⟩, ⟨S4x4096x2x16, X3⟩]
      concatenates_S4x4096x2x16_S4x4096x2x16_S4x4096x2x16_S4x4096x2x16_S4x4096x2x64_d3 (ix4 b R n d) 3 (by simp) S4x4096x2x16 X3 rfl rfl 48 rfl
        (ix4 b R n (⟨d.val - 48, by omega⟩ : Fin 16)) ?_ ?_).trans ((h3 ⟨d.val - 48, by omega⟩).trans (congrArg f (Fin.ext (by show 48 + (d.val - 48) = d.val; omega))))
    · intro a ha
      match a with
      | ⟨0, _⟩ => rfl
      | ⟨1, _⟩ => rfl
      | ⟨2, _⟩ => rfl
      | ⟨3, _⟩ => exact absurd rfl ha
    · show 48 + (d.val - 48) = d.val
      omega

section Rows
variable (b : Fin 4) (R : Fin 4096)

theorem norm_at (e : Fin 1024) : val_main_v12 (F := Ideal) x0 x1 (ix3 b R e) = MSpec.norm (inp x0 x1 x2 x3 x4 x5 x6 x7 x8 b) R e := by
  rw [val_main_v12_apply, val_main_v11_apply, val_main_v10_apply, val_main_v9_apply, val_main_v8_apply, val_main_v7_apply, val_main_v6_apply, val_main_v5_apply, val_main_cst_1_apply, val_main_v4_apply, val_main_v3_apply, val_main_cst_0_apply, val_main_v2_apply, val_main_v1_apply]
  refine congrArg₂ (· * ·) (congrArg (x0 (ix3 b R e) * ·) (congrArg Ideal.rsqrt ?_)) (congrArg x1 (funext fun a => ?_))
  · refine congrArg (fun z => Ideal.div z (Ideal.ofBits .f32 0x44800000#32) + Ideal.ofBits .f32 0x358637BD#32) ?_
    have hz : val_main_cst (F := Ideal) (Shape.Idx.first h_S_) = 0 := (val_main_cst_apply _).trans Ideal.ofBits_zero_f32
    rw [hz, zero_add]
    refine Finset.sum_congr rfl fun z _ => ?_
    rw [val_main_v0_apply]
    refine (congrArg (fun y => y * y) (congrArg x0 (funext fun a => ?_)))
    match a with
    | ⟨0, _⟩ => rfl
    | ⟨1, _⟩ => rfl
    | ⟨2, _⟩ => rfl
  · match a with
    | ⟨0, _⟩ => rfl

theorem proj_at (j : Fin 2304) : val_main_v13 (F := Ideal) x0 x1 x2 (ix3 b R j) = MSpec.proj (inp x0 x1 x2 x3 x4 x5 x6 x7 x8 b) j R := by
  rw [val_main_v13_apply]
  refine Finset.sum_congr rfl fun k _ => congrArg₂ (· * ·) ?_ (congrArg x2 (funext fun a => ?_))
  · refine (congrArg (val_main_v12 (F := Ideal) x0 x1) (funext fun a => ?_)).trans (norm_at x0 x1 x2 x3 x4 x5 x6 x7 x8 b R k)
    match a with
    | ⟨0, _⟩ => rfl
    | ⟨1, _⟩ => rfl
    | ⟨2, _⟩ => rfl
  · match a with
    | ⟨0, _⟩ => rfl
    | ⟨1, _⟩ => rfl

theorem v14_at (j : Fin 512) : val_main_v14 (F := Ideal) x0 x1 x2 (ix3 b R j) = MSpec.proj (inp x0 x1 x2 x3 x4 x5 x6 x7 x8 b) ⟨j.val, by omega⟩ R := by
  rw [val_main_v14_apply]
  refine (congrArg (val_main_v13 (F := Ideal) x0 x1 x2) (funext fun a => ?_)).trans (proj_at x0 x1 x2 x3 x4 x5 x6 x7 x8 b R ⟨j.val, by omega⟩)
  match a with
  | ⟨0, _⟩ => rfl
  | ⟨1, _⟩ => rfl
  | ⟨2, _⟩ => rfl

theorem v15_at (j : Fin 128) : val_main_v15 (F := Ideal) x0 x1 x2 (ix3 b R j) = MSpec.proj (inp x0 x1 x2 x3 x4 x5 x6 x7 x8 b) ⟨512 + j.val, by omega⟩ R := by
  rw [val_main_v15_apply]
  refine (congrArg (val_main_v13 (F := Ideal) x0 x1 x2) (funext fun a => ?_)).trans (proj_at x0 x1 x2 x3 x4 x5 x6 x7 x8 b R ⟨512 + j.val, by omega⟩)
  match a with
  | ⟨0, _⟩ => rfl
  | ⟨1, _⟩ => rfl
  | ⟨2, _⟩ => rfl

theorem v16_at (j : Fin 128) : val_main_v16 (F := Ideal) x0 x1 x2 (ix3 b R j) = MSpec.proj (inp x0 x1 x2 x3 x4 x5 x6 x7 x8 b) ⟨640 + j.val, by omega⟩ R := by
  rw [val_main_v16_apply]
  refine (congrArg (val_main_v13 (F := Ideal) x0 x1 x2) (funext fun a => ?_)).trans (proj_at x0 x1 x2 x3 x4 x5 x6 x7 x8 b R ⟨640 + j.val, by omega⟩)
  match a with
  | ⟨0, _⟩ => rfl
  | ⟨1, _⟩ => rfl
  | ⟨2, _⟩ => rfl

theorem v17_at (j : Fin 512) : val_main_v17 (F := Ideal) x0 x1 x2 (ix3 b R j) = MSpec.proj (inp x0 x1 x2 x3 x4 x5 x6 x7 x8 b) ⟨768 + j.val, by omega⟩ R := by
  rw [val_main_v17_apply]
  refine (congrArg (val_main_v13 (F := Ideal) x0 x1 x2) (funext fun a => ?_)).trans (proj_at x0 x1 x2 x3 x4 x5 x6 x7 x8 b R ⟨768 + j.val, by omega⟩)
  match a with
  | ⟨0, _⟩ => rfl
  | ⟨1, _⟩ => rfl
  | ⟨2, _⟩ => rfl

theorem v18_at (j : Fin 512) : val_main_v18 (F := Ideal) x0 x1 x2 (ix3 b R j) = MSpec.proj (inp x0 x1 x2 x3 x4 x5 x6 x7 x8 b) ⟨1280 + j.val, by omega⟩ R := by
  rw [val_main_v18_apply]
  refine (congrArg (val_main_v13 (F := Ideal) x0 x1 x2) (funext fun a => ?_)).trans (proj_at x0 x1 x2 x3 x4 x5 x6 x7 x8 b R ⟨1280 + j.val, by omega⟩)
  match a with
  | ⟨0, _⟩ => rfl
  | ⟨1, _⟩ => rfl
  | ⟨2, _⟩ => rfl

theorem v19_at (j : Fin 512) : val_main_v19 (F := Ideal) x0 x1 x2 (ix3 b R j) = MSpec.proj (inp x0 x1 x2 x3 x4 x5 x6 x7 x8 b) ⟨1792 + j.val, by omega⟩ R := by
  rw [val_main_v19_apply]
  refine (congrArg (val_main_v13 (F := Ideal) x0 x1 x2) (funext fun a => ?_)).trans (proj_at x0 x1 x2 x3 x4 x5 x6 x7 x8 b R ⟨1792 + j.val, by omega⟩)
  match a with
  | ⟨0, _⟩ => rfl
  | ⟨1, _⟩ => rfl
  | ⟨2, _⟩ => rfl

theorem zq_at (j : Fin 512) (d : Fin 64) : val_main_v20 (F := Ideal) x0 x1 x2 (ix4 b R (⟨j.val / 64, by omega⟩ : Fin 8) d) = MSpec.proj (inp x0 x1 x2 x3 x4 x5 x6 x7 x8 b) (qcol j d) R := by
  have hj := j.isLt
  have hb := b.isLt
  have hR := R.isLt
  have hd := d.isLt
  rw [val_main_v20_apply]
  refine (congrArg (val_main_v14 (F := Ideal) x0 x1 x2) (funext fun a => ?_)).trans ((v14_at x0 x1 x2 x3 x4 x5 x6 x7 x8 b R (⟨j.val / 64 * 64 + d.val, by omega⟩ : Fin 512)).trans ?_)
  · match a with
    | ⟨0, _⟩ => exact Fin.ext (by show (((b.val * 4096 + R.val) * 8 + j.val / 64) * 64 + d.val) / 2097152 = b.val; omega)
    | ⟨1, _⟩ => exact Fin.ext (by show (((b.val * 4096 + R.val) * 8 + j.val / 64) * 64 + d.val) / 512 % 4096 = R.val; omega)
    | ⟨2, _⟩ => exact Fin.ext (by show (((b.val * 4096 + R.val) * 8 + j.val / 64) * 64 + d.val) % 512 = j.val / 64 * 64 + d.val; omega)
  · rfl

theorem hq_at (j : Fin 512) (d : Fin 64) : val_main_v34 (F := Ideal) x0 x1 x2 x3 (ix4 b R (⟨j.val / 64, by omega⟩ : Fin 8) d) = MSpec.head (inp x0 x1 x2 x3 x4 x5 x6 x7 x8 b) (qcol j) (inp x0 x1 x2 x3 x4 x5 x6 x7 x8 b).GQ R d := by
  have ez := zq_at x0 x1 x2 x3 x4 x5 x6 x7 x8 b R j
  rw [val_main_v34_apply, val_main_v33_apply, val_main_v32_apply, val_main_v31_apply, val_main_v30_apply, val_main_v29_apply, val_main_v28_apply, val_main_v27_apply, val_main_cst_4_apply, val_main_v26_apply, val_main_v25_apply, val_main_cst_3_apply, val_main_v24_apply, val_main_v23_apply, ez]
  refine congrArg₂ (· * ·) (congrArg (MSpec.proj (inp x0 x1 x2 x3 x4 x5 x6 x7 x8 b) (qcol j d) R * ·) (congrArg Ideal.rsqrt ?_)) (congrArg x3 (funext fun a => ?_))
  · refine congrArg (fun z => Ideal.div z (Ideal.ofBits .f32 0x42800000#32) + Ideal.ofBits .f32 0x358637BD#32) ?_
    have hz : val_main_cst_2 (F := Ideal) (Shape.Idx.first h_S_) = 0 := (val_main_cst_2_apply _).trans Ideal.ofBits_zero_f32
    rw [hz, zero_add]
    refine Finset.sum_congr rfl fun z _ => ?_
    rw [val_main_v22_apply]
    refine (congrArg (fun y => y * y) ((congrArg (val_main_v20 (F := Ideal) x0 x1 x2) (funext fun a => ?_)).trans (ez z)))
    match a with
    | ⟨0, _⟩ => rfl
    | ⟨1, _⟩ => rfl
    | ⟨2, _⟩ => rfl
    | ⟨3, _⟩ => rfl
  · match a with
    | ⟨0, _⟩ => rfl

theorem rq_at (j : Fin 512) (d : Fin 64) : val_main_v41 (F := Ideal) x0 x1 x2 x3 (ix4 b R (⟨j.val / 64, by omega⟩ : Fin 8) d) = MSpec.rot (MSpec.head (inp x0 x1 x2 x3 x4 x5 x6 x7 x8 b) (qcol j) (inp x0 x1 x2 x3 x4 x5 x6 x7 x8 b).GQ R) d := by
  have eh := hq_at x0 x1 x2 x3 x4 x5 x6 x7 x8 b R j
  have hp : ∀ (i : S4x4096x8x64.Idx) (d : Fin 64), i = ix4 b R (⟨j.val / 64, by omega⟩ : Fin 8) d → val_main_v34 (F := Ideal) x0 x1 x2 x3 i = MSpec.head (inp x0 x1 x2 x3 x4 x5 x6 x7 x8 b) (qcol j) (inp x0 x1 x2 x3 x4 x5 x6 x7 x8 b).GQ R d := fun i d h => by rw [h]; exact eh d
  refine cat8_at _ _ _ _ b R (⟨j.val / 64, by omega⟩ : Fin 8) (MSpec.rot (MSpec.head (inp x0 x1 x2 x3 x4 x5 x6 x7 x8 b) (qcol j) (inp x0 x1 x2 x3 x4 x5 x6 x7 x8 b).GQ R)) ?_ ?_ ?_ ?_ d
  · intro e
    have he := e.isLt
    rw [val_main_v39_apply, val_main_v36_apply]
    refine (congrArg (fun y : EReal => -y) (hp _ (⟨16 + e.val, by omega⟩ : Fin 64) (funext fun a => ?_))).trans ?_
    · match a with
      | ⟨0, _⟩ => rfl
      | ⟨1, _⟩ => rfl
      | ⟨2, _⟩ => rfl
      | ⟨3, _⟩ => rfl
    · unfold MSpec.rot
      rw [dif_pos (by show (e.val) % 32 < 16; omega)]
      exact congrArg (fun d => -MSpec.head (inp x0 x1 x2 x3 x4 x5 x6 x7 x8 b) (qcol j) (inp x0 x1 x2 x3 x4 x5 x6 x7 x8 b).GQ R d) (Fin.ext (by show 16 + e.val = e.val + 16; omega))
  · intro e
    have he := e.isLt
    rw [val_main_v35_apply]
    refine ((hp _ (⟨e.val, by omega⟩ : Fin 64) (funext fun a => ?_))).trans ?_
    · match a with
      | ⟨0, _⟩ => rfl
      | ⟨1, _⟩ => rfl
      | ⟨2, _⟩ => rfl
      | ⟨3, _⟩ => rfl
    · unfold MSpec.rot
      rw [dif_neg (by show ¬ (16 + e.val) % 32 < 16; omega)]
      exact congrArg (fun d => MSpec.head (inp x0 x1 x2 x3 x4 x5 x6 x7 x8 b) (qcol j) (inp x0 x1 x2 x3 x4 x5 x6 x7 x8 b).GQ R d) (Fin.ext (by show e.val = 16 + e.val - 16; omega))
  · intro e
    have he := e.isLt
    rw [val_main_v40_apply, val_main_v38_apply]
    refine (congrArg (fun y : EReal => -y) (hp _ (⟨48 + e.val, by omega⟩ : Fin 64) (funext fun a => ?_))).trans ?_
    · match a with
      | ⟨0, _⟩ => rfl
      | ⟨1, _⟩ => rfl
      | ⟨2, _⟩ => rfl
      | ⟨3, _⟩ => rfl
    · unfold MSpec.rot
      rw [dif_pos (by show (32 + e.val) % 32 < 16; omega)]
      exact congrArg (fun d => -MSpec.head (inp x0 x1 x2 x3 x4 x5 x6 x7 x8 b) (qcol j) (inp x0 x1 x2 x3 x4 x5 x6 x7 x8 b).GQ R d) (Fin.ext (by show 48 + e.val = 32 + e.val + 16; omega))
  · intro e
    have he := e.isLt
    rw [val_main_v37_apply]
    refine ((hp _ (⟨32 + e.val, by omega⟩ : Fin 64) (funext fun a => ?_))).trans ?_
    · match a with
      | ⟨0, _⟩ => rfl
      | ⟨1, _⟩ => rfl
      | ⟨2, _⟩ => rfl
      | ⟨3, _⟩ => rfl
    · unfold MSpec.rot
      rw [dif_neg (by show ¬ (48 + e.val) % 32 < 16; omega)]
      exact congrArg (fun d => MSpec.head (inp x0 x1 x2 x3 x4 x5 x6 x7 x8 b) (qcol j) (inp x0 x1 x2 x3 x4 x5 x6 x7 x8 b).GQ R d) (Fin.ext (by show 32 + e.val = 48 + e.val - 16; omega))

theorem pq_at (j : Fin 512) (d : Fin 64) : val_main_v48 (F := Ideal) x0 x1 x2 x3 x7 x8 (ix4 b R (⟨j.val / 64, by omega⟩ : Fin 8) d) = MSpec.rope (inp x0 x1 x2 x3 x4 x5 x6 x7 x8 b) R (MSpec.head (inp x0 x1 x2 x3 x4 x5 x6 x7 x8 b) (qcol j) (inp x0 x1 x2 x3 x4 x5 x6 x7 x8 b).GQ R) d := by
  rw [val_main_v48_apply, val_main_v47_apply, val_main_v46_apply, val_main_v45_apply, val_main_v44_apply, val_main_v43_apply, val_main_v42_apply, hq_at x0 x1 x2 x3 x4 x5 x6 x7 x8 b R j, rq_at x0 x1 x2 x3 x4 x5 x6 x7 x8 b R j]
  refine congrArg₂ (· + ·) (congrArg (MSpec.head (inp x0 x1 x2 x3 x4 x5 x6 x7 x8 b) (qcol j) (inp x0 x1 x2 x3 x4 x5 x6 x7 x8 b).GQ R d * ·) (congrArg x7 (funext fun a => ?_))) (congrArg (MSpec.rot (MSpec.head (inp x0 x1 x2 x3 x4 x5 x6 x7 x8 b) (qcol j) (inp x0 x1 x2 x3 x4 x5 x6 x7 x8 b).GQ R) d * ·) (congrArg x8 (funext fun a => ?_)))
  · match a with
    | ⟨0, _⟩ => rfl
    | ⟨1, _⟩ => rfl
  · match a with
    | ⟨0, _⟩ => rfl
    | ⟨1, _⟩ => rfl

theorem zk_at (j : Fin 128) (d : Fin 64) : val_main_v21 (F := Ideal) x0 x1 x2 (ix4 b R (⟨j.val / 64, by omega⟩ : Fin 2) d) = MSpec.proj (inp x0 x1 x2 x3 x4 x5 x6 x7 x8 b) (kcol j d) R := by
  have hj := j.isLt
  have hb := b.isLt
  have hR := R.isLt
  have hd := d.isLt
  rw [val_main_v21_apply]
  refine (congrArg (val_main_v15 (F := Ideal) x0 x1 x2) (funext fun a => ?_)).trans ((v15_at x0 x1 x2 x3 x4 x5 x6 x7 x8 b R (⟨j.val / 64 * 64 + d.val, by omega⟩ : Fin 128)).trans ?_)
  · match a with
    | ⟨0, _⟩ => exact Fin.ext (by show (((b.val * 4096 + R.val) * 2 + j.val / 64) * 64 + d.val) / 524288 = b.val; omega)
    | ⟨1, _⟩ => exact Fin.ext (by show (((b.val * 4096 + R.val) * 2 + j.val / 64) * 64 + d.val) / 128 % 4096 = R.val; omega)
    | ⟨2, _⟩ => exact Fin.ext (by show (((b.val * 4096 + R.val) * 2 + j.val / 64) * 64 + d.val) % 128 = j.val / 64 * 64 + d.val; omega)
  · rfl

theorem hk_at (j : Fin 128) (d : Fin 64) : val_main_v63 (F := Ideal) x0 x1 x2 x4 (ix4 b R (⟨j.val / 64, by omega⟩ : Fin 2) d) = MSpec.head (inp x0 x1 x2 x3 x4 x5 x6 x7 x8 b) (kcol j) (inp x0 x1 x2 x3 x4 x5 x6 x7 x8 b).GK R d := by
  have ez := zk_at x0 x1 x2 x3 x4 x5 x6 x7 x8 b R j
  rw [val_main_v63_apply, val_main_v62_apply, val_main_v61_apply, val_main_v60_apply, val_main_v59_apply, val_main_v58_apply, val_main_v57_apply, val_main_v56_apply, val_main_cst_8_apply, val_main_v55_apply, val_main_v54_apply, val_main_cst_7_apply, val_main_v53_apply, val_main_v52_apply, ez]
  refine congrArg₂ (· * ·) (congrArg (MSpec.proj (inp x0 x1 x2 x3 x4 x5 x6 x7 x8 b) (kcol j d) R * ·) (congrArg Ideal.rsqrt ?_)) (congrArg x4 (funext fun a => ?_))
  · refine congrArg (fun z => Ideal.div z (Ideal.ofBits .f32 0x42800000#32) + Ideal.ofBits .f32 0x358637BD#32) ?_
    have hz : val_main_cst_6 (F := Ideal) (Shape.Idx.first h_S_) = 0 := (val_main_cst_6_apply _).trans Ideal.ofBits_zero_f32
    rw [hz, zero_add]
    refine Finset.sum_congr rfl fun z _ => ?_
    rw [val_main_v51_apply]
    refine (congrArg (fun y => y * y) ((congrArg (val_main_v21 (F := Ideal) x0 x1 x2) (funext fun a => ?_)).trans (ez z)))
    match a with
    | ⟨0, _⟩ => rfl
    | ⟨1, _⟩ => rfl
    | ⟨2, _⟩ => rfl
    | ⟨3, _⟩ => rfl
  · match a with
    | ⟨0, _⟩ => rfl

theorem rk_at (j : Fin 128) (d : Fin 64) : val_main_v70 (F := Ideal) x0 x1 x2 x4 (ix4 b R (⟨j.val / 64, by omega⟩ : Fin 2) d) = MSpec.rot (MSpec.head (inp x0 x1 x2 x3 x4 x5 x6 x7 x8 b) (kcol j) (inp x0 x1 x2 x3 x4 x5 x6 x7 x8 b).GK R) d := by
  have eh := hk_at x0 x1 x2 x3 x4 x5 x6 x7 x8 b R j
  have hp : ∀ (i : S4x4096x2x64.Idx) (d : Fin 64), i = ix4 b R (⟨j.val / 64, by omega⟩ : Fin 2) d → val_main_v63 (F := Ideal) x0 x1 x2 x4 i = MSpec.head (inp x0 x1 x2 x3 x4 x5 x6 x7 x8 b) (kcol j) (inp x0 x1 x2 x3 x4 x5 x6 x7 x8 b).GK R d := fun i d h => by rw [h]; exact eh d
  refine cat2_at _ _ _ _ b R (⟨j.val / 64, by omega⟩ : Fin 2) (MSpec.rot (MSpec.head (inp x0 x1 x2 x3 x4 x5 x6 x7 x8 b) (kcol j) (inp x0 x1 x2 x3 x4 x5 x6 x7 x8 b).GK R)) ?_ ?_ ?_ ?_ d
  · intro e
    have he := e.isLt
    rw [val_main_v68_apply, val_main_v65_apply]
    refine (congrArg (fun y : EReal => -y) (hp _ (⟨16 + e.val, by omega⟩ : Fin 64) (funext fun a => ?_))).trans ?_
    · match a with
      | ⟨0, _⟩ => rfl
      | ⟨1, _⟩ => rfl
      | ⟨2, _⟩ => rfl
      | ⟨3, _⟩ => rfl
    · unfold MSpec.rot
      rw [dif_pos (by show (e.val) % 32 < 16; omega)]
      exact congrArg (fun d => -MSpec.head (inp x0 x1 x2 x3 x4 x5 x6 x7 x8 b) (kcol j) (inp x0 x1 x2 x3 x4 x5 x6 x7 x8 b).GK R d) (Fin.ext (by show 16 + e.val = e.val + 16; omega))
  · intro e
    have he := e.isLt
    rw [val_main_v64_apply]
    refine ((hp _ (⟨e.val, by omega⟩ : Fin 64) (funext fun a => ?_))).trans ?_
    · match a with
      | ⟨0, _⟩ => rfl
      | ⟨1, _⟩ => rfl
      | ⟨2, _⟩ => rfl
      | ⟨3, _⟩ => rfl
    · unfold MSpec.rot
      rw [dif_neg (by show ¬ (16 + e.val) % 32 < 16; omega)]
      exact congrArg (fun d => MSpec.head (inp x0 x1 x2 x3 x4 x5 x6 x7 x8 b) (kcol j) (inp x0 x1 x2 x3 x4 x5 x6 x7 x8 b).GK R d) (Fin.ext (by show e.val = 16 + e.val - 16; omega))
  · intro e
    have he := e.isLt
    rw [val_main_v69_apply, val_main_v67_apply]
    refine (congrArg (fun y : EReal => -y) (hp _ (⟨48 + e.val, by omega⟩ : Fin 64) (funext fun a => ?_))).trans ?_
    · match a with
      | ⟨0, _⟩ => rfl
      | ⟨1, _⟩ => rfl
      | ⟨2, _⟩ => rfl
      | ⟨3, _⟩ => rfl
    · unfold MSpec.rot
      rw [dif_pos (by show (32 + e.val) % 32 < 16; omega)]
      exact congrArg (fun d => -MSpec.head (inp x0 x1 x2 x3 x4 x5 x6 x7 x8 b) (kcol j) (inp x0 x1 x2 x3 x4 x5 x6 x7 x8 b).GK R d) (Fin.ext (by show 48 + e.val = 32 + e.val + 16; omega))
  · intro e
    have he := e.isLt
    rw [val_main_v66_apply]
    refine ((hp _ (⟨32 + e.val, by omega⟩ : Fin 64) (funext fun a => ?_))).trans ?_
    · match a with
      | ⟨0, _⟩ => rfl
      | ⟨1, _⟩ => rfl
      | ⟨2, _⟩ => rfl
      | ⟨3, _⟩ => rfl
    · unfold MSpec.rot
      rw [dif_neg (by show ¬ (48 + e.val) % 32 < 16; omega)]
      exact congrArg (fun d => MSpec.head (inp x0 x1 x2 x3 x4 x5 x6 x7 x8 b) (kcol j) (inp x0 x1 x2 x3 x4 x5 x6 x7 x8 b).GK R d) (Fin.ext (by show 32 + e.val = 48 + e.val - 16; omega))

theorem pk_at (j : Fin 128) (d : Fin 64) : val_main_v77 (F := Ideal) x0 x1 x2 x4 x7 x8 (ix4 b R (⟨j.val / 64, by omega⟩ : Fin 2) d) = MSpec.rope (inp x0 x1 x2 x3 x4 x5 x6 x7 x8 b) R (MSpec.head (inp x0 x1 x2 x3 x4 x5 x6 x7 x8 b) (kcol j) (inp x0 x1 x2 x3 x4 x5 x6 x7 x8 b).GK R) d := by
  rw [val_main_v77_apply, val_main_v76_apply, val_main_v75_apply, val_main_v74_apply, val_main_v73_apply, val_main_v72_apply, val_main_v71_apply, hk_at x0 x1 x2 x3 x4 x5 x6 x7 x8 b R j, rk_at x0 x1 x2 x3 x4 x5 x6 x7 x8 b R j]
  refine congrArg₂ (· + ·) (congrArg (MSpec.head (inp x0 x1 x2 x3 x4 x5 x6 x7 x8 b) (kcol j) (inp x0 x1 x2 x3 x4 x5 x6 x7 x8 b).GK R d * ·) (congrArg x7 (funext fun a => ?_))) (congrArg (MSpec.rot (MSpec.head (inp x0 x1 x2 x3 x4 x5 x6 x7 x8 b) (kcol j) (inp x0 x1 x2 x3 x4 x5 x6 x7 x8 b).GK R) d * ·) (congrArg x8 (funext fun a => ?_)))
  · match a with
    | ⟨0, _⟩ => rfl
    | ⟨1, _⟩ => rfl
  · match a with
    | ⟨0, _⟩ => rfl
    | ⟨1, _⟩ => rfl

/-- THE REFERENCE'S QUERIES at an entry. -/
theorem q_at (j : Fin 512) : val_main_v115 (F := Ideal) x0 x1 x2 x3 x7 x8 (ix3 b R j) = MSpec.q (inp x0 x1 x2 x3 x4 x5 x6 x7 x8 b) R j := by
  have hj := j.isLt
  have hb := b.isLt
  have hR := R.isLt
  have hi : idx_main_v114 (ix3 b R j) = ix4 b R (⟨j.val / 64, by omega⟩ : Fin 8) (md j) := funext fun a => by
    match a with
    | ⟨0, _⟩ => exact Fin.ext (by show ((b.val * 4096 + R.val) * 512 + j.val) / 2097152 = b.val; omega)
    | ⟨1, _⟩ => exact Fin.ext (by show ((b.val * 4096 + R.val) * 512 + j.val) / 512 % 4096 = R.val; omega)
    | ⟨2, _⟩ => exact Fin.ext (by show ((b.val * 4096 + R.val) * 512 + j.val) / 64 % 8 = j.val / 64; omega)
    | ⟨3, _⟩ => exact Fin.ext (by show ((b.val * 4096 + R.val) * 512 + j.val) % 64 = j.val % 64; omega)
  refine (val_main_v115_apply x0 x1 x2 x3 x7 x8 _).trans ?_
  refine (val_main_v114_apply x0 x1 x2 x3 x7 x8 _).trans ?_
  rw [hi, val_main_v50_apply, pq_at x0 x1 x2 x3 x4 x5 x6 x7 x8 b R j, val_main_v49_apply, val_main_cst_5_apply]
  rfl

/-- THE REFERENCE'S KEYS at an entry. -/
theorem k_at (j : Fin 128) : val_main_v118 (F := Ideal) x0 x1 x2 x4 x7 x8 (ix3 b j R) = MSpec.k (inp x0 x1 x2 x3 x4 x5 x6 x7 x8 b) R j := by
  have hj := j.isLt
  have hb := b.isLt
  have hR := R.isLt
  have ht : idx_main_v117 (ix3 b j R) = ix3 b R j := funext fun a => by
    match a with
    | ⟨0, _⟩ => rfl
    | ⟨1, _⟩ => rfl
    | ⟨2, _⟩ => rfl
  have hi : idx_main_v116 (ix3 b R j) = ix4 b R (⟨j.val / 64, by omega⟩ : Fin 2) (md j) := funext fun a => by
    match a with
    | ⟨0, _⟩ => exact Fin.ext (by show ((b.val * 4096 + R.val) * 128 + j.val) / 524288 = b.val; omega)
    | ⟨1, _⟩ => exact Fin.ext (by show ((b.val * 4096 + R.val) * 128 + j.val) / 128 % 4096 = R.val; omega)
    | ⟨2, _⟩ => exact Fin.ext (by show ((b.val * 4096 + R.val) * 128 + j.val) / 64 % 2 = j.val / 64; omega)
    | ⟨3, _⟩ => exact Fin.ext (by show ((b.val * 4096 + R.val) * 128 + j.val) % 64 = j.val % 64; omega)
  refine (val_main_v118_apply x0 x1 x2 x4 x7 x8 _).trans ?_
  refine (val_main_v117_apply x0 x1 x2 x4 x7 x8 _).trans ?_
  rw [ht, val_main_v116_apply, hi]
  exact pk_at x0 x1 x2 x3 x4 x5 x6 x7 x8 b R j (md j)

/-- THE REFERENCE'S VALUES at an entry. -/
theorem v_at (j : Fin 128) : val_main_v119 (F := Ideal) x0 x1 x2 (ix3 b R j) = MSpec.v (inp x0 x1 x2 x3 x4 x5 x6 x7 x8 b) R j :=
  (val_main_v119_apply x0 x1 x2 _).trans (v16_at x0 x1 x2 x3 x4 x5 x6 x7 x8 b R j)

theorem cu_at (j : Fin 512) : val_main_v78 (F := Ideal) x0 x1 x2 (ix3 b R j) = MSpec.cu (inp x0 x1 x2 x3 x4 x5 x6 x7 x8 b) j R := by
  rw [val_main_v78_apply, v18_at x0 x1 x2 x3 x4 x5 x6 x7 x8 b R j, v19_at x0 x1 x2 x3 x4 x5 x6 x7 x8 b R j]
  rfl

omit R in
/-- The padded rows: numbered from one, a zero row at each end. -/
theorem pad_at (n : Fin 4098) (j : Fin 512) : val_main_v79 (F := Ideal) x0 x1 x2 (ix3 b n j) = PSpec.row (MSpec.cu (inp x0 x1 x2 x3 x4 x5 x6 x7 x8 b) j) n.val := by
  have hn := n.isLt
  unfold val_main_v79
  by_cases h : 1 ≤ n.val ∧ n.val ≤ 4096
  · refine (pad_apply_of_inside _ _ _ _ _ pads_S4x4096x512_S4x4098x512_000_110_000 h_S_ (ix3 b n j) (ix3 b (⟨n.val - 1, by omega⟩ : Fin 4096) j) ?_).trans ?_
    · intro a
      match a with
      | ⟨0, _⟩ => show b.val = 0 + b.val * (0 + 1); omega
      | ⟨1, _⟩ => show n.val = 1 + (n.val - 1) * (0 + 1); omega
      | ⟨2, _⟩ => show j.val = 0 + j.val * (0 + 1); omega
    · refine (cu_at x0 x1 x2 x3 x4 x5 x6 x7 x8 b _ j).trans ?_
      exact (PSpec.row_pos _ _ ⟨n.val - 1, by omega⟩ (by show n.val = n.val - 1 + 1; omega)).symm
  · refine (pad_apply_of_not_inside _ _ _ _ _ pads_S4x4096x512_S4x4098x512_000_110_000 h_S_ (ix3 b n j) (1 : Fin 3) ?_).trans ?_
    · show ¬(1 ≤ n.val ∧ (n.val - 1) % (0 + 1) = 0 ∧ (n.val - 1) / (0 + 1) < 4096)
      intro hh
      have := hh.2.2
      rw [Nat.zero_add, Nat.div_one] at this
      omega
    · rw [PSpec.row_neg _ _ h]
      exact pad_zero

theorem conv_at (j : Fin 512) : val_main_v99 (F := Ideal) x0 x1 x2 x5 (ix3 b R j) = MSpec.conv (inp x0 x1 x2 x3 x4 x5 x6 x7 x8 b) R j := by
  have hR := R.isLt
  have hp := pad_at x0 x1 x2 x3 x4 x5 x6 x7 x8 b
  have h0 : ∀ i, i = ix3 b (⟨R.val, by omega⟩ : Fin 4098) j → val_main_v79 (F := Ideal) x0 x1 x2 i = PSpec.row (MSpec.cu (inp x0 x1 x2 x3 x4 x5 x6 x7 x8 b) j) (R.val) := fun i h => by rw [h]; exact hp _ j
  have h1 : ∀ i, i = ix3 b (⟨R.val + 1, by omega⟩ : Fin 4098) j → val_main_v79 (F := Ideal) x0 x1 x2 i = PSpec.row (MSpec.cu (inp x0 x1 x2 x3 x4 x5 x6 x7 x8 b) j) (R.val + 1) := fun i h => by rw [h]; exact hp _ j
  have h2 : ∀ i, i = ix3 b (⟨R.val + 2, by omega⟩ : Fin 4098) j → val_main_v79 (F := Ideal) x0 x1 x2 i = PSpec.row (MSpec.cu (inp x0 x1 x2 x3 x4 x5 x6 x7 x8 b) j) (R.val + 2) := fun i h => by rw [h]; exact hp _ j
  rw [val_main_v99_apply, val_main_v98_apply, val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply]
  refine congrArg₂ (· + ·) (congrArg₂ (· + ·) (congrArg₂ (· * ·) (h0 _ (funext fun a => Fin.ext ?_)) (congrArg x5 (funext fun a => Fin.ext ?_)))
    (congrArg₂ (· * ·) (h1 _ (funext fun a => Fin.ext ?_)) (congrArg x5 (funext fun a => Fin.ext ?_)))) (congrArg₂ (· * ·) (h2 _ (funext fun a => Fin.ext ?_)) (congrArg x5 (funext fun a => Fin.ext ?_)))
  all_goals
    first
      | (match a with
          | ⟨0, _⟩ => rfl
          | ⟨1, _⟩ => rfl
          | ⟨2, _⟩ => rfl)
      | (match a with
          | ⟨0, _⟩ => rfl
          | ⟨1, _⟩ => exact Nat.add_comm _ _
          | ⟨2, _⟩ => rfl)
      | (match a with
          | ⟨0, _⟩ => rfl
          | ⟨1, _⟩ => rfl)
      | (match a with
          | ⟨0, _⟩ => rfl
          | ⟨1, _⟩ => exact Nat.mod_eq_of_lt j.isLt)

theorem mid_at (j : Fin 512) : val_main_v100 (F := Ideal) x0 x1 x2 x5 (ix3 b R j) = MSpec.mid (inp x0 x1 x2 x3 x4 x5 x6 x7 x8 b) R j := by
  rw [val_main_v100_apply, v17_at x0 x1 x2 x3 x4 x5 x6 x7 x8 b R j, conv_at x0 x1 x2 x3 x4 x5 x6 x7 x8 b R j]
  rfl

/-- THE REFERENCE'S NORMED CONVOLUTION at an entry. -/
theorem oc_at (j : Fin 512) : val_main_v120 (F := Ideal) x0 x1 x2 x5 x6 (ix3 b R j) = MSpec.oc (inp x0 x1 x2 x3 x4 x5 x6 x7 x8 b) R j := by
  have em := mid_at x0 x1 x2 x3 x4 x5 x6 x7 x8 b R
  refine (val_main_v120_apply x0 x1 x2 x5 x6 _).trans ?_
  show val_main_v113 (F := Ideal) x0 x1 x2 x5 x6 (ix3 b R j) = _
  rw [val_main_v113_apply, val_main_v112_apply, val_main_v111_apply, val_main_v110_apply, val_main_v109_apply, val_main_v108_apply, val_main_v107_apply, val_main_v106_apply, val_main_cst_11_apply, val_main_v105_apply, val_main_v104_apply, val_main_cst_10_apply, val_main_v103_apply, val_main_v102_apply, em]
  refine congrArg₂ (· * ·) (congrArg (MSpec.mid (inp x0 x1 x2 x3 x4 x5 x6 x7 x8 b) R j * ·) (congrArg Ideal.rsqrt ?_)) (congrArg x6 (funext fun a => ?_))
  · refine congrArg (fun z => Ideal.div z (Ideal.ofBits .f32 0x44000000#32) + Ideal.ofBits .f32 0x358637BD#32) ?_
    have hz : val_main_cst_9 (F := Ideal) (Shape.Idx.first h_S_) = 0 := (val_main_cst_9_apply _).trans Ideal.ofBits_zero_f32
    rw [hz, zero_add]
    refine Finset.sum_congr rfl fun z _ => ?_
    rw [val_main_v101_apply]
    refine (congrArg (fun y => y * y) ((congrArg (val_main_v100 (F := Ideal) x0 x1 x2 x5) (funext fun a => ?_)).trans (em z)))
    match a with
    | ⟨0, _⟩ => rfl
    | ⟨1, _⟩ => rfl
    | ⟨2, _⟩ => rfl
  · match a with
    | ⟨0, _⟩ => rfl

end Rows

end Cert.Reference3Ideal.Mix

end
-- ==== Proof.PostRun.lean ====
module

public import proofs.«01_k».proof.Proof.Post

/-! The body of the third call run at a grid point: the seventeen inputs keep their blocks, the output block is written whole, the scratch may
    hold anything before and after. -/

@[expose] public section

set_option maxRecDepth 16384

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The stores into the output block, as the run finds them, with the run's triple. -/
def bodyRun (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x512x512 .bf16) (harg8 : arg8.IsWhole) (arg9 : Memref sig .tc .vmem S1x16x512 .bf16) (harg9 : arg9.IsWhole) (arg10 : Memref sig .tc .vmem S1x16x512 .bf16) (harg10 : arg10.IsWhole) (arg11 : Memref sig .tc .vmem S1x512x256 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S2x11x1024x256 .bf16) (harg14 : arg14.IsWhole) (arg15 : Memref sig .tc .vmem S2x11x3x256 .f32) (harg15 : arg15.IsWhole) (arg16 : Memref sig .tc .vmem S11x256x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S1x512x1024 .f32) (harg19 : arg19.IsWhole) (arg20 : Memref sig .tc .vmem S512x1024 .f32) (harg20 : arg20.IsWhole) (arg21 : Memref sig .tc .vmem S528x1024 .bf16) (harg21 : arg21.IsWhole) (arg22 : Memref sig .tc .vmem S528x256 .f32) (harg22 : arg22.IsWhole) (arg23 : Memref sig .tc .vmem S528x256 .f32) (harg23 : arg23.IsWhole) (arg24 : Memref sig .tc .vmem S512x1024 .f32) (harg24 : arg24.IsWhole)
    (x0 : Vec F S1x512x1024 .f32) (x1 : Vec F S1x8x1024 .f32) (x2 : Vec F S1x8x1024 .f32) (x3 : Vec F S1x512x512 .bf16) (x4 : Vec F S1x16x512 .bf16) (x5 : Vec F S1x16x512 .bf16) (x6 : Vec F S1x512x512 .bf16) (x7 : Vec F S1x16x512 .bf16) (x8 : Vec F S1x16x512 .bf16) (x9 : Vec F S1x512x256 .f32) (x10 : Vec F S1024x1024 .bf16) (x11 : Vec F S1x1024 .f32) (x12 : Vec F S2x11x1024x256 .bf16) (x13 : Vec F S2x11x3x256 .f32) (x14 : Vec F S11x256x1024 .bf16) (x15 : Vec F S1024x1024 .bf16) (x16 : Vec F S256x1024 .bf16) :
    { L : BufTy.Contents (Elt F) arg20.view.ty → BufTy.Contents (Elt F) arg21.view.ty → BufTy.Contents (Elt F) arg22.view.ty → BufTy.Contents (Elt F) arg23.view.ty → BufTy.Contents (Elt F) arg24.view.ty → List (View.Piece (Elt F) S1x512x1024 .f32) //
      ∀ (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f (L f20 f21 f22 f23 f24)) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_post i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun f20 f21 f22 f23 f24 E K => ?run⟩
  case run =>
    simp only [cc0_post_eq_skeleton]; unfold cc0_post_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, HS20, HS21, HS22, HS23, HS24, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [HS20]
    · iexists _; iexists _; isplitr
      swap
      · iexact HS20
      · ipureintro; rfl
    isplitl [HS21]
    · iexists _; iexists _; isplitr
      swap
      · iexact HS21
      · ipureintro; rfl
    isplitl [HS22]
    · iexists _; iexists _; isplitr
      swap
      · iexact HS22
      · ipureintro; rfl
    isplitl [HS23]
    · iexists _; iexists _; isplitr
      swap
      · iexact HS23
      · ipureintro; rfl
    iexists _; iexists _; isplitr
    swap
    · iexact HS24
    · ipureintro; rfl

end Cert.Kernel2Ideal.Post

end
-- ==== Proof.PostOut.lean ====
module

public import proofs.«01_k».proof.Proof.PostRun

/-! What the run leaves in the output block. -/

@[expose] public section

set_option maxRecDepth 16384

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The run leaves `outv` of the point and the blocks in the output block, whatever the scratch held. -/
theorem bodyRun_read (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x512x512 .bf16) (harg8 : arg8.IsWhole) (arg9 : Memref sig .tc .vmem S1x16x512 .bf16) (harg9 : arg9.IsWhole) (arg10 : Memref sig .tc .vmem S1x16x512 .bf16) (harg10 : arg10.IsWhole) (arg11 : Memref sig .tc .vmem S1x512x256 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S2x11x1024x256 .bf16) (harg14 : arg14.IsWhole) (arg15 : Memref sig .tc .vmem S2x11x3x256 .f32) (harg15 : arg15.IsWhole) (arg16 : Memref sig .tc .vmem S11x256x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S1x512x1024 .f32) (harg19 : arg19.IsWhole) (arg20 : Memref sig .tc .vmem S512x1024 .f32) (harg20 : arg20.IsWhole) (arg21 : Memref sig .tc .vmem S528x1024 .bf16) (harg21 : arg21.IsWhole) (arg22 : Memref sig .tc .vmem S528x256 .f32) (harg22 : arg22.IsWhole) (arg23 : Memref sig .tc .vmem S528x256 .f32) (harg23 : arg23.IsWhole) (arg24 : Memref sig .tc .vmem S512x1024 .f32) (harg24 : arg24.IsWhole)
    (x0 : Vec F S1x512x1024 .f32) (x1 : Vec F S1x8x1024 .f32) (x2 : Vec F S1x8x1024 .f32) (x3 : Vec F S1x512x512 .bf16) (x4 : Vec F S1x16x512 .bf16) (x5 : Vec F S1x16x512 .bf16) (x6 : Vec F S1x512x512 .bf16) (x7 : Vec F S1x16x512 .bf16) (x8 : Vec F S1x16x512 .bf16) (x9 : Vec F S1x512x256 .f32) (x10 : Vec F S1024x1024 .bf16) (x11 : Vec F S1x1024 .f32) (x12 : Vec F S2x11x1024x256 .bf16) (x13 : Vec F S2x11x3x256 .f32) (x14 : Vec F S11x256x1024 .bf16) (x15 : Vec F S1024x1024 .bf16) (x16 : Vec F S256x1024 .bf16) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (g : BufTy.Contents (Elt F) arg19.view.ty) :
    arg19.view.read (Elt F) (arg19.view.writes (Elt F) g ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).1 f20 f21 f22 f23 f24)) = outv i x0 x1 x2 x3 x4 x5 x6 x7 x8 x9 x10 x11 x12 x13 x14 x15 x16 := by
  unfold bodyRun
  refine (View.read_writes_full _ _ _ _ _).trans ?_
  delta bodyRun.sl.r_7
  refine congrArg k0_pay1 ?_
  refine congr (congr (congr (congr (congrArg k0_pay16 ?_) ?_) ?_) ?_) ?_
  · delta bodyRun.sl.v85 bodyRun.sl.HS20_1
    refine (View.readCov_full _ _ _ _ _).trans ?_
    refine congr (congr (congr (congr (congr (congr (congrArg k0_pay10 ?_) ?_) ?_) ?_) ?_) ?_) ?_
    · delta bodyRun.sl.r
      exact congr (congr (congrArg k0_pay5 ((View.readAt_full _ _ _).trans (harg6.read_unread _))) ((View.readAt_full _ _ _).trans (harg7.read_unread _))) ((View.readAt_full _ _ _).trans (harg5.read_unread _))
    · delta bodyRun.sl.r_1
      exact congr (congr (congrArg k0_pay6 ((View.readAt_full _ _ _).trans (harg9.read_unread _))) ((View.readAt_full _ _ _).trans (harg10.read_unread _))) ((View.readAt_full _ _ _).trans (harg8.read_unread _))
    · delta bodyRun.sl.r_2
      exact congrArg k0_pay7 ((View.readAt_full _ _ _).trans (harg3.read_unread _))
    · delta bodyRun.sl.r_3
      exact congrArg k0_pay8 ((View.readAt_full _ _ _).trans (harg2.read_unread _))
    · delta bodyRun.sl.r_4
      exact ((View.readAt_full _ _ _).trans (harg4.read_unread _))
    · rw [View.readAt_eq_ld, Memref.IsWhole.read_unread]
    · rw [View.readAt_eq_ld, Memref.IsWhole.read_unread]
  · delta bodyRun.sl.v86
    refine (View.readAt_full _ _ _).trans ?_
    refine (congrArg (fun z => arg24.view.read (Elt F) z) (View.writes_append _ _ _ _)).trans ?_
    refine (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ _ _ _ _ _ _ _ (le_refl _)).trans ?_
    refine congr (congr (congr (congr (congr (congrArg ffAcc ?_) ?_) ?_) ?_) ?_) rfl
    · delta bodyRun.sl.HS21_1
      refine (View.read_writes_full _ _ _ _ _).trans ?_
      delta bodyRun.sl.r_5 bodyRun.sl.r_6
      refine congrArg (k0_pay13 _) ?_
      refine congr (congr (congr (congr (congr (congr (congr (congrArg k0_pay12 ?_) ?_) ?_) ?_) ?_) ?_) ?_) ?_
      · delta bodyRun.sl.r
        exact congr (congr (congrArg k0_pay5 ((View.readAt_full _ _ _).trans (harg6.read_unread _))) ((View.readAt_full _ _ _).trans (harg7.read_unread _))) ((View.readAt_full _ _ _).trans (harg5.read_unread _))
      · delta bodyRun.sl.r_1
        exact congr (congr (congrArg k0_pay6 ((View.readAt_full _ _ _).trans (harg9.read_unread _))) ((View.readAt_full _ _ _).trans (harg10.read_unread _))) ((View.readAt_full _ _ _).trans (harg8.read_unread _))
      · delta bodyRun.sl.r_2
        exact congrArg k0_pay7 ((View.readAt_full _ _ _).trans (harg3.read_unread _))
      · delta bodyRun.sl.r_3
        exact congrArg k0_pay8 ((View.readAt_full _ _ _).trans (harg2.read_unread _))
      · delta bodyRun.sl.r_4
        exact ((View.readAt_full _ _ _).trans (harg4.read_unread _))
      · rw [View.readAt_eq_ld, Memref.IsWhole.read_unread]
      · rw [View.readAt_eq_ld, Memref.IsWhole.read_unread]
      · exact (View.readAt_full _ _ _).trans (harg13.read_unread _)
    · exact harg14.read_unread _
    · exact harg15.read_unread _
    · exact harg16.read_unread _
    · delta bodyRun.sl.HS24_1
      exact View.read_writes_full _ _ _ _ _
  · exact (View.readAt_full _ _ _).trans (harg17.read_unread _)
  · exact (View.readAt_full _ _ _).trans (harg11.read_unread _)
  · exact (View.readAt_full _ _ _).trans (harg18.read_unread _)

end Cert.Kernel2Ideal.Post

end
-- ==== Proof.PostFrame.lean ====
module

public import proofs.«01_k».proof.Proof.PostOut
public import Idealize.ShloMosaic.Lib.Claim

/-! The third call's frame: from any memory it terminates, its arguments end as launched, and the output array ends at what the points wrote back. -/

@[expose] public section

set_option maxRecDepth 16384

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's triple, with the output block named. -/
theorem bodyTriple (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x512x512 .bf16) (harg8 : arg8.IsWhole) (arg9 : Memref sig .tc .vmem S1x16x512 .bf16) (harg9 : arg9.IsWhole) (arg10 : Memref sig .tc .vmem S1x16x512 .bf16) (harg10 : arg10.IsWhole) (arg11 : Memref sig .tc .vmem S1x512x256 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S2x11x1024x256 .bf16) (harg14 : arg14.IsWhole) (arg15 : Memref sig .tc .vmem S2x11x3x256 .f32) (harg15 : arg15.IsWhole) (arg16 : Memref sig .tc .vmem S11x256x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S1x512x1024 .f32) (harg19 : arg19.IsWhole) (arg20 : Memref sig .tc .vmem S512x1024 .f32) (harg20 : arg20.IsWhole) (arg21 : Memref sig .tc .vmem S528x1024 .bf16) (harg21 : arg21.IsWhole) (arg22 : Memref sig .tc .vmem S528x256 .f32) (harg22 : arg22.IsWhole) (arg23 : Memref sig .tc .vmem S528x256 .f32) (harg23 : arg23.IsWhole) (arg24 : Memref sig .tc .vmem S512x1024 .f32) (harg24 : arg24.IsWhole)
    (x0 : Vec F S1x512x1024 .f32) (x1 : Vec F S1x8x1024 .f32) (x2 : Vec F S1x8x1024 .f32) (x3 : Vec F S1x512x512 .bf16) (x4 : Vec F S1x16x512 .bf16) (x5 : Vec F S1x16x512 .bf16) (x6 : Vec F S1x512x512 .bf16) (x7 : Vec F S1x16x512 .bf16) (x8 : Vec F S1x16x512 .bf16) (x9 : Vec F S1x512x256 .f32) (x10 : Vec F S1024x1024 .bf16) (x11 : Vec F S1x1024 .f32) (x12 : Vec F S2x11x1024x256 .bf16) (x13 : Vec F S2x11x3x256 .f32) (x14 : Vec F S11x256x1024 .bf16) (x15 : Vec F S1024x1024 .bf16) (x16 : Vec F S256x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare (outv i x0 x1 x2 x3 x4 x5 x6 x7 x8 x9 x10 x11 x12 x13 x14 x15 x16) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := F)) Variants.none c none) E (cc0_post i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  unfold owns
  iintro ⟨H0, H1, H2, H3, H4, H5, H6, H7, H8, H9, H10, H11, H12, H13, H14, H15, H16, H17, ⟨%d20, %f20, -, HS20⟩, ⟨%d21, %f21, -, HS21⟩, ⟨%d22, %f22, -, HS22⟩, ⟨%d23, %f23, -, HS23⟩, ⟨%d24, %f24, -, HS24⟩, Hk⟩
  iapply ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2 f20 f21 f22 f23 f24 E K)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS20]; · iexact HS20
  isplitl [HS21]; · iexact HS21
  isplitl [HS22]; · iexact HS22
  isplitl [HS23]; · iexact HS23
  isplitl [HS24]; · iexact HS24
  iintro ⟨H0, H1, H2, H3, H4, H5, H6, H7, H8, H9, H10, H11, H12, H13, H14, H15, H16, ⟨%g, H17⟩, HS20, HS21, HS22, HS23, HS24⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iexists _; isplitr
    swap
    · iexact H17
    · ipureintro; exact bodyRun_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 f20 f21 f22 f23 f24 g
  isplitl [HS20]; · iexact HS20
  isplitl [HS21]; · iexact HS21
  isplitl [HS22]; · iexact HS22
  isplitl [HS23]; · iexact HS23
  iexact HS24

variable (m : (ℓ : Loc nD τ sig) → Buf (Elt F) ℓ) (ρ : Dev nD → PrngReg)

abbrev ms0_0 (t : Fin cfg0.N) : Memref sig .tc .vmem S1x512x1024 .f32 := win0_0.stage (cfg0.slots t 0)
abbrev ms0_1 (t : Fin cfg0.N) : Memref sig .tc .vmem S1x8x1024 .f32 := win0_1.stage (cfg0.slots t 1)
abbrev ms0_2 (t : Fin cfg0.N) : Memref sig .tc .vmem S1x8x1024 .f32 := win0_2.stage (cfg0.slots t 2)
abbrev ms0_3 (t : Fin cfg0.N) : Memref sig .tc .vmem S1x512x512 .bf16 := win0_3.stage (cfg0.slots t 3)
abbrev ms0_4 (t : Fin cfg0.N) : Memref sig .tc .vmem S1x16x512 .bf16 := win0_4.stage (cfg0.slots t 4)
abbrev ms0_5 (t : Fin cfg0.N) : Memref sig .tc .vmem S1x16x512 .bf16 := win0_5.stage (cfg0.slots t 5)
abbrev ms0_6 (t : Fin cfg0.N) : Memref sig .tc .vmem S1x512x512 .bf16 := win0_6.stage (cfg0.slots t 6)
abbrev ms0_7 (t : Fin cfg0.N) : Memref sig .tc .vmem S1x16x512 .bf16 := win0_7.stage (cfg0.slots t 7)
abbrev ms0_8 (t : Fin cfg0.N) : Memref sig .tc .vmem S1x16x512 .bf16 := win0_8.stage (cfg0.slots t 8)
abbrev ms0_9 (t : Fin cfg0.N) : Memref sig .tc .vmem S1x512x256 .f32 := win0_9.stage (cfg0.slots t 9)
abbrev ms0_10 (t : Fin cfg0.N) : Memref sig .tc .vmem S1024x1024 .bf16 := win0_10.stage (cfg0.slots t 10)
abbrev ms0_11 (t : Fin cfg0.N) : Memref sig .tc .vmem S1x1024 .f32 := win0_11.stage (cfg0.slots t 11)
abbrev ms0_12 (t : Fin cfg0.N) : Memref sig .tc .vmem S2x11x1024x256 .bf16 := win0_12.stage (cfg0.slots t 12)
abbrev ms0_13 (t : Fin cfg0.N) : Memref sig .tc .vmem S2x11x3x256 .f32 := win0_13.stage (cfg0.slots t 13)
abbrev ms0_14 (t : Fin cfg0.N) : Memref sig .tc .vmem S11x256x1024 .bf16 := win0_14.stage (cfg0.slots t 14)
abbrev ms0_15 (t : Fin cfg0.N) : Memref sig .tc .vmem S1024x1024 .bf16 := win0_15.stage (cfg0.slots t 15)
abbrev ms0_16 (t : Fin cfg0.N) : Memref sig .tc .vmem S256x1024 .bf16 := win0_16.stage (cfg0.slots t 16)
abbrev ms0_17 (t : Fin cfg0.N) : Memref sig .tc .vmem S1x512x1024 .f32 := win0_17.stage (cfg0.slots t 17)
abbrev scM0_0 : Memref sig .tc .vmem S512x1024 .f32 := Memref.whole cc0_scratch0
abbrev scM0_1 : Memref sig .tc .vmem S528x1024 .bf16 := Memref.whole cc0_scratch1
abbrev scM0_2 : Memref sig .tc .vmem S528x256 .f32 := Memref.whole cc0_scratch2
abbrev scM0_3 : Memref sig .tc .vmem S528x256 .f32 := Memref.whole cc0_scratch3
abbrev scM0_4 : Memref sig .tc .vmem S512x1024 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What point `t` leaves in the output block. -/
def outAt (c : Dev nD) (t : Fin cfg0.N) : Vec F S1x512x1024 .f32 :=
  outv (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- Each input at its block, the output at `outAt`; the scratch at anything between points; each input window its share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨n + 18, h⟩ => absurd h (by have e : cfg0.W = 18 := rfl; omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.succ = Pipeline.ΦA spec0 c from rfl, show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (bodyTriple c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole launch: every array of the pipeline at what the points wrote back, every other buffer as the region found it, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and the counters at zero. -/
theorem frame : θ_run defs (onTc (τ := τ) (main (F := F))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Kernel2Ideal.Post

end
-- ==== Proof.PostVal.lean ====
module

public import proofs.«01_k».proof.Proof.PostAt

/-! A grid point's block of the third call against the layer's second half, row by row. -/

@[expose] public section

set_option maxRecDepth 16384

noncomputable section

namespace Cert.Kernel2Ideal.Post

open Cert.Kernel2Ideal Cert.Kernel2Ideal.Gen Idealize.ShloMosaic.TcCoe
open Idealize.ShloMosaic hiding ix1 ix2 ix3 ix4
open ValueIdx (ix1 ix2 ix3 ix4)

variable (A : PSpec.In) (i : Fin 8) (x0 : Vec Ideal S1x512x1024 .f32) (x1 : Vec Ideal S1x8x1024 .f32) (x2 : Vec Ideal S1x8x1024 .f32) (x3 : Vec Ideal S1x512x512 .bf16)
    (x4 : Vec Ideal S1x16x512 .bf16) (x5 : Vec Ideal S1x16x512 .bf16) (x6 : Vec Ideal S1x512x512 .bf16) (x7 : Vec Ideal S1x16x512 .bf16) (x8 : Vec Ideal S1x16x512 .bf16)
    (x9 : Vec Ideal S1x512x256 .f32) (x10 : Vec Ideal S1024x1024 .bf16) (x11 : Vec Ideal S1x1024 .f32) (x12 : Vec Ideal S2x11x1024x256 .bf16) (x13 : Vec Ideal S2x11x3x256 .f32)
    (x14 : Vec Ideal S11x256x1024 .bf16) (x15 : Vec Ideal S1024x1024 .bf16) (x16 : Vec Ideal S256x1024 .bf16)

/-- Column `j` of chunk `c` in half `s`. -/
abbrev ucl (s : Fin 2) (c : Fin 11) (j : Fin 256) : Fin 5632 := ⟨s.val * 2816 + c.val * 256 + j.val, by omega⟩
abbrev dcl (c : Fin 11) (j : Fin 256) : Fin 2816 := ⟨c.val * 256 + j.val, by omega⟩

/-- The blocks of tile `i` hold the arrays' rows and the weights. -/
structure Blk : Prop where
  h0 : ∀ (R : Fin 4096) (r : Fin 512) k, R.val = i.val * 512 + r.val → x0 (ix3 (0 : Fin 1) r k) = A.H R k
  h1 : ∀ (R : Fin 4096) (r : Fin 8) k, R.val + 8 = i.val * 512 + r.val → x1 (ix3 (0 : Fin 1) r k) = A.H R k
  h2 : ∀ (R : Fin 4096) (r : Fin 8) k, R.val = i.val * 512 + 512 + r.val → x2 (ix3 (0 : Fin 1) r k) = A.H R k
  a0 : ∀ (R : Fin 4096) (r : Fin 512) k, R.val = i.val * 512 + r.val → x3 (ix3 (0 : Fin 1) r k) = A.OA R k
  a1 : ∀ (R : Fin 4096) (r : Fin 16) k, R.val + 16 = i.val * 512 + r.val → x4 (ix3 (0 : Fin 1) r k) = A.OA R k
  a2 : ∀ (R : Fin 4096) (r : Fin 16) k, R.val = i.val * 512 + 512 + r.val → x5 (ix3 (0 : Fin 1) r k) = A.OA R k
  c0 : ∀ (R : Fin 4096) (r : Fin 512) k, R.val = i.val * 512 + r.val → x6 (ix3 (0 : Fin 1) r k) = A.OC R k
  c1 : ∀ (R : Fin 4096) (r : Fin 16) k, R.val + 16 = i.val * 512 + r.val → x7 (ix3 (0 : Fin 1) r k) = A.OC R k
  c2 : ∀ (R : Fin 4096) (r : Fin 16) k, R.val = i.val * 512 + 512 + r.val → x8 (ix3 (0 : Fin 1) r k) = A.OC R k
  p0 : ∀ (R : Fin 4096) (r : Fin 512) k, R.val = i.val * 512 + r.val → x9 (ix3 (0 : Fin 1) r k) = A.P R k
  wo : ∀ k e, x10 (ix2 k e) = A.WO k e
  g : ∀ e, x11 (ix2 (0 : Fin 1) e) = A.G e
  wu : ∀ s c k j, x12 (ix4 s c k j) = A.WU k (ucl s c j)
  cw : ∀ s c t j, x13 (ix4 s c t j) = A.CW t (ucl s c j)
  wd : ∀ c k e, x14 (ix3 c k e) = A.WD (dcl c k) e
  wg : ∀ k e, x15 (ix2 k e) = A.WG k e
  wp : ∀ k e, x16 (ix2 k e) = A.WP k e

/-- The two halves of the output weights. -/
abbrev woA : Vec Ideal S512x1024 .bf16 := View.ld x10 (Rect.unit (s := S1024x1024) ![0, 0] S512x1024.size inb_S1024x1024_S512x1024_0_0)
abbrev woC : Vec Ideal S512x1024 .bf16 := View.ld x10 (Rect.unit (s := S1024x1024) ![512, 0] S512x1024.size inb_S1024x1024_S512x1024_512_0)

/-- The projected rows with their halo, and the normed rows. -/
abbrev hmv : FVec Ideal S528x1024 .f32 := k0_pay9 (k0_pay5 x4 x5 x3) (k0_pay6 x7 x8 x6) (k0_pay7 x1) (k0_pay8 x0) x2 (woA x10) (woC x10)
abbrev nrv : FVec Ideal S528x1024 .f32 := k0_pay12 (k0_pay5 x4 x5 x3) (k0_pay6 x7 x8 x6) (k0_pay7 x1) (k0_pay8 x0) x2 (woA x10) (woC x10) x11
abbrev a2v : FVec Ideal S528x1024 .bf16 := k0_pay13 (k0_pay11 (BitVec.ofNat 32 i.val)) (nrv x0 x1 x2 x3 x4 x5 x6 x7 x8 x10 x11)

section Rows
variable {A i x0 x1 x2 x3 x4 x5 x6 x7 x8 x9 x10 x11 x12 x13 x14 x15 x16}
variable (B : Blk A i x0 x1 x2 x3 x4 x5 x6 x7 x8 x9 x10 x11 x12 x13 x14 x15 x16)
include B

theorem woA_at (k : Fin 512) (e : Fin 1024) : woA x10 (ix2 k e) = A.WO ⟨k.val, by omega⟩ e := by
  refine (View.ld_unit_apply_of _ _ _ _ _ (ix2 (⟨k.val, by omega⟩ : Fin 1024) e) ?_).trans (B.wo _ e)
  intro a
  match a with
  | ⟨0, _⟩ => exact (Nat.zero_add _).symm
  | ⟨1, _⟩ => exact (Nat.zero_add _).symm

theorem woC_at (k : Fin 512) (e : Fin 1024) : woC x10 (ix2 k e) = A.WO ⟨512 + k.val, by omega⟩ e := by
  refine (View.ld_unit_apply_of _ _ _ _ _ (ix2 (⟨512 + k.val, by omega⟩ : Fin 1024) e) ?_).trans (B.wo _ e)
  intro a
  match a with
  | ⟨0, _⟩ => rfl
  | ⟨1, _⟩ => exact (Nat.zero_add _).symm

theorem hmv_at (q : Fin 528) (R : Fin 4096) (hR : R.val + 8 = i.val * 512 + q.val) (e : Fin 1024) : hmv x0 x1 x2 x3 x4 x5 x6 x7 x8 x10 (ix2 q e) = PSpec.mix A R e := by
  unfold hmv k0_pay9
  unfold PSpec.mix
  rw [PSpec.side_sum, ← add_assoc]
  refine congrArg₂ (· + ·) (congrArg₂ (· + ·) ?_ ?_) ?_
  · refine ext_at _ _ _ concatenates_S8x1024_S512x1024_S8x1024_S528x1024_d0 A.H i.val ?_ ?_ ?_ q R hR e
    · intro R r k h
      exact (drop_at x1 _ r k).trans (B.h1 R r k h)
    · intro R r k h
      exact (drop_at x0 _ r k).trans (B.h0 R r k h)
    · intro R r k h
      exact (drop_at x2 _ r k).trans (B.h2 R r k h)
  · refine (mixdot_at _ _ q e).trans (Finset.sum_congr rfl fun k _ => congrArg₂ (· * ·) (halo_at x3 x4 x5 A.OA i.val B.a0 B.a1 B.a2 q R hR k) ?_)
    exact (congrFun (Mat.cast_self _ _) _).trans (woA_at B k e)
  · refine (mixdot_at _ _ q e).trans (Finset.sum_congr rfl fun k _ => congrArg₂ (· * ·) (halo_at x6 x7 x8 A.OC i.val B.c0 B.c1 B.c2 q R hR k) ?_)
    exact (congrFun (Mat.cast_self _ _) _).trans (woC_at B k e)

theorem nrv_at (q : Fin 528) (R : Fin 4096) (hR : R.val + 8 = i.val * 512 + q.val) (e : Fin 1024) :
    nrv x0 x1 x2 x3 x4 x5 x6 x7 x8 x10 x11 (ix2 q e) = PSpec.norm A R e := by
  unfold nrv k0_pay12
  refine congrArg₂ (· * ·) (congrArg₂ (· * ·) (hmv_at B q R hR e) ?_) ?_
  · refine (Mat.colbc_at (by decide) _ _ q e).trans ?_
    refine congrArg Ideal.rsqrt (congrArg (fun z => Ideal.div z (Ideal.ofBits .f32 0x44800000#32) + Ideal.ofBits .f32 0x358637BD#32) ?_)
    refine (Mat.col_at _ _ q).trans ((Mat.rowsum_at _ _ _ _ q).trans ?_)
    exact Finset.sum_congr rfl fun j _ => congrArg₂ (· * ·) (hmv_at B q R hR j) (hmv_at B q R hR j)
  · refine (Mat.rowbc_at (by decide) _ _ q e).trans ?_
    exact (congrFun (Mat.cast_self _ _) _).trans (B.g e)

/-- The masked rows: zeros outside the array, the normed rows inside. -/
theorem a2v_at (q : Fin 528) (hq : 7 ≤ q.val) (hq' : q.val ≤ 520) (e : Fin 1024) :
    a2v i x0 x1 x2 x3 x4 x5 x6 x7 x8 x10 x11 (ix2 q e) = PSpec.row (fun R => PSpec.norm A R e) (i.val * 512 + q.val - 7) := by
  have hi := i.isLt
  unfold a2v k0_pay13
  refine (congrFun (Mat.cast_self _ _) _).trans ?_
  show select _ _ _ (ix2 q e) = _
  refine (ValueIdx.select_apply _ _ _ _).trans ?_
  have hm : broadcastTo S528x1024 (shapeCast S528x1 (k0_pay11 (BitVec.ofNat 32 i.val)) shapeCasts_S528x1_S528x1) broadcasts_S528x1_S528x1024 (ix2 q e)
      = if (q.val < 8 ∧ i.val = 0) ∨ (520 ≤ q.val ∧ i.val = 7) then 0#1 else 1#1 := by
    refine (Mat.colbc_at (by decide) _ _ q e).trans ?_
    exact (congrFun (Mat.cast_self _ _) _).trans (mask_at i q)
  rw [hm]
  split
  · rename_i h
    rw [ValueIdx.select_zero]
    refine Eq.trans ?_ (PSpec.row_neg _ _ (by omega)).symm
    exact Ideal.ofBits_zero_f32
  · rename_i h
    rw [ValueIdx.select_one]
    have hb : i.val * 512 + q.val - 8 < 4096 := by omega
    refine (nrv_at B q ⟨i.val * 512 + q.val - 8, hb⟩ (by show i.val * 512 + q.val - 8 + 8 = _; omega) e).trans ?_
    exact (PSpec.row_pos (fun R => PSpec.norm A R e) _ ⟨i.val * 512 + q.val - 8, hb⟩ (by show i.val * 512 + q.val - 7 = i.val * 512 + q.val - 8 + 1; omega)).symm

omit B in
/-- The cuts of the weights at chunk `k`. -/
theorem off1 : ∀ k : Fin k0_t1_loop.trips, k0_off1 k = ![0, k.val, 0, 0] := by decide +kernel
omit B in
theorem off2 : ∀ k : Fin k0_t1_loop.trips, k0_off2 k = ![1, k.val, 0, 0] := by decide +kernel
omit B in
theorem off3 : ∀ k : Fin k0_t1_loop.trips, k0_off3 k = ![0, k.val, 0, 0] := by decide +kernel
omit B in
theorem off4 : ∀ k : Fin k0_t1_loop.trips, k0_off4 k = ![1, k.val, 0, 0] := by decide +kernel
omit B in
theorem off5 : ∀ k : Fin k0_t1_loop.trips, k0_off5 k = ![k.val, 0, 0] := by decide +kernel
omit B in
theorem trips_eq : k0_t1_loop.trips = 11 := by decide +kernel

/-- A trip's number among the eleven chunks. -/
abbrev chk (k : Fin k0_t1_loop.trips) : Fin 11 := k.cast trips_eq

theorem ug_at (k : Fin k0_t1_loop.trips) (q : Fin 528) (hq : 7 ≤ q.val) (hq' : q.val ≤ 520) (j : Fin 256) :
    ug (a2v i x0 x1 x2 x3 x4 x5 x6 x7 x8 x10 x11) x12 k (ix2 q j) = PSpec.row (PSpec.proj A (ucl 0 (chk k) j)) (i.val * 512 + q.val - 7) := by
  unfold ug k0_pay2
  refine (congrFun (Mat.cast_self _ _) _).trans ?_
  refine (updot_at _ _ q j).trans ?_
  have hw : ∀ z : Fin 1024, shapeCast S1024x256 (View.ld x12 (Rect.unit (s := S2x11x1024x256) (k0_off1 k) S1x1x1024x256.size (k0_off1_inb k))) shapeCasts_S1x1x1024x256_S1024x256 (ix2 z j)
      = A.WU z (ucl 0 (chk k) j) := fun z => by
    refine (drop2_at _ _ z j).trans ?_
    refine (View.ld_unit_apply_of _ _ _ _ _ (ix4 (0 : Fin 2) (chk k) z j) ?_).trans (B.wu _ _ _ _)
    intro a
    refine Eq.trans ?_ (congrArg (· + _) (congrFun (off1 k) a).symm)
    match a with
    | ⟨0, _⟩ => rfl
    | ⟨1, _⟩ => rfl
    | ⟨2, _⟩ => exact (Nat.zero_add _).symm
    | ⟨3, _⟩ => exact (Nat.zero_add _).symm
  refine (Finset.sum_congr rfl fun z _ => congrArg₂ (· * ·) (a2v_at B q hq hq' z) (hw z)).trans ?_
  exact PSpec.row_proj A _ _

theorem uu_at (k : Fin k0_t1_loop.trips) (q : Fin 528) (hq : 7 ≤ q.val) (hq' : q.val ≤ 520) (j : Fin 256) :
    uu (a2v i x0 x1 x2 x3 x4 x5 x6 x7 x8 x10 x11) x12 k (ix2 q j) = PSpec.row (PSpec.proj A (ucl 1 (chk k) j)) (i.val * 512 + q.val - 7) := by
  unfold uu k0_pay3
  refine (congrFun (Mat.cast_self _ _) _).trans ?_
  refine (updot_at _ _ q j).trans ?_
  have hw : ∀ z : Fin 1024, shapeCast S1024x256 (View.ld x12 (Rect.unit (s := S2x11x1024x256) (k0_off2 k) S1x1x1024x256.size (k0_off2_inb k))) shapeCasts_S1x1x1024x256_S1024x256 (ix2 z j)
      = A.WU z (ucl 1 (chk k) j) := fun z => by
    refine (drop2_at _ _ z j).trans ?_
    refine (View.ld_unit_apply_of _ _ _ _ _ (ix4 (1 : Fin 2) (chk k) z j) ?_).trans (B.wu _ _ _ _)
    intro a
    refine Eq.trans ?_ (congrArg (· + _) (congrFun (off2 k) a).symm)
    match a with
    | ⟨0, _⟩ => rfl
    | ⟨1, _⟩ => rfl
    | ⟨2, _⟩ => exact (Nat.zero_add _).symm
    | ⟨3, _⟩ => exact (Nat.zero_add _).symm
  refine (Finset.sum_congr rfl fun z _ => congrArg₂ (· * ·) (a2v_at B q hq hq' z) (hw z)).trans ?_
  exact PSpec.row_proj A _ _

omit B in
/-- Three rows weighted by a chunk's three taps. -/
theorem taps_at (v : Vec Ideal S1x1x3x256 .f32) (a b c : Vec Ideal S512x256 .f32) (r : Fin 512) (j : Fin 256) :
    k0_pay4 v a b c (ix2 r j) = a (ix2 r j) * v (ix4 (0 : Fin 1) (0 : Fin 1) (0 : Fin 3) j) + b (ix2 r j) * v (ix4 (0 : Fin 1) (0 : Fin 1) (1 : Fin 3) j)
      + c (ix2 r j) * v (ix4 (0 : Fin 1) (0 : Fin 1) (2 : Fin 3) j) := by
  have ht : ∀ (o : ℕ) (t : Fin 3) (ho : t.val = o) (h), broadcastTo S512x256 (extractStridedSlice S1x256 ![o, 0] (shapeCast S3x256 v shapeCasts_S1x1x3x256_S3x256) h) broadcasts_S1x256_S512x256 (ix2 r j)
      = v (ix4 (0 : Fin 1) (0 : Fin 1) t j) := fun o t ho h => by
    refine (Mat.rowbc_at (by decide) _ _ r j).trans ?_
    refine (slice_at o _ _ (0 : Fin 1) t ho j).trans ?_
    exact drop2_at _ _ t j
  unfold k0_pay4
  exact congrArg₂ (· + ·) (congrArg₂ (· + ·) (congrArg (a (ix2 r j) * ·) (ht 0 0 rfl _)) (congrArg (b (ix2 r j) * ·) (ht 1 1 rfl _))) (congrArg (c (ix2 r j) * ·) (ht 2 2 rfl _))

omit B in
/-- A row of the block `o` rows on. -/
theorem shift_at (o : ℕ) (X : Vec Ideal S528x256 .f32) (inb) (r : Fin 512) (q : Fin 528) (hq : q.val = o + r.val) (j : Fin 256) :
    View.ld X (Rect.unit (s := S528x256) ![o, 0] S512x256.size inb) (ix2 r j) = X (ix2 q j) := by
  refine View.ld_unit_apply_of _ _ _ _ _ (ix2 q j) ?_
  intro a
  match a with
  | ⟨0, _⟩ => exact hq
  | ⟨1, _⟩ => exact (Nat.zero_add _).symm

theorem tapG (k : Fin k0_t1_loop.trips) (t : Fin 3) (j : Fin 256) :
    View.ld x13 (Rect.unit (s := S2x11x3x256) (k0_off3 k) S1x1x3x256.size (k0_off3_inb k)) (ix4 (0 : Fin 1) (0 : Fin 1) t j) = A.CW t (ucl 0 (chk k) j) := by
  refine (View.ld_unit_apply_of _ _ _ _ _ (ix4 (0 : Fin 2) (chk k) t j) ?_).trans (B.cw _ _ _ _)
  intro a
  refine Eq.trans ?_ (congrArg (· + _) (congrFun (off3 k) a).symm)
  match a with
  | ⟨0, _⟩ => rfl
  | ⟨1, _⟩ => rfl
  | ⟨2, _⟩ => exact (Nat.zero_add _).symm
  | ⟨3, _⟩ => exact (Nat.zero_add _).symm

theorem tapU (k : Fin k0_t1_loop.trips) (t : Fin 3) (j : Fin 256) :
    View.ld x13 (Rect.unit (s := S2x11x3x256) (k0_off4 k) S1x1x3x256.size (k0_off4_inb k)) (ix4 (0 : Fin 1) (0 : Fin 1) t j) = A.CW t (ucl 1 (chk k) j) := by
  refine (View.ld_unit_apply_of _ _ _ _ _ (ix4 (1 : Fin 2) (chk k) t j) ?_).trans (B.cw _ _ _ _)
  intro a
  refine Eq.trans ?_ (congrArg (· + _) (congrFun (off4 k) a).symm)
  match a with
  | ⟨0, _⟩ => rfl
  | ⟨1, _⟩ => rfl
  | ⟨2, _⟩ => exact (Nat.zero_add _).symm
  | ⟨3, _⟩ => exact (Nat.zero_add _).symm

theorem down_at (k : Fin k0_t1_loop.trips) (j : Fin 256) (e : Fin 1024) :
    shapeCast S256x1024 (View.ld x14 (Rect.unit (s := S11x256x1024) (k0_off5 k) S1x256x1024.size (k0_off5_inb k))) shapeCasts_S1x256x1024_S256x1024 (ix2 j e) = A.WD (dcl (chk k) j) e := by
  refine (drop_at _ _ j e).trans ?_
  refine (View.ld_unit_apply_of _ _ _ _ _ (ix3 (chk k) j e) ?_).trans (B.wd _ _ _)
  intro a
  refine Eq.trans ?_ (congrArg (· + _) (congrFun (off5 k) a).symm)
  match a with
  | ⟨0, _⟩ => rfl
  | ⟨1, _⟩ => exact (Nat.zero_add _).symm
  | ⟨2, _⟩ => exact (Nat.zero_add _).symm

section Tile
variable (r : Fin 512) (R : Fin 4096) (hR : R.val = i.val * 512 + r.val)
include hR

theorem gate_at (k : Fin k0_t1_loop.trips) (j : Fin 256) :
    k0_pay4 (View.ld x13 (Rect.unit (s := S2x11x3x256) (k0_off3 k) S1x1x3x256.size (k0_off3_inb k)))
      (View.ld (ug (a2v i x0 x1 x2 x3 x4 x5 x6 x7 x8 x10 x11) x12 k) (Rect.unit (s := S528x256) ![7, 0] S512x256.size inb_S528x256_S512x256_7_0))
      (View.ld (ug (a2v i x0 x1 x2 x3 x4 x5 x6 x7 x8 x10 x11) x12 k) (Rect.unit (s := S528x256) ![8, 0] S512x256.size inb_S528x256_S512x256_8_0))
      (View.ld (ug (a2v i x0 x1 x2 x3 x4 x5 x6 x7 x8 x10 x11) x12 k) (Rect.unit (s := S528x256) ![9, 0] S512x256.size inb_S528x256_S512x256_9_0)) (ix2 r j)
      = PSpec.conv A R (PSpec.gcol (dcl (chk k) j)) := by
  have hr := r.isLt
  have hc : ucl 0 (chk k) j = PSpec.gcol (dcl (chk k) j) := Fin.ext (by show 0 * 2816 + (chk k).val * 256 + j.val = (chk k).val * 256 + j.val; omega)
  have hs : ∀ (o : ℕ) (ho : 7 ≤ o) (ho' : o ≤ 9) (inb), View.ld (ug (a2v i x0 x1 x2 x3 x4 x5 x6 x7 x8 x10 x11) x12 k) (Rect.unit (s := S528x256) ![o, 0] S512x256.size inb) (ix2 r j)
      = PSpec.row (PSpec.proj A (ucl 0 (chk k) j)) (R.val + (o - 7)) := fun o ho ho' inb => by
    refine (shift_at o _ inb r (⟨o + r.val, by omega⟩ : Fin 528) rfl j).trans ?_
    refine (ug_at B k _ (by show 7 ≤ o + r.val; omega) (by show o + r.val ≤ 520; omega) j).trans ?_
    exact congrArg (PSpec.row _) (by show i.val * 512 + (o + r.val) - 7 = R.val + (o - 7); omega)
  refine (taps_at _ _ _ _ r j).trans ?_
  rw [← hc]
  exact congrArg₂ (· + ·) (congrArg₂ (· + ·) (congrArg₂ (· * ·) (hs 7 (by omega) (by omega) _) (tapG B k 0 j)) (congrArg₂ (· * ·) (hs 8 (by omega) (by omega) _) (tapG B k 1 j)))
    (congrArg₂ (· * ·) (hs 9 (by omega) (by omega) _) (tapG B k 2 j))

theorem val_at (k : Fin k0_t1_loop.trips) (j : Fin 256) :
    k0_pay4 (View.ld x13 (Rect.unit (s := S2x11x3x256) (k0_off4 k) S1x1x3x256.size (k0_off4_inb k)))
      (View.ld (uu (a2v i x0 x1 x2 x3 x4 x5 x6 x7 x8 x10 x11) x12 k) (Rect.unit (s := S528x256) ![7, 0] S512x256.size inb_S528x256_S512x256_7_0))
      (View.ld (uu (a2v i x0 x1 x2 x3 x4 x5 x6 x7 x8 x10 x11) x12 k) (Rect.unit (s := S528x256) ![8, 0] S512x256.size inb_S528x256_S512x256_8_0))
      (View.ld (uu (a2v i x0 x1 x2 x3 x4 x5 x6 x7 x8 x10 x11) x12 k) (Rect.unit (s := S528x256) ![9, 0] S512x256.size inb_S528x256_S512x256_9_0)) (ix2 r j)
      = PSpec.conv A R (PSpec.ucol (dcl (chk k) j)) := by
  have hr := r.isLt
  have hc : ucl 1 (chk k) j = PSpec.ucol (dcl (chk k) j) := Fin.ext (by show 1 * 2816 + (chk k).val * 256 + j.val = 2816 + ((chk k).val * 256 + j.val); omega)
  have hs : ∀ (o : ℕ) (ho : 7 ≤ o) (ho' : o ≤ 9) (inb), View.ld (uu (a2v i x0 x1 x2 x3 x4 x5 x6 x7 x8 x10 x11) x12 k) (Rect.unit (s := S528x256) ![o, 0] S512x256.size inb) (ix2 r j)
      = PSpec.row (PSpec.proj A (ucl 1 (chk k) j)) (R.val + (o - 7)) := fun o ho ho' inb => by
    refine (shift_at o _ inb r (⟨o + r.val, by omega⟩ : Fin 528) rfl j).trans ?_
    refine (uu_at B k _ (by show 7 ≤ o + r.val; omega) (by show o + r.val ≤ 520; omega) j).trans ?_
    exact congrArg (PSpec.row _) (by show i.val * 512 + (o + r.val) - 7 = R.val + (o - 7); omega)
  refine (taps_at _ _ _ _ r j).trans ?_
  rw [← hc]
  exact congrArg₂ (· + ·) (congrArg₂ (· + ·) (congrArg₂ (· * ·) (hs 7 (by omega) (by omega) _) (tapU B k 0 j)) (congrArg₂ (· * ·) (hs 8 (by omega) (by omega) _) (tapU B k 1 j)))
    (congrArg₂ (· * ·) (hs 9 (by omega) (by omega) _) (tapU B k 2 j))

/-- One chunk adds its 256 terms of the down projection. -/
theorem step_at (k : Fin k0_t1_loop.trips) (a : Vec Ideal S512x1024 .f32) (e : Fin 1024) :
    ffStep (a2v i x0 x1 x2 x3 x4 x5 x6 x7 x8 x10 x11) x12 x13 x14 k a (ix2 r e) = a (ix2 r e) + ∑ j ∈ Finset.range 256, PSpec.term A R e (k.val * 256 + j) := by
  unfold ffStep k0_pay15
  refine (congrFun (Mat.cast_self _ _) _).trans ?_
  refine congrArg (a (ix2 r e) + ·) ((downdot_at _ _ r e).trans ?_)
  rw [Finset.sum_range]
  refine Finset.sum_congr rfl fun j _ => ?_
  have hk : k.val < 11 := lt_of_lt_of_eq k.isLt trips_eq
  refine Eq.trans ?_ (dif_pos (show k.val * 256 + j.val < 2816 by omega)).symm
  refine congrArg₂ (· * ·) ?_ (down_at B k j e)
  exact congrArg₂ (· * ·) (congrArg (fun g : EReal => g * Ideal.logistic g) (gate_at B r R hR k j)) (val_at B r R hR k j)

/-- After `n` chunks the accumulator holds the first `256 n` terms. -/
theorem acc_at (e : Fin 1024) (n : ℕ) (hn : n ≤ 11) :
    ffAcc (a2v i x0 x1 x2 x3 x4 x5 x6 x7 x8 x10 x11) x12 x13 x14 (k0_pay14 (F := Ideal)) n (ix2 r e) = ∑ j ∈ Finset.range (n * 256), PSpec.term A R e j := by
  induction n with
  | zero =>
    show k0_pay14 (F := Ideal) (ix2 r e) = _
    unfold k0_pay14
    refine (congrFun (Mat.cast_self _ _) _).trans ?_
    rw [Nat.zero_mul, Finset.sum_range_zero]
    exact Ideal.ofBits_zero_f32
  | succ n ih =>
    have h : n < k0_t1_loop.trips := lt_of_lt_of_eq hn trips_eq.symm
    have e1 : ffAcc (a2v i x0 x1 x2 x3 x4 x5 x6 x7 x8 x10 x11) x12 x13 x14 (k0_pay14 (F := Ideal)) (n + 1)
        = ffStep (a2v i x0 x1 x2 x3 x4 x5 x6 x7 x8 x10 x11) x12 x13 x14 ⟨n, h⟩ (ffAcc (a2v i x0 x1 x2 x3 x4 x5 x6 x7 x8 x10 x11) x12 x13 x14 (k0_pay14 (F := Ideal)) n) := dif_pos h
    rw [e1]
    refine (step_at B r R hR ⟨n, h⟩ _ e).trans ?_
    rw [ih (by omega), Nat.succ_mul, Finset.sum_range_add]

/-- The rows before the gate. -/
theorem mid_at (e : Fin 1024) :
    k0_pay10 (k0_pay5 x4 x5 x3) (k0_pay6 x7 x8 x6) (k0_pay7 x1) (k0_pay8 x0) x2 (woA x10) (woC x10) (ix2 r e)
      + ffAcc (a2v i x0 x1 x2 x3 x4 x5 x6 x7 x8 x10 x11) x12 x13 x14 (k0_pay14 (F := Ideal)) k0_t1_loop.trips (ix2 r e) = PSpec.mid A R e := by
  have hr := r.isLt
  refine congrArg₂ (· + ·) ?_ ?_
  · unfold k0_pay10
    refine (congrFun (Mat.cast_self _ _) _).trans ?_
    refine (slice_at 8 _ _ r (⟨8 + r.val, by omega⟩ : Fin 528) rfl e).trans ?_
    exact hmv_at B _ R (by show R.val + 8 = i.val * 512 + (8 + r.val); omega) e
  · rw [trips_eq]
    exact (acc_at B r R hR e 11 (le_refl _)).trans (PSpec.term_sum A R e)

/-- THE BLOCK, entry by entry. -/
theorem outv_at (co : grid0.Coords) (hco : (co 1).val = i.val) (e : Fin 1024) :
    outv co x0 x1 x2 x3 x4 x5 x6 x7 x8 x9 x10 x11 x12 x13 x14 x15 x16 (ix3 (0 : Fin 1) r e) = PSpec.out A R e := by
  unfold outv k0_pay1
  rw [hco]
  refine (shapeCast_apply _ _ _ (ix2 r e) ?_).trans ?_
  · rw [Shape.rowMajor_val_two, Shape.rowMajor_val_three]
    show r.val * 1024 + e.val = (0 * 512 + r.val) * 1024 + e.val
    omega
  unfold k0_pay16 PSpec.out
  refine congrArg₂ (· + ·) (mid_at B r R hR e) (congrArg₂ (· * ·) (congrArg Ideal.logistic ?_) ?_)
  · refine (gatedot_at _ _ r e).trans (Finset.sum_congr rfl fun k _ => congrArg₂ (· * ·) (mid_at B r R hR k) ?_)
    exact (congrFun (Mat.cast_self _ _) _).trans (B.wg k e)
  · refine (downdot_at _ _ r e).trans (Finset.sum_congr rfl fun k _ => congrArg₂ (· * ·) ?_ ?_)
    · exact (drop_at x9 _ r k).trans (B.p0 R r k hR)
    · exact (congrFun (Mat.cast_self _ _) _).trans (B.wp k e)

end Tile

end Rows

end Cert.Kernel2Ideal.Post

end
-- ==== Proof.PostPts.lean ====
module

public import proofs.«01_k».proof.Proof.PostFrame
public import proofs.«01_k».proof.Proof.PostVal
public import Idealize.ShloMosaic.Lib.Pipeline.Value
public import Idealize.ShloMosaic.Lib.Pipeline.ValueKit
public import Idealize.ShloMosaic.Lib.StableHlo.Run

/-! The blocks every grid point of the third call reads, in the arguments' entries, and the array its points leave. -/

@[expose] public section

set_option maxRecDepth 16384

noncomputable section

namespace Cert.Kernel2Ideal.Post

open Cert.Kernel2Ideal Cert.Kernel2Ideal.Gen Idealize.ShloMosaic.TcCoe Idealize.ShloMosaic.Tactic
open Idealize.ShloMosaic hiding ix1 ix2 ix3 ix4
open ValueIdx (ix1 ix2 ix3 ix4)

variable (m : (ℓ : Loc nD τ sig) → Buf (Elt Ideal) ℓ) (c : Dev nD)

/-- The arguments' entries in batch `b`. -/
def inp (b : Fin 4) : PSpec.In where
  H R k := (m ((c : Thread nD τ).loc main_arg0) : (⟨3, ![4, 4096, 1024]⟩ : Shape).Idx → EReal) (ix3 b R k)
  OA R k := (m ((c : Thread nD τ).loc main_arg1) : (⟨3, ![4, 4096, 512]⟩ : Shape).Idx → EReal) (ix3 b R k)
  OC R k := (m ((c : Thread nD τ).loc main_arg2) : (⟨3, ![4, 4096, 512]⟩ : Shape).Idx → EReal) (ix3 b R k)
  P R k := (m ((c : Thread nD τ).loc main_arg3) : (⟨3, ![4, 4096, 256]⟩ : Shape).Idx → EReal) (ix3 b R k)
  WO k e := (m ((c : Thread nD τ).loc main_arg4) : (⟨2, ![1024, 1024]⟩ : Shape).Idx → EReal) (ix2 k e)
  G e := (m ((c : Thread nD τ).loc main_arg5) : (⟨1, ![1024]⟩ : Shape).Idx → EReal) (ix1 e)
  WU k j := (m ((c : Thread nD τ).loc main_arg6) : (⟨2, ![1024, 5632]⟩ : Shape).Idx → EReal) (ix2 k j)
  CW t j := (m ((c : Thread nD τ).loc main_arg7) : (⟨2, ![3, 5632]⟩ : Shape).Idx → EReal) (ix2 t j)
  WD k e := (m ((c : Thread nD τ).loc main_arg8) : (⟨2, ![2816, 1024]⟩ : Shape).Idx → EReal) (ix2 k e)
  WG k e := (m ((c : Thread nD τ).loc main_arg9) : (⟨2, ![1024, 1024]⟩ : Shape).Idx → EReal) (ix2 k e)
  WP k e := (m ((c : Thread nD τ).loc main_arg10) : (⟨2, ![256, 1024]⟩ : Shape).Idx → EReal) (ix2 k e)

theorem V_v0 : V m c main_v0 = (truncf .bf16 (m ((c : Thread nD τ).loc main_arg4)) bitsLt_bf16_f32 : FVec Ideal S1024x1024 .bf16) := by
  rfl
theorem V_v1 : V m c main_v1 = (broadcastInDim S1x1024 ![1] bcast_S1024_S1x1024_1 (m ((c : Thread nD τ).loc main_arg5)) : FVec Ideal S1x1024 .f32) := by
  rfl
theorem V_v4 : V m c main_v4 = (truncf .bf16 (transpose S2x11x1024x256 [1, 2, 0, 3] (shapeCast S1024x2x11x256 (m ((c : Thread nD τ).loc main_arg6)) shapeCasts_S1024x5632_S1024x2x11x256)
    transposes_S1024x2x11x256_S2x11x1024x256_1_2_0_3) bitsLt_bf16_f32 : FVec Ideal S2x11x1024x256 .bf16) := by
  rfl
theorem V_v6 : V m c main_v6 = (transpose S2x11x3x256 [1, 2, 0, 3] (shapeCast S3x2x11x256 (m ((c : Thread nD τ).loc main_arg7)) shapeCasts_S3x5632_S3x2x11x256)
    transposes_S3x2x11x256_S2x11x3x256_1_2_0_3 : FVec Ideal S2x11x3x256 .f32) := by
  rfl
theorem V_v8 : V m c main_v8 = (shapeCast S11x256x1024 (truncf .bf16 (m ((c : Thread nD τ).loc main_arg8)) bitsLt_bf16_f32) shapeCasts_S2816x1024_S11x256x1024 : FVec Ideal S11x256x1024 .bf16) := by
  rfl
theorem V_v9 : V m c main_v9 = (truncf .bf16 (m ((c : Thread nD τ).loc main_arg9)) bitsLt_bf16_f32 : FVec Ideal S1024x1024 .bf16) := by
  rfl
theorem V_v10 : V m c main_v10 = (truncf .bf16 (m ((c : Thread nD τ).loc main_arg10)) bitsLt_bf16_f32 : FVec Ideal S256x1024 .bf16) := by
  rfl

theorem lt32 (t : Fin cfg0.N) : t.val < 32 := lt_of_lt_of_eq t.isLt N_0

/-- The batch and the tile of point `t`. -/
abbrev bat (t : Fin cfg0.N) : Fin 4 := ⟨t.val / 8, by have := lt32 t; omega⟩
abbrev tile (t : Fin cfg0.N) : Fin 8 := ⟨t.val % 8, by omega⟩

theorem idxM : ∀ t : Fin cfg0.N, win0_0.index t = ![t.val / 8, t.val % 8, 0] ∧ win0_3.index t = ![t.val / 8, t.val % 8, 0] ∧ win0_6.index t = ![t.val / 8, t.val % 8, 0]
    ∧ win0_9.index t = ![t.val / 8, t.val % 8, 0] ∧ win0_17.index t = ![t.val / 8, t.val % 8, 0] := by decide +kernel
theorem idxP : ∀ t : Fin cfg0.N, win0_1.index t = ![t.val / 8, t.val % 8 * 64 - 1, 0] ∧ win0_4.index t = ![t.val / 8, t.val % 8 * 32 - 1, 0] ∧ win0_7.index t = ![t.val / 8, t.val % 8 * 32 - 1, 0] := by decide +kernel
theorem idxN : ∀ t : Fin cfg0.N, win0_2.index t = ![t.val / 8, min (t.val % 8 * 64 + 64) 511, 0] ∧ win0_5.index t = ![t.val / 8, min (t.val % 8 * 32 + 32) 255, 0]
    ∧ win0_8.index t = ![t.val / 8, min (t.val % 8 * 32 + 32) 255, 0] := by decide +kernel
theorem idxW : ∀ t : Fin cfg0.N, win0_10.index t = ![0, 0] ∧ win0_11.index t = ![0, 0] ∧ win0_12.index t = ![0, 0, 0, 0] ∧ win0_13.index t = ![0, 0, 0, 0]
    ∧ win0_14.index t = ![0, 0, 0] ∧ win0_15.index t = ![0, 0] ∧ win0_16.index t = ![0, 0] := by decide +kernel
theorem co_tile : ∀ t : Fin cfg0.N, (grid0.coords t 1).val = t.val % 8 := by decide +kernel

theorem b0 (t : Fin cfg0.N) (R : Fin 4096) (r : Fin 512) (k : Fin 1024) (h : R.val = t.val % 8 * 512 + r.val) :
    iblk m c 0 t (ix3 (0 : Fin 1) r k) = (inp m c (bat t)).H R k := by
  have h8 : t.val % 8 < 8 := Nat.mod_lt _ (by decide)
  have hR := R.isLt
  have hr := r.isLt
  obtain ⟨e0, e1, e2⟩ : win0_0.index t 0 = t.val / 8 ∧ win0_0.index t 1 = t.val % 8 ∧ win0_0.index t 2 = 0 := by
    rw [(idxM t).1]; exact ⟨rfl, rfl, rfl⟩
  refine (congrFun (V_main_arg0 m c) _).trans ?_
  refine congrArg (m ((c : Thread nD τ).loc main_arg0)) (funext fun a => Fin.ext ?_)
  match a with
  | ⟨0, _⟩ => show win0_0.index t 0 * 1 + 1 * 0 = t.val / 8; omega
  | ⟨1, _⟩ => show win0_0.index t 1 * 512 + 1 * r.val = R.val; omega
  | ⟨2, _⟩ => show win0_0.index t 2 * 1024 + 1 * k.val = k.val; omega

theorem b1 (t : Fin cfg0.N) (R : Fin 4096) (r : Fin 8) (k : Fin 1024) (h : R.val + 8 = t.val % 8 * 512 + r.val) :
    iblk m c 1 t (ix3 (0 : Fin 1) r k) = (inp m c (bat t)).H R k := by
  have h8 : t.val % 8 < 8 := Nat.mod_lt _ (by decide)
  have hR := R.isLt
  have hr := r.isLt
  obtain ⟨e0, e1, e2⟩ : win0_1.index t 0 = t.val / 8 ∧ win0_1.index t 1 = t.val % 8 * 64 - 1 ∧ win0_1.index t 2 = 0 := by
    rw [(idxP t).1]; exact ⟨rfl, rfl, rfl⟩
  refine (congrFun (V_main_arg0 m c) _).trans ?_
  refine congrArg (m ((c : Thread nD τ).loc main_arg0)) (funext fun a => Fin.ext ?_)
  match a with
  | ⟨0, _⟩ => show win0_1.index t 0 * 1 + 1 * 0 = t.val / 8; omega
  | ⟨1, _⟩ => show win0_1.index t 1 * 8 + 1 * r.val = R.val; omega
  | ⟨2, _⟩ => show win0_1.index t 2 * 1024 + 1 * k.val = k.val; omega

theorem b2 (t : Fin cfg0.N) (R : Fin 4096) (r : Fin 8) (k : Fin 1024) (h : R.val = t.val % 8 * 512 + 512 + r.val) :
    iblk m c 2 t (ix3 (0 : Fin 1) r k) = (inp m c (bat t)).H R k := by
  have h8 : t.val % 8 < 8 := Nat.mod_lt _ (by decide)
  have hR := R.isLt
  have hr := r.isLt
  obtain ⟨e0, e1, e2⟩ : win0_2.index t 0 = t.val / 8 ∧ win0_2.index t 1 = min (t.val % 8 * 64 + 64) 511 ∧ win0_2.index t 2 = 0 := by
    rw [(idxN t).1]; exact ⟨rfl, rfl, rfl⟩
  refine (congrFun (V_main_arg0 m c) _).trans ?_
  refine congrArg (m ((c : Thread nD τ).loc main_arg0)) (funext fun a => Fin.ext ?_)
  match a with
  | ⟨0, _⟩ => show win0_2.index t 0 * 1 + 1 * 0 = t.val / 8; omega
  | ⟨1, _⟩ => show win0_2.index t 1 * 8 + 1 * r.val = R.val; omega
  | ⟨2, _⟩ => show win0_2.index t 2 * 1024 + 1 * k.val = k.val; omega

theorem b3 (t : Fin cfg0.N) (R : Fin 4096) (r : Fin 512) (k : Fin 512) (h : R.val = t.val % 8 * 512 + r.val) :
    iblk m c 3 t (ix3 (0 : Fin 1) r k) = (inp m c (bat t)).OA R k := by
  have h8 : t.val % 8 < 8 := Nat.mod_lt _ (by decide)
  have hR := R.isLt
  have hr := r.isLt
  obtain ⟨e0, e1, e2⟩ : win0_3.index t 0 = t.val / 8 ∧ win0_3.index t 1 = t.val % 8 ∧ win0_3.index t 2 = 0 := by
    rw [(idxM t).2.1]; exact ⟨rfl, rfl, rfl⟩
  refine (congrFun (V_main_arg1 m c) _).trans ?_
  refine congrArg (m ((c : Thread nD τ).loc main_arg1)) (funext fun a => Fin.ext ?_)
  match a with
  | ⟨0, _⟩ => show win0_3.index t 0 * 1 + 1 * 0 = t.val / 8; omega
  | ⟨1, _⟩ => show win0_3.index t 1 * 512 + 1 * r.val = R.val; omega
  | ⟨2, _⟩ => show win0_3.index t 2 * 512 + 1 * k.val = k.val; omega

theorem b4 (t : Fin cfg0.N) (R : Fin 4096) (r : Fin 16) (k : Fin 512) (h : R.val + 16 = t.val % 8 * 512 + r.val) :
    iblk m c 4 t (ix3 (0 : Fin 1) r k) = (inp m c (bat t)).OA R k := by
  have h8 : t.val % 8 < 8 := Nat.mod_lt _ (by decide)
  have hR := R.isLt
  have hr := r.isLt
  obtain ⟨e0, e1, e2⟩ : win0_4.index t 0 = t.val / 8 ∧ win0_4.index t 1 = t.val % 8 * 32 - 1 ∧ win0_4.index t 2 = 0 := by
    rw [(idxP t).2.1]; exact ⟨rfl, rfl, rfl⟩
  refine (congrFun (V_main_arg1 m c) _).trans ?_
  refine congrArg (m ((c : Thread nD τ).loc main_arg1)) (funext fun a => Fin.ext ?_)
  match a with
  | ⟨0, _⟩ => show win0_4.index t 0 * 1 + 1 * 0 = t.val / 8; omega
  | ⟨1, _⟩ => show win0_4.index t 1 * 16 + 1 * r.val = R.val; omega
  | ⟨2, _⟩ => show win0_4.index t 2 * 512 + 1 * k.val = k.val; omega

theorem b5 (t : Fin cfg0.N) (R : Fin 4096) (r : Fin 16) (k : Fin 512) (h : R.val = t.val % 8 * 512 + 512 + r.val) :
    iblk m c 5 t (ix3 (0 : Fin 1) r k) = (inp m c (bat t)).OA R k := by
  have h8 : t.val % 8 < 8 := Nat.mod_lt _ (by decide)
  have hR := R.isLt
  have hr := r.isLt
  obtain ⟨e0, e1, e2⟩ : win0_5.index t 0 = t.val / 8 ∧ win0_5.index t 1 = min (t.val % 8 * 32 + 32) 255 ∧ win0_5.index t 2 = 0 := by
    rw [(idxN t).2.1]; exact ⟨rfl, rfl, rfl⟩
  refine (congrFun (V_main_arg1 m c) _).trans ?_
  refine congrArg (m ((c : Thread nD τ).loc main_arg1)) (funext fun a => Fin.ext ?_)
  match a with
  | ⟨0, _⟩ => show win0_5.index t 0 * 1 + 1 * 0 = t.val / 8; omega
  | ⟨1, _⟩ => show win0_5.index t 1 * 16 + 1 * r.val = R.val; omega
  | ⟨2, _⟩ => show win0_5.index t 2 * 512 + 1 * k.val = k.val; omega

theorem b6 (t : Fin cfg0.N) (R : Fin 4096) (r : Fin 512) (k : Fin 512) (h : R.val = t.val % 8 * 512 + r.val) :
    iblk m c 6 t (ix3 (0 : Fin 1) r k) = (inp m c (bat t)).OC R k := by
  have h8 : t.val % 8 < 8 := Nat.mod_lt _ (by decide)
  have hR := R.isLt
  have hr := r.isLt
  obtain ⟨e0, e1, e2⟩ : win0_6.index t 0 = t.val / 8 ∧ win0_6.index t 1 = t.val % 8 ∧ win0_6.index t 2 = 0 := by
    rw [(idxM t).2.2.1]; exact ⟨rfl, rfl, rfl⟩
  refine (congrFun (V_main_arg2 m c) _).trans ?_
  refine congrArg (m ((c : Thread nD τ).loc main_arg2)) (funext fun a => Fin.ext ?_)
  match a with
  | ⟨0, _⟩ => show win0_6.index t 0 * 1 + 1 * 0 = t.val / 8; omega
  | ⟨1, _⟩ => show win0_6.index t 1 * 512 + 1 * r.val = R.val; omega
  | ⟨2, _⟩ => show win0_6.index t 2 * 512 + 1 * k.val = k.val; omega

theorem b7 (t : Fin cfg0.N) (R : Fin 4096) (r : Fin 16) (k : Fin 512) (h : R.val + 16 = t.val % 8 * 512 + r.val) :
    iblk m c 7 t (ix3 (0 : Fin 1) r k) = (inp m c (bat t)).OC R k := by
  have h8 : t.val % 8 < 8 := Nat.mod_lt _ (by decide)
  have hR := R.isLt
  have hr := r.isLt
  obtain ⟨e0, e1, e2⟩ : win0_7.index t 0 = t.val / 8 ∧ win0_7.index t 1 = t.val % 8 * 32 - 1 ∧ win0_7.index t 2 = 0 := by
    rw [(idxP t).2.2]; exact ⟨rfl, rfl, rfl⟩
  refine (congrFun (V_main_arg2 m c) _).trans ?_
  refine congrArg (m ((c : Thread nD τ).loc main_arg2)) (funext fun a => Fin.ext ?_)
  match a with
  | ⟨0, _⟩ => show win0_7.index t 0 * 1 + 1 * 0 = t.val / 8; omega
  | ⟨1, _⟩ => show win0_7.index t 1 * 16 + 1 * r.val = R.val; omega
  | ⟨2, _⟩ => show win0_7.index t 2 * 512 + 1 * k.val = k.val; omega

theorem b8 (t : Fin cfg0.N) (R : Fin 4096) (r : Fin 16) (k : Fin 512) (h : R.val = t.val % 8 * 512 + 512 + r.val) :
    iblk m c 8 t (ix3 (0 : Fin 1) r k) = (inp m c (bat t)).OC R k := by
  have h8 : t.val % 8 < 8 := Nat.mod_lt _ (by decide)
  have hR := R.isLt
  have hr := r.isLt
  obtain ⟨e0, e1, e2⟩ : win0_8.index t 0 = t.val / 8 ∧ win0_8.index t 1 = min (t.val % 8 * 32 + 32) 255 ∧ win0_8.index t 2 = 0 := by
    rw [(idxN t).2.2]; exact ⟨rfl, rfl, rfl⟩
  refine (congrFun (V_main_arg2 m c) _).trans ?_
  refine congrArg (m ((c : Thread nD τ).loc main_arg2)) (funext fun a => Fin.ext ?_)
  match a with
  | ⟨0, _⟩ => show win0_8.index t 0 * 1 + 1 * 0 = t.val / 8; omega
  | ⟨1, _⟩ => show win0_8.index t 1 * 16 + 1 * r.val = R.val; omega
  | ⟨2, _⟩ => show win0_8.index t 2 * 512 + 1 * k.val = k.val; omega

theorem b9 (t : Fin cfg0.N) (R : Fin 4096) (r : Fin 512) (k : Fin 256) (h : R.val = t.val % 8 * 512 + r.val) :
    iblk m c 9 t (ix3 (0 : Fin 1) r k) = (inp m c (bat t)).P R k := by
  have h8 : t.val % 8 < 8 := Nat.mod_lt _ (by decide)
  have hR := R.isLt
  have hr := r.isLt
  obtain ⟨e0, e1, e2⟩ : win0_9.index t 0 = t.val / 8 ∧ win0_9.index t 1 = t.val % 8 ∧ win0_9.index t 2 = 0 := by
    rw [(idxM t).2.2.2.1]; exact ⟨rfl, rfl, rfl⟩
  refine (congrFun (V_main_arg3 m c) _).trans ?_
  refine congrArg (m ((c : Thread nD τ).loc main_arg3)) (funext fun a => Fin.ext ?_)
  match a with
  | ⟨0, _⟩ => show win0_9.index t 0 * 1 + 1 * 0 = t.val / 8; omega
  | ⟨1, _⟩ => show win0_9.index t 1 * 512 + 1 * r.val = R.val; omega
  | ⟨2, _⟩ => show win0_9.index t 2 * 256 + 1 * k.val = k.val; omega

theorem b10 (t : Fin cfg0.N) (b : Fin 4) (k : Fin 1024) (e : Fin 1024) : iblk m c 10 t (ix2 k e) = (inp m c b).WO k e := by
  have e0 : win0_10.index t 0 = 0 := by rw [(idxW t).1]; rfl
  have e1 : win0_10.index t 1 = 0 := by rw [(idxW t).1]; rfl
  refine Eq.trans (congrArg (V m c main_v0) (funext fun a => Fin.ext ?_) : _ = V m c main_v0 (ix2 k e)) ((congrFun (V_v0 m c) _).trans rfl)
  match a with
  | ⟨0, _⟩ => show win0_10.index t 0 * 1024 + 1 * k.val = k.val; omega
  | ⟨1, _⟩ => show win0_10.index t 1 * 1024 + 1 * e.val = e.val; omega

theorem b15 (t : Fin cfg0.N) (b : Fin 4) (k : Fin 1024) (e : Fin 1024) : iblk m c 15 t (ix2 k e) = (inp m c b).WG k e := by
  have e0 : win0_15.index t 0 = 0 := by rw [(idxW t).2.2.2.2.2.1]; rfl
  have e1 : win0_15.index t 1 = 0 := by rw [(idxW t).2.2.2.2.2.1]; rfl
  refine Eq.trans (congrArg (V m c main_v9) (funext fun a => Fin.ext ?_) : _ = V m c main_v9 (ix2 k e)) ((congrFun (V_v9 m c) _).trans rfl)
  match a with
  | ⟨0, _⟩ => show win0_15.index t 0 * 1024 + 1 * k.val = k.val; omega
  | ⟨1, _⟩ => show win0_15.index t 1 * 1024 + 1 * e.val = e.val; omega

theorem b16 (t : Fin cfg0.N) (b : Fin 4) (k : Fin 256) (e : Fin 1024) : iblk m c 16 t (ix2 k e) = (inp m c b).WP k e := by
  have e0 : win0_16.index t 0 = 0 := by rw [(idxW t).2.2.2.2.2.2]; rfl
  have e1 : win0_16.index t 1 = 0 := by rw [(idxW t).2.2.2.2.2.2]; rfl
  refine Eq.trans (congrArg (V m c main_v10) (funext fun a => Fin.ext ?_) : _ = V m c main_v10 (ix2 k e)) ((congrFun (V_v10 m c) _).trans rfl)
  match a with
  | ⟨0, _⟩ => show win0_16.index t 0 * 256 + 1 * k.val = k.val; omega
  | ⟨1, _⟩ => show win0_16.index t 1 * 1024 + 1 * e.val = e.val; omega

theorem b11 (t : Fin cfg0.N) (b : Fin 4) (e : Fin 1024) : iblk m c 11 t (ix2 (0 : Fin 1) e) = (inp m c b).G e := by
  have e0 : win0_11.index t 0 = 0 := by rw [(idxW t).2.1]; rfl
  have e1 : win0_11.index t 1 = 0 := by rw [(idxW t).2.1]; rfl
  refine Eq.trans (congrArg (V m c main_v1) (funext fun a => Fin.ext ?_) : _ = V m c main_v1 (ix2 (0 : Fin 1) e)) ((congrFun (V_v1 m c) _).trans ?_)
  · match a with
    | ⟨0, _⟩ => show win0_11.index t 0 * 1 + 1 * 0 = 0; omega
    | ⟨1, _⟩ => show win0_11.index t 1 * 1024 + 1 * e.val = e.val; omega
  · refine broadcastInDim_apply _ _ _ _ (ix1 e) ?_
    intro a
    match a with
    | ⟨0, _⟩ => rfl

theorem b12 (t : Fin cfg0.N) (b : Fin 4) (s : Fin 2) (z : Fin 11) (k : Fin 1024) (j : Fin 256) : iblk m c 12 t (ix4 s z k j) = (inp m c b).WU k (ucl s z j) := by
  have e0 : win0_12.index t 0 = 0 := by rw [(idxW t).2.2.1]; rfl
  have e1 : win0_12.index t 1 = 0 := by rw [(idxW t).2.2.1]; rfl
  have e2 : win0_12.index t 2 = 0 := by rw [(idxW t).2.2.1]; rfl
  have e3 : win0_12.index t 3 = 0 := by rw [(idxW t).2.2.1]; rfl
  refine Eq.trans (congrArg (V m c main_v4) (funext fun a => Fin.ext ?_) : _ = V m c main_v4 (ix4 s z k j)) ((congrFun (V_v4 m c) _).trans ?_)
  · match a with
    | ⟨0, _⟩ => show win0_12.index t 0 * 2 + 1 * s.val = s.val; omega
    | ⟨1, _⟩ => show win0_12.index t 1 * 11 + 1 * z.val = z.val; omega
    | ⟨2, _⟩ => show win0_12.index t 2 * 1024 + 1 * k.val = k.val; omega
    | ⟨3, _⟩ => show win0_12.index t 3 * 256 + 1 * j.val = j.val; omega
  · show transpose S2x11x1024x256 [1, 2, 0, 3] (shapeCast S1024x2x11x256 (m ((c : Thread nD τ).loc main_arg6)) shapeCasts_S1024x5632_S1024x2x11x256)
      transposes_S1024x2x11x256_S2x11x1024x256_1_2_0_3 (ix4 s z k j) = _
    refine (transpose_apply _ _ transposes_S1024x2x11x256_S2x11x1024x256_1_2_0_3 (ix4 s z k j) (ix4 k s z j) ?_).trans ?_
    · intro a
      match a with
      | ⟨0, _⟩ => rfl
      | ⟨1, _⟩ => rfl
      | ⟨2, _⟩ => rfl
      | ⟨3, _⟩ => rfl
    · refine shapeCast_apply _ _ _ (ix2 k (ucl s z j)) ?_
      rw [Shape.rowMajor_val_two, Shape.rowMajor_val_four]
      show k.val * 5632 + (s.val * 2816 + z.val * 256 + j.val) = ((k.val * 2 + s.val) * 11 + z.val) * 256 + j.val
      omega

theorem b13 (t : Fin cfg0.N) (b : Fin 4) (s : Fin 2) (z : Fin 11) (k : Fin 3) (j : Fin 256) : iblk m c 13 t (ix4 s z k j) = (inp m c b).CW k (ucl s z j) := by
  have e0 : win0_13.index t 0 = 0 := by rw [(idxW t).2.2.2.1]; rfl
  have e1 : win0_13.index t 1 = 0 := by rw [(idxW t).2.2.2.1]; rfl
  have e2 : win0_13.index t 2 = 0 := by rw [(idxW t).2.2.2.1]; rfl
  have e3 : win0_13.index t 3 = 0 := by rw [(idxW t).2.2.2.1]; rfl
  refine Eq.trans (congrArg (V m c main_v6) (funext fun a => Fin.ext ?_) : _ = V m c main_v6 (ix4 s z k j)) ((congrFun (V_v6 m c) _).trans ?_)
  · match a with
    | ⟨0, _⟩ => show win0_13.index t 0 * 2 + 1 * s.val = s.val; omega
    | ⟨1, _⟩ => show win0_13.index t 1 * 11 + 1 * z.val = z.val; omega
    | ⟨2, _⟩ => show win0_13.index t 2 * 3 + 1 * k.val = k.val; omega
    | ⟨3, _⟩ => show win0_13.index t 3 * 256 + 1 * j.val = j.val; omega
  · refine (transpose_apply _ _ transposes_S3x2x11x256_S2x11x3x256_1_2_0_3 (ix4 s z k j) (ix4 k s z j) ?_).trans ?_
    · intro a
      match a with
      | ⟨0, _⟩ => rfl
      | ⟨1, _⟩ => rfl
      | ⟨2, _⟩ => rfl
      | ⟨3, _⟩ => rfl
    · refine shapeCast_apply _ _ _ (ix2 k (ucl s z j)) ?_
      rw [Shape.rowMajor_val_two, Shape.rowMajor_val_four]
      show k.val * 5632 + (s.val * 2816 + z.val * 256 + j.val) = ((k.val * 2 + s.val) * 11 + z.val) * 256 + j.val
      omega

theorem b14 (t : Fin cfg0.N) (b : Fin 4) (z : Fin 11) (k : Fin 256) (e : Fin 1024) : iblk m c 14 t (ix3 z k e) = (inp m c b).WD (dcl z k) e := by
  have e0 : win0_14.index t 0 = 0 := by rw [(idxW t).2.2.2.2.1]; rfl
  have e1 : win0_14.index t 1 = 0 := by rw [(idxW t).2.2.2.2.1]; rfl
  have e2 : win0_14.index t 2 = 0 := by rw [(idxW t).2.2.2.2.1]; rfl
  refine Eq.trans (congrArg (V m c main_v8) (funext fun a => Fin.ext ?_) : _ = V m c main_v8 (ix3 z k e)) ((congrFun (V_v8 m c) _).trans ?_)
  · match a with
    | ⟨0, _⟩ => show win0_14.index t 0 * 11 + 1 * z.val = z.val; omega
    | ⟨1, _⟩ => show win0_14.index t 1 * 256 + 1 * k.val = k.val; omega
    | ⟨2, _⟩ => show win0_14.index t 2 * 1024 + 1 * e.val = e.val; omega
  · refine shapeCast_apply _ _ _ (ix2 (dcl z k) e) ?_
    rw [Shape.rowMajor_val_two, Shape.rowMajor_val_three]
    show (z.val * 256 + k.val) * 1024 + e.val = (z.val * 256 + k.val) * 1024 + e.val
    rfl

/-- Every point's blocks hold the rows and weights its tile reads. -/
theorem blk_at (t : Fin cfg0.N) : Blk (inp m c (bat t)) (tile t) (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t) where
  h0 := b0 m c t
  h1 := b1 m c t
  h2 := b2 m c t
  a0 := b3 m c t
  a1 := b4 m c t
  a2 := b5 m c t
  c0 := b6 m c t
  c1 := b7 m c t
  c2 := b8 m c t
  p0 := b9 m c t
  wo := b10 m c t _
  g := b11 m c t _
  wu := b12 m c t _
  cw := b13 m c t _
  wd := b14 m c t _
  wg := b15 m c t _
  wp := b16 m c t _

/-- The result array: the layer's second half of every batch. -/
def res : Buf (Elt Ideal) ((c : Thread nD τ).loc main_v11) := (fun i : (⟨3, ![4, 4096, 1024]⟩ : Shape).Idx => PSpec.out (inp m c (i 0)) (i 1) (i 2) : (⟨3, ![4, 4096, 1024]⟩ : Shape).Idx → EReal)

/-- What a point writes back is its block of the result. -/
theorem flushed_eq (t : Fin cfg0.N) : (dats m 0 c).flushed 17 t = ((cfg0.win 17).blk t).view.read (Elt Ideal) (res m c) := by
  show (cfg0.win 17).cut (grid0.coords t) ((dats m 0 c).after 17 t) = _
  rw [after0_17]
  have e0 : win0_17.index t 0 = t.val / 8 := by rw [(idxM t).2.2.2.2]; rfl
  have e1 : win0_17.index t 1 = t.val % 8 := by rw [(idxM t).2.2.2.2]; rfl
  have e2 : win0_17.index t 2 = 0 := by rw [(idxM t).2.2.2.2]; rfl
  have h8 : t.val % 8 < 8 := Nat.mod_lt _ (by decide)
  funext y
  have hy0 : (y 0).val < 1 := (y 0).isLt
  have hy1 : (y 1).val < 512 := (y 1).isLt
  have hy2 : (y 2).val < 1024 := (y 2).isLt
  have hx : (cfg0.win 17).xinj (grid0.coords t) y = ix3 (0 : Fin 1) (⟨(y 1).val, hy1⟩ : Fin 512) (⟨(y 2).val, hy2⟩ : Fin 1024) := by
    funext a; apply Fin.ext
    match a with
    | ⟨0, _⟩ => show (y 0).val = 0; omega
    | ⟨1, _⟩ => rfl
    | ⟨2, _⟩ => rfl
  have hb0 : (((cfg0.win 17).blk t).view.emb y 0).val = win0_17.index t 0 * 1 + 1 * (y 0).val := rfl
  have hb1 : (((cfg0.win 17).blk t).view.emb y 1).val = win0_17.index t 1 * 512 + 1 * (y 1).val := rfl
  have hb2 : (((cfg0.win 17).blk t).view.emb y 2).val = win0_17.index t 2 * 1024 + 1 * (y 2).val := rfl
  show outAt m c t ((cfg0.win 17).xinj (grid0.coords t) y) = res m c (((cfg0.win 17).blk t).view.emb y)
  rw [hx]
  have hR : t.val % 8 * 512 + (y 1).val < 4096 := by omega
  refine (outv_at (blk_at m c t) ⟨(y 1).val, hy1⟩ ⟨t.val % 8 * 512 + (y 1).val, hR⟩ rfl (grid0.coords t) (co_tile t) ⟨(y 2).val, hy2⟩).trans ?_
  have i0 : (((cfg0.win 17).blk t).view.emb y 0) = bat t := Fin.ext (by show _ = t.val / 8; rw [hb0]; omega)
  have i1 : (((cfg0.win 17).blk t).view.emb y 1) = (⟨t.val % 8 * 512 + (y 1).val, hR⟩ : Fin 4096) := Fin.ext (by show _ = t.val % 8 * 512 + (y 1).val; rw [hb1]; omega)
  have i2 : (((cfg0.win 17).blk t).view.emb y 2) = (⟨(y 2).val, hy2⟩ : Fin 1024) := Fin.ext (by show _ = (y 2).val; rw [hb2]; omega)
  show _ = PSpec.out (inp m c (((cfg0.win 17).blk t).view.emb y 0)) (((cfg0.win 17).blk t).view.emb y 1) (((cfg0.win 17).blk t).view.emb y 2)
  rw [i0, i1, i2]

theorem mem_blk (t : Fin cfg0.N) (i : S4x4096x1024.Idx) :
    i ∈ ((cfg0.win 17).blk t).view.set ↔ ∀ a : Fin 3, win0_17.index t a * S1x512x1024.size a ≤ (i a).val ∧ (i a).val < win0_17.index t a * S1x512x1024.size a + S1x512x1024.size a := by
  show i ∈ ((View.whole main_v11).slice (win0_17.rect t)).set ↔ _
  rw [View.set_slice_whole, Rect.mem_set_unit]
  exact Iff.rfl

/-- Every entry lies in some point's block. -/
theorem covered (i : S4x4096x1024.Idx) : ∃ t : Fin cfg0.N, (cfg0.win 17).flush t = true ∧ i ∈ ((cfg0.win 17).blk t).view.set := by
  have h0 : (i 0).val < 4 := (i 0).isLt
  have h1 : (i 1).val < 4096 := (i 1).isLt
  have h2 : (i 2).val < 1024 := (i 2).isLt
  refine ⟨⟨(i 0).val * 8 + (i 1).val / 512, lt_of_lt_of_eq (by omega) N_0.symm⟩, flush0_17 _, ?_⟩
  generalize ht : (⟨(i 0).val * 8 + (i 1).val / 512, _⟩ : Fin cfg0.N) = t
  have hv : t.val = (i 0).val * 8 + (i 1).val / 512 := by rw [← ht]
  rw [mem_blk]
  have e0 : win0_17.index t 0 = t.val / 8 := by rw [(idxM t).2.2.2.2]; rfl
  have e1 : win0_17.index t 1 = t.val % 8 := by rw [(idxM t).2.2.2.2]; rfl
  have e2 : win0_17.index t 2 = 0 := by rw [(idxM t).2.2.2.2]; rfl
  intro a
  match a with
  | ⟨0, _⟩ => show win0_17.index t 0 * 1 ≤ (i 0).val ∧ (i 0).val < win0_17.index t 0 * 1 + 1; omega
  | ⟨1, _⟩ => show win0_17.index t 1 * 512 ≤ (i 1).val ∧ (i 1).val < win0_17.index t 1 * 512 + 512; omega
  | ⟨2, _⟩ => show win0_17.index t 2 * 1024 ≤ (i 2).val ∧ (i 2).val < win0_17.index t 2 * 1024 + 1024; omega

/-- THE ARRAY after the run. -/
theorem final : (dats m 0 c).arrAt 17 cfg0.N = res m c :=
  (dats m 0 c).arrAt_eq_of_cover 17 _ (fun t _ => flushed_eq m c t) (fun i => covered i)

/-- The run: the result array named, the arguments as launched, the counters at zero. -/
theorem run_res (ρ : Dev nD → PrngReg) : θ_run defs (onTc (τ := τ) (main (F := Ideal))) ⟨m, fun _ => 0, ρ⟩ (fun r => ∀ c : Dev nD, r.2.mem ((c : Thread nD τ).loc main_v11) = res m c) :=
  (θ_run defs _ _).mono (fun _ h c => ((h c).1 17).trans (final m c)) (run_main m ρ)

end Cert.Kernel2Ideal.Post

end
-- ==== Proof.PostRefAt.lean ====
module

public import proofs.«01_k».proof.Proof.Ref2
public import proofs.«01_k».proof.Proof.PostSpec
public import Idealize.ShloMosaic.Lib.KernelVsHost

/-! The second reference's result, entry by entry, over the extended reals. -/

@[expose] public section

set_option maxRecDepth 16384

noncomputable section

namespace Cert.Reference2Ideal.Post

open Cert.Reference2Ideal Cert.Reference2Ideal.Gen Cert.Reference2Ideal.Read Idealize.ShloMosaic.TcCoe
open Idealize.ShloMosaic hiding ix1 ix2 ix3
open ValueIdx (ix1 ix2 ix3)

variable (x0 : (⟨S4x4096x1024, .f32⟩ : BufTy).Contents (Elt Ideal)) (x1 x2 : (⟨S4x4096x512, .bf16⟩ : BufTy).Contents (Elt Ideal))
  (x3 : (⟨S4x4096x256, .f32⟩ : BufTy).Contents (Elt Ideal)) (x4 : (⟨S1024x1024, .f32⟩ : BufTy).Contents (Elt Ideal)) (x5 : (⟨S1024, .f32⟩ : BufTy).Contents (Elt Ideal))
  (x6 : (⟨S1024x5632, .f32⟩ : BufTy).Contents (Elt Ideal)) (x7 : (⟨S3x5632, .f32⟩ : BufTy).Contents (Elt Ideal)) (x8 : (⟨S2816x1024, .f32⟩ : BufTy).Contents (Elt Ideal))
  (x9 : (⟨S1024x1024, .f32⟩ : BufTy).Contents (Elt Ideal)) (x10 : (⟨S256x1024, .f32⟩ : BufTy).Contents (Elt Ideal))

/-- The arguments' entries in batch `b`. -/
def inp (b : Fin 4) : PSpec.In where
  H R k := x0 (ix3 b R k)
  OA R k := x1 (ix3 b R k)
  OC R k := x2 (ix3 b R k)
  P R k := x3 (ix3 b R k)
  WO k e := x4 (ix2 k e)
  G e := x5 (ix1 e)
  WU k j := x6 (ix2 k j)
  CW t j := x7 (ix2 t j)
  WD k e := x8 (ix2 k e)
  WG k e := x9 (ix2 k e)
  WP k e := x10 (ix2 k e)

/-- One over one plus an exponential is the logistic function. -/
theorem sig_eq (x : EReal) : Ideal.div (Ideal.ofBits .f32 0x3F800000#32) (Ideal.ofBits .f32 0x3F800000#32 + Ideal.exp (-x)) = Ideal.logistic x := by
  rw [Ideal.ofBits_one_f32]; rfl

theorem pad_zero : val_main_call0_v0 (F := Ideal) (Shape.Idx.first h_S_) = 0 := by
  rw [val_main_call0_v0_apply, val_main_c_apply]
  show ((((0#32 : BitVec 32).toInt : ℤ) : ℝ) : EReal) = 0
  norm_num

theorem side_at (b : Fin 4) (R : Fin 4096) (k : Fin 1024) :
    val_main_v2 (F := Ideal) x1 x2 (ix3 b R k) = PSpec.side (fun k => x1 (ix3 b R k)) (fun k => x2 (ix3 b R k)) k := by
  unfold val_main_v2 PSpec.side
  by_cases h : k.val < 512
  · rw [dif_pos h]
    refine (concatenate_pair_apply_left (t := S4x4096x1024) 2 _ _ concatenates_S4x4096x512_S4x4096x512_S4x4096x1024_d2 (ix3 b R k) rfl (ix3 b R (⟨k.val, h⟩ : Fin 512)) ?_).trans rfl
    intro a
    match a with
    | ⟨0, _⟩ => rfl
    | ⟨1, _⟩ => rfl
    | ⟨2, _⟩ => rfl
  · rw [dif_neg h]
    refine (concatenate_pair_apply_right (t := S4x4096x1024) 2 _ _ concatenates_S4x4096x512_S4x4096x512_S4x4096x1024_d2 (ix3 b R k) rfl rfl (ix3 b R (⟨k.val - 512, by omega⟩ : Fin 512)) ?_ ?_).trans rfl
    · intro a ha
      match a with
      | ⟨0, _⟩ => rfl
      | ⟨1, _⟩ => rfl
      | ⟨2, _⟩ => exact absurd rfl ha
    · show k.val - 512 + 512 = k.val
      omega

section Rows
variable (b : Fin 4) (R : Fin 4096)

theorem mix_at (e : Fin 1024) : val_main_v4 (F := Ideal) x0 x1 x2 x4 (ix3 b R e) = PSpec.mix (inp x0 x1 x2 x3 x4 x5 x6 x7 x8 x9 x10 b) R e := by
  rw [val_main_v4_apply, val_main_v3_apply]
  refine congrArg (x0 (ix3 b R e) + ·) (Finset.sum_congr rfl fun k _ => congrArg₂ (· * ·) ?_ (congrArg x4 (funext fun a => ?_)))
  · refine (congrArg (val_main_v2 (F := Ideal) x1 x2) (funext fun a => ?_)).trans (side_at x1 x2 b R k)
    match a with
    | ⟨0, _⟩ => rfl
    | ⟨1, _⟩ => rfl
    | ⟨2, _⟩ => rfl
  · match a with
    | ⟨0, _⟩ => rfl
    | ⟨1, _⟩ => rfl

theorem norm_at (e : Fin 1024) : val_main_v17 (F := Ideal) x0 x1 x2 x4 x5 (ix3 b R e) = PSpec.norm (inp x0 x1 x2 x3 x4 x5 x6 x7 x8 x9 x10 b) R e := by
  have e4 := mix_at x0 x1 x2 x3 x4 x5 x6 x7 x8 x9 x10 b R
  rw [val_main_v17_apply, val_main_v16_apply, val_main_v15_apply, val_main_v14_apply, val_main_v13_apply, val_main_v12_apply, val_main_v11_apply, val_main_v10_apply, val_main_cst_1_apply,
    val_main_v9_apply, val_main_v8_apply, val_main_cst_0_apply, val_main_v7_apply, val_main_v6_apply, e4]
  refine congrArg₂ (· * ·) (congrArg (PSpec.mix (inp x0 x1 x2 x3 x4 x5 x6 x7 x8 x9 x10 b) R e * ·) (congrArg Ideal.rsqrt ?_)) (congrArg x5 (funext fun a => ?_))
  · refine congrArg (fun z => Ideal.div z (Ideal.ofBits .f32 0x44800000#32) + Ideal.ofBits .f32 0x358637BD#32) ?_
    have hz : val_main_cst (F := Ideal) (Shape.Idx.first h_S_) = 0 := (val_main_cst_apply _).trans Ideal.ofBits_zero_f32
    rw [hz, zero_add]
    refine Finset.sum_congr rfl fun z _ => ?_
    rw [val_main_v5_apply]
    refine (congrArg (fun y => y * y) ((congrArg (val_main_v4 (F := Ideal) x0 x1 x2 x4) (funext fun a => ?_)).trans (e4 z)))
    match a with
    | ⟨0, _⟩ => rfl
    | ⟨1, _⟩ => rfl
    | ⟨2, _⟩ => rfl
  · match a with
    | ⟨0, _⟩ => rfl

theorem proj_at (j : Fin 5632) : val_main_v18 (F := Ideal) x0 x1 x2 x4 x5 x6 (ix3 b R j) = PSpec.proj (inp x0 x1 x2 x3 x4 x5 x6 x7 x8 x9 x10 b) j R := by
  rw [val_main_v18_apply]
  refine Finset.sum_congr rfl fun k _ => congrArg₂ (· * ·) ?_ (congrArg x6 (funext fun a => ?_))
  · refine (congrArg (val_main_v17 (F := Ideal) x0 x1 x2 x4 x5) (funext fun a => ?_)).trans (norm_at x0 x1 x2 x3 x4 x5 x6 x7 x8 x9 x10 b R k)
    match a with
    | ⟨0, _⟩ => rfl
    | ⟨1, _⟩ => rfl
    | ⟨2, _⟩ => rfl
  · match a with
    | ⟨0, _⟩ => rfl
    | ⟨1, _⟩ => rfl

omit R in
/-- The padded rows: numbered from one, a zero row at each end. -/
theorem pad_at (n : Fin 4098) (j : Fin 5632) : val_main_v19 (F := Ideal) x0 x1 x2 x4 x5 x6 (ix3 b n j) = PSpec.row (PSpec.proj (inp x0 x1 x2 x3 x4 x5 x6 x7 x8 x9 x10 b) j) n.val := by
  have hn := n.isLt
  unfold val_main_v19
  by_cases h : 1 ≤ n.val ∧ n.val ≤ 4096
  · refine (pad_apply_of_inside _ _ _ _ _ pads_S4x4096x5632_S4x4098x5632_000_110_000 h_S_ (ix3 b n j) (ix3 b (⟨n.val - 1, by omega⟩ : Fin 4096) j) ?_).trans ?_
    · intro a
      match a with
      | ⟨0, _⟩ => show b.val = 0 + b.val * (0 + 1); omega
      | ⟨1, _⟩ => show n.val = 1 + (n.val - 1) * (0 + 1); omega
      | ⟨2, _⟩ => show j.val = 0 + j.val * (0 + 1); omega
    · refine (proj_at x0 x1 x2 x3 x4 x5 x6 x7 x8 x9 x10 b _ j).trans ?_
      exact (PSpec.row_pos _ _ ⟨n.val - 1, by omega⟩ (by show n.val = n.val - 1 + 1; omega)).symm
  · refine (pad_apply_of_not_inside _ _ _ _ _ pads_S4x4096x5632_S4x4098x5632_000_110_000 h_S_ (ix3 b n j) (1 : Fin 3) ?_).trans ?_
    · show ¬(1 ≤ n.val ∧ (n.val - 1) % (0 + 1) = 0 ∧ (n.val - 1) / (0 + 1) < 4096)
      intro hh
      have := hh.2.2
      rw [Nat.zero_add, Nat.div_one] at this
      omega
    · rw [PSpec.row_neg _ _ h]
      exact pad_zero

theorem conv_at (j : Fin 5632) : val_main_v39 (F := Ideal) x0 x1 x2 x4 x5 x6 x7 (ix3 b R j) = PSpec.conv (inp x0 x1 x2 x3 x4 x5 x6 x7 x8 x9 x10 b) R j := by
  have hR := R.isLt
  have hp := pad_at x0 x1 x2 x3 x4 x5 x6 x7 x8 x9 x10 b
  have h0 : ∀ i, i = ix3 b (⟨R.val, by omega⟩ : Fin 4098) j → val_main_v19 (F := Ideal) x0 x1 x2 x4 x5 x6 i = PSpec.row (PSpec.proj (inp x0 x1 x2 x3 x4 x5 x6 x7 x8 x9 x10 b) j) R.val := fun i h => by rw [h]; exact hp _ j
  have h1 : ∀ i, i = ix3 b (⟨R.val + 1, by omega⟩ : Fin 4098) j → val_main_v19 (F := Ideal) x0 x1 x2 x4 x5 x6 i = PSpec.row (PSpec.proj (inp x0 x1 x2 x3 x4 x5 x6 x7 x8 x9 x10 b) j) (R.val + 1) := fun i h => by rw [h]; exact hp _ j
  have h2 : ∀ i, i = ix3 b (⟨R.val + 2, by omega⟩ : Fin 4098) j → val_main_v19 (F := Ideal) x0 x1 x2 x4 x5 x6 i = PSpec.row (PSpec.proj (inp x0 x1 x2 x3 x4 x5 x6 x7 x8 x9 x10 b) j) (R.val + 2) := fun i h => by rw [h]; exact hp _ j
  rw [val_main_v39_apply, val_main_v38_apply, val_main_v37_apply, val_main_v36_apply, val_main_v35_apply, val_main_v34_apply, val_main_v33_apply, val_main_v32_apply, val_main_v31_apply,
    val_main_v30_apply, val_main_v29_apply, val_main_v28_apply, val_main_v27_apply, val_main_v26_apply, val_main_v25_apply, val_main_v24_apply, val_main_v23_apply, val_main_v22_apply,
    val_main_v21_apply, val_main_v20_apply]
  refine congrArg₂ (· + ·) (congrArg₂ (· + ·) (congrArg₂ (· * ·) (h0 _ (funext fun a => Fin.ext ?_)) (congrArg x7 (funext fun a => Fin.ext ?_)))
    (congrArg₂ (· * ·) (h1 _ (funext fun a => Fin.ext ?_)) (congrArg x7 (funext fun a => Fin.ext ?_)))) (congrArg₂ (· * ·) (h2 _ (funext fun a => Fin.ext ?_)) (congrArg x7 (funext fun a => Fin.ext ?_)))
  all_goals
    first
      | (match a with
          | ⟨0, _⟩ => rfl
          | ⟨1, _⟩ => rfl
          | ⟨2, _⟩ => rfl)
      | (match a with
          | ⟨0, _⟩ => rfl
          | ⟨1, _⟩ => exact Nat.add_comm _ _
          | ⟨2, _⟩ => rfl)
      | (match a with
          | ⟨0, _⟩ => rfl
          | ⟨1, _⟩ => rfl)
      | (match a with
          | ⟨0, _⟩ => rfl
          | ⟨1, _⟩ => exact Nat.mod_eq_of_lt j.isLt)

theorem act_at (k : Fin 2816) : val_main_v43 (F := Ideal) x0 x1 x2 x4 x5 x6 x7 (ix3 b R k) = PSpec.act (inp x0 x1 x2 x3 x4 x5 x6 x7 x8 x9 x10 b) R k := by
  have hg : val_main_v40 (F := Ideal) x0 x1 x2 x4 x5 x6 x7 (ix3 b R k) = PSpec.conv (inp x0 x1 x2 x3 x4 x5 x6 x7 x8 x9 x10 b) R (PSpec.gcol k) := by
    rw [val_main_v40_apply]
    refine (congrArg (val_main_v39 (F := Ideal) x0 x1 x2 x4 x5 x6 x7) (funext fun a => ?_)).trans (conv_at x0 x1 x2 x3 x4 x5 x6 x7 x8 x9 x10 b R (PSpec.gcol k))
    match a with
    | ⟨0, _⟩ => rfl
    | ⟨1, _⟩ => rfl
    | ⟨2, _⟩ => rfl
  have hu : val_main_v41 (F := Ideal) x0 x1 x2 x4 x5 x6 x7 (ix3 b R k) = PSpec.conv (inp x0 x1 x2 x3 x4 x5 x6 x7 x8 x9 x10 b) R (PSpec.ucol k) := by
    rw [val_main_v41_apply]
    refine (congrArg (val_main_v39 (F := Ideal) x0 x1 x2 x4 x5 x6 x7) (funext fun a => ?_)).trans (conv_at x0 x1 x2 x3 x4 x5 x6 x7 x8 x9 x10 b R (PSpec.ucol k))
    match a with
    | ⟨0, _⟩ => rfl
    | ⟨1, _⟩ => rfl
    | ⟨2, _⟩ => rfl
  rw [val_main_v43_apply, val_main_v42_apply, val_main_call1_v5_apply, val_main_call1_v4_apply, val_main_call1_cst_0_apply, val_main_call1_v3_apply, val_main_call1_v2_apply,
    val_main_call1_cst_apply, val_main_call1_v1_apply, val_main_call1_v0_apply, hg, hu]
  exact congrArg (fun y : EReal => PSpec.conv (inp x0 x1 x2 x3 x4 x5 x6 x7 x8 x9 x10 b) R (PSpec.gcol k) * y * PSpec.conv (inp x0 x1 x2 x3 x4 x5 x6 x7 x8 x9 x10 b) R (PSpec.ucol k)) (sig_eq _)

theorem mid_at (e : Fin 1024) : val_main_v45 (F := Ideal) x0 x1 x2 x4 x5 x6 x7 x8 (ix3 b R e) = PSpec.mid (inp x0 x1 x2 x3 x4 x5 x6 x7 x8 x9 x10 b) R e := by
  rw [val_main_v45_apply, val_main_v44_apply]
  refine congrArg₂ (· + ·) (mix_at x0 x1 x2 x3 x4 x5 x6 x7 x8 x9 x10 b R e) (Finset.sum_congr rfl fun k _ => congrArg₂ (· * ·) ?_ (congrArg x8 (funext fun a => ?_)))
  · refine (congrArg (val_main_v43 (F := Ideal) x0 x1 x2 x4 x5 x6 x7) (funext fun a => ?_)).trans (act_at x0 x1 x2 x3 x4 x5 x6 x7 x8 x9 x10 b R k)
    match a with
    | ⟨0, _⟩ => rfl
    | ⟨1, _⟩ => rfl
    | ⟨2, _⟩ => rfl
  · match a with
    | ⟨0, _⟩ => rfl
    | ⟨1, _⟩ => rfl

/-- THE REFERENCE'S RESULT at an entry. -/
theorem result_at (e : Fin 1024) : val_main_v55 (F := Ideal) x0 x1 x2 x3 x4 x5 x6 x7 x8 x9 x10 (ix3 b R e) = PSpec.out (inp x0 x1 x2 x3 x4 x5 x6 x7 x8 x9 x10 b) R e := by
  have em := mid_at x0 x1 x2 x3 x4 x5 x6 x7 x8 x9 x10 b R
  have hg : val_main_v46 (F := Ideal) x0 x1 x2 x4 x5 x6 x7 x8 x9 (ix3 b R e) = ∑ k : Fin 1024, PSpec.mid (inp x0 x1 x2 x3 x4 x5 x6 x7 x8 x9 x10 b) R k * (inp x0 x1 x2 x3 x4 x5 x6 x7 x8 x9 x10 b).WG k e := by
    rw [val_main_v46_apply]
    refine Finset.sum_congr rfl fun k _ => congrArg₂ (· * ·) ?_ (congrArg x9 (funext fun a => ?_))
    · refine (congrArg (val_main_v45 (F := Ideal) x0 x1 x2 x4 x5 x6 x7 x8) (funext fun a => ?_)).trans (em k)
      match a with
      | ⟨0, _⟩ => rfl
      | ⟨1, _⟩ => rfl
      | ⟨2, _⟩ => rfl
    · match a with
      | ⟨0, _⟩ => rfl
      | ⟨1, _⟩ => rfl
  have hp : val_main_v53 (F := Ideal) x3 x10 (ix3 b R e) = ∑ k : Fin 256, (inp x0 x1 x2 x3 x4 x5 x6 x7 x8 x9 x10 b).P R k * (inp x0 x1 x2 x3 x4 x5 x6 x7 x8 x9 x10 b).WP k e := by
    rw [val_main_v53_apply]
    refine Finset.sum_congr rfl fun k _ => congrArg₂ (· * ·) (congrArg x3 (funext fun a => ?_)) (congrArg x10 (funext fun a => ?_))
    · match a with
      | ⟨0, _⟩ => rfl
      | ⟨1, _⟩ => rfl
      | ⟨2, _⟩ => rfl
    · match a with
      | ⟨0, _⟩ => rfl
      | ⟨1, _⟩ => rfl
  rw [val_main_v55_apply, val_main_v54_apply, val_main_v52_apply, val_main_v51_apply, val_main_cst_3_apply, val_main_v50_apply, val_main_v49_apply, val_main_cst_2_apply, val_main_v48_apply,
    val_main_v47_apply, hg, hp, em]
  exact congrArg (fun y : EReal => PSpec.mid (inp x0 x1 x2 x3 x4 x5 x6 x7 x8 x9 x10 b) R e + y * ∑ k : Fin 256, (inp x0 x1 x2 x3 x4 x5 x6 x7 x8 x9 x10 b).P R k * (inp x0 x1 x2 x3 x4 x5 x6 x7 x8 x9 x10 b).WP k e) (sig_eq _)

end Rows

end Cert.Reference2Ideal.Post

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ref
public import proofs.«01_k».proof.Proof.RefAt
public import proofs.«01_k».proof.Proof.Points
public import proofs.«01_k».proof.Proof.Pre
public import proofs.«01_k».proof.Proof.Ref2
public import proofs.«01_k».proof.Proof.Ref3
public import proofs.«01_k».proof.Proof.Gen.Kernel3.Frame
public import proofs.«01_k».proof.Proof.MixPts
public import proofs.«01_k».proof.Proof.MixRefAt
public import proofs.«01_k».proof.Proof.PostFrame
public import proofs.«01_k».proof.Proof.PostFrameB
public import proofs.«01_k».proof.Proof.PostPts
public import proofs.«01_k».proof.Proof.PostRefAt
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre : quiescent_ReferenceIdeal_pre_finite_qk := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result term is the kernel's result array, over the kernel's arguments. -/
theorem tie (m : (ℓ : Loc Cert.KernelIdeal.nD Cert.KernelIdeal.τ Cert.KernelIdeal.sig) → Buf (Elt Ideal) ℓ) (c : Dev Cert.KernelIdeal.nD)
    (H : Spec.Real (Cert.KernelIdeal.Attn.aQ m c) (Cert.KernelIdeal.Attn.aK m c)) :
    Cert.ReferenceIdeal.Read.val_main_v35 (F := Ideal) (Cert.KernelIdeal.Attn.aQ m c) (Cert.KernelIdeal.Attn.aK m c)
      (Cert.KernelIdeal.Attn.aV m c) (Cert.KernelIdeal.Attn.aG m c) = Cert.KernelIdeal.Value.G4 m c := by
  obtain ⟨μ, hμ⟩ := Cert.ReferenceIdeal.Attn.result_at (Cert.KernelIdeal.Attn.aV m c) (Cert.KernelIdeal.Attn.aG m c) H
  funext i
  have hi : i = ValueIdx.ix3 (i 0) (i 1) (i 2) := funext fun a => match a with
    | ⟨0, _⟩ => rfl
    | ⟨1, _⟩ => rfl
    | ⟨2, _⟩ => rfl
  rw [hi]
  exact (hμ (i 0) (i 1) (i 2)).trans (Cert.KernelIdeal.Attn.result_at m c H μ (i 0) (i 1) (i 2)).symm

theorem algebraic_KernelIdeal_ReferenceIdeal : algebraic_KernelIdeal_ReferenceIdeal_pre_finite_qk := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  have H : Spec.Real (Cert.KernelIdeal.Attn.aQ m c) (Cert.KernelIdeal.Attn.aK m c) :=
    Spec.real_of (Cert.Pre_finite_qk.Attn.q_real (hpre c).1) (Cert.Pre_finite_qk.Attn.k_real (hpre c).2)
  rw [(h c).1, Cert.ReferenceIdeal.Read.val_main_v35_eq, (hagree c).1, (hagree c).2.1, (hagree c).2.2.1, (hagree c).2.2.2]
  exact tie m c H

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The second reference's result term is the second kernel's result array, over the kernel's arguments. -/
theorem tie2 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v55 (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8))
      (m ((c.tc : Thread Cert.Kernel2Ideal.nD Cert.Kernel2Ideal.τ).loc Cert.Kernel2Ideal.main_arg9))
      (m ((c.tc : Thread Cert.Kernel2Ideal.nD Cert.Kernel2Ideal.τ).loc Cert.Kernel2Ideal.main_arg10))
      = Cert.Kernel2Ideal.Post.res m c := by
  funext i
  have hi : i = ValueIdx.ix3 (i 0) (i 1) (i 2) := funext fun a => match a with
    | ⟨0, _⟩ => rfl
    | ⟨1, _⟩ => rfl
    | ⟨2, _⟩ => rfl
  refine (congrArg _ hi).trans ?_
  exact Cert.Reference2Ideal.Post.result_at _ _ _ _ _ _ _ _ _ _ _ (i 0) (i 1) (i 2)

theorem algebraic_Kernel2Ideal_Reference2Ideal : algebraic_Kernel2Ideal_Reference2Ideal := by
  intro m ρ m' ρ' hpre hagree
  refine ⟨_, (θ_run Cert.Kernel2Ideal.defs _ _).mono (fun _ h c => ⟨h.1 c, h.2.1 c⟩)
    (θ_run_and (Cert.Kernel2Ideal.Post.run_res m ρ) (Cert.Kernel2Ideal.Post.frame m ρ)), ?_⟩
  refine (θ_run Cert.Reference2Ideal.defs _ _).mono (fun _ h c => ⟨?_, (h c).2⟩) (Cert.Reference2Ideal.Value.run (F := Ideal) m' ρ')
  obtain ⟨h0, h1, h2, h3, h4, h5, h6, h7, h8, h9, h10⟩ := hagree c
  rw [(h c).1, Cert.Reference2Ideal.Read.val_main_v55_eq, h0, h1, h2, h3, h4, h5, h6, h7, h8, h9, h10]
  exact tie2 m c

theorem quiescent_Reference3Ideal : quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The third reference's queries are the third kernel's, over the kernel's arguments. -/
theorem tie3_q (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v115 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8))
      = Cert.Kernel3Ideal.Mix.res13 m c := by
  funext i
  have hi : i = ValueIdx.ix3 (i 0) (i 1) (i 2) := funext fun a => match a with
    | ⟨0, _⟩ => rfl
    | ⟨1, _⟩ => rfl
    | ⟨2, _⟩ => rfl
  refine (congrArg _ hi).trans ?_
  exact Cert.Reference3Ideal.Mix.q_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (i 0) (i 1) (i 2)

/-- The third reference's keys are the third kernel's, over the kernel's arguments. -/
theorem tie3_k (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v118 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8))
      = Cert.Kernel3Ideal.Mix.res14 m c := by
  funext i
  have hi : i = ValueIdx.ix3 (i 0) (i 1) (i 2) := funext fun a => match a with
    | ⟨0, _⟩ => rfl
    | ⟨1, _⟩ => rfl
    | ⟨2, _⟩ => rfl
  refine (congrArg _ hi).trans ?_
  exact Cert.Reference3Ideal.Mix.k_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (i 0) (i 2) (i 1)

/-- The third reference's values are the third kernel's, over the kernel's arguments. -/
theorem tie3_v (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v119 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      = Cert.Kernel3Ideal.Mix.res15 m c := by
  funext i
  have hi : i = ValueIdx.ix3 (i 0) (i 1) (i 2) := funext fun a => match a with
    | ⟨0, _⟩ => rfl
    | ⟨1, _⟩ => rfl
    | ⟨2, _⟩ => rfl
  refine (congrArg _ hi).trans ?_
  exact Cert.Reference3Ideal.Mix.v_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (i 0) (i 1) (i 2)

/-- The third reference's convolved outputs are the third kernel's, over the kernel's arguments. -/
theorem tie3_oc (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v120 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      = Cert.Kernel3Ideal.Mix.res16 m c := by
  funext i
  have hi : i = ValueIdx.ix3 (i 0) (i 1) (i 2) := funext fun a => match a with
    | ⟨0, _⟩ => rfl
    | ⟨1, _⟩ => rfl
    | ⟨2, _⟩ => rfl
  refine (congrArg _ hi).trans ?_
  exact Cert.Reference3Ideal.Mix.oc_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (i 0) (i 1) (i 2)

theorem algebraic_Kernel3Ideal_Reference3Ideal : algebraic_Kernel3Ideal_Reference3Ideal := by
  intro m ρ m' ρ' hpre hagree
  refine ⟨fun c => Cert.Kernel3Ideal.Mix.res13 m c, fun c => Cert.Kernel3Ideal.Mix.res14 m c, fun c => Cert.Kernel3Ideal.Mix.res15 m c, fun c => Cert.Kernel3Ideal.Mix.res16 m c,
    (θ_run Cert.Kernel3Ideal.defs _ _).mono (fun _ h c => ⟨(h.1 c).1, (h.1 c).2.1, (h.1 c).2.2.1, (h.1 c).2.2.2, h.2.1 c⟩)
      (θ_run_and (Cert.Kernel3Ideal.Mix.run_res m ρ) (Cert.Kernel3Ideal.Gen.frame m ρ)), ?_⟩
  refine (θ_run Cert.Reference3Ideal.defs _ _).mono (fun _ h c => ⟨?_, ?_, ?_, ?_, (h c).2.2.2.2⟩) (Cert.Reference3Ideal.Value.run (F := Ideal) m' ρ')
  · obtain ⟨h0, h1, h2, h3, h4, h5, h6, h7, h8⟩ := hagree c
    refine ((h c).1.trans (Cert.Reference3Ideal.Read.val_main_v115_eq m' c)).trans ?_
    rw [h0, h1, h2, h3, h7, h8]
    exact tie3_q m c
  · obtain ⟨h0, h1, h2, h3, h4, h5, h6, h7, h8⟩ := hagree c
    refine ((h c).2.1.trans (Cert.Reference3Ideal.Read.val_main_v118_eq m' c)).trans ?_
    rw [h0, h1, h2, h4, h7, h8]
    exact tie3_k m c
  · obtain ⟨h0, h1, h2, h3, h4, h5, h6, h7, h8⟩ := hagree c
    refine ((h c).2.2.1.trans (Cert.Reference3Ideal.Read.val_main_v119_eq _ _ _)).trans ?_
    rw [h0, h1, h2]
    exact tie3_v m c
  · obtain ⟨h0, h1, h2, h3, h4, h5, h6, h7, h8⟩ := hagree c
    refine ((h c).2.2.2.1.trans (Cert.Reference3Ideal.Read.val_main_v120_eq m' c)).trans ?_
    rw [h0, h1, h2, h5, h6]
    exact tie3_oc m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_qk.Attn.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre,
  fun m ρ _ => Cert.Kernel2.Post.frame m ρ, fun m ρ _ => Cert.Kernel2Ideal.Post.frame m ρ, quiescent_Reference2Ideal,
  fun m ρ _ => Cert.Kernel3.Gen.frame m ρ, fun m ρ _ => Cert.Kernel3Ideal.Gen.frame m ρ, quiescent_Reference3Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal⟩

end Cert.Proof

end
